-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_step [hPre_finite_step : Cert.Pre_finite_step.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).1 = (fun _ => 1#1)
    ∧ (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.1 = (fun _ => 1#1)
    ∧ (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.1 = (fun _ => 1#1)
    ∧ (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.1 = (fun _ => 1#1)
    ∧ (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.1 = (fun _ => 1#1)
    ∧ (Cert.Pre_finite_step.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_step [hPre_finite_step : Cert.Pre_finite_step.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).1 = (fun _ => 1#1)
    ∧ (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.1 = (fun _ => 1#1)
    ∧ (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.1 = (fun _ => 1#1)
    ∧ (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.1 = (fun _ => 1#1)
    ∧ (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.1 = (fun _ => 1#1)
    ∧ (Cert.Pre_finite_step.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_prompt [hPre_finite_prompt : Cert.Pre_finite_prompt.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_prompt.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).1 = (fun _ => 1#1)
    ∧ (Cert.Pre_finite_prompt.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.1 = (fun _ => 1#1)
    ∧ (Cert.Pre_finite_prompt.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_prompt [hPre_finite_prompt : Cert.Pre_finite_prompt.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_prompt.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).1 = (fun _ => 1#1)
    ∧ (Cert.Pre_finite_prompt.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.1 = (fun _ => 1#1)
    ∧ (Cert.Pre_finite_prompt.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite_step [hKernel7Ideal : Cert.Kernel7Ideal.Facts] [hPre_finite_step : Cert.Pre_finite_step.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_step m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite_step [hReference7Ideal : Cert.Reference7Ideal.Facts] [hPre_finite_step : Cert.Pre_finite_step.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_step m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_prompt [hKernel8Ideal : Cert.Kernel8Ideal.Facts] [hPre_finite_prompt : Cert.Pre_finite_prompt.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_prompt m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_prompt [hReference8Ideal : Cert.Reference8Ideal.Facts] [hPre_finite_prompt : Cert.Pre_finite_prompt.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_prompt m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_3)) (v4 : (c : Dev Cert.Kernel4Ideal.nD) → Buf (Elt Ideal) ((c.tc : Thread Cert.Kernel4Ideal.nD Cert.Kernel4Ideal.τ).loc Cert.Kernel4Ideal.main_v16_4)) (v5 : (c : Dev Cert.Kernel4Ideal.nD) → Buf (Elt Ideal) ((c.tc : Thread Cert.Kernel4Ideal.nD Cert.Kernel4Ideal.τ).loc Cert.Kernel4Ideal.main_v16_5)) (v6 : (c : Dev Cert.Kernel4Ideal.nD) → Buf (Elt Ideal) ((c.tc : Thread Cert.Kernel4Ideal.nD Cert.Kernel4Ideal.τ).loc Cert.Kernel4Ideal.main_v16_6)) (v7 : (c : Dev Cert.Kernel4Ideal.nD) → Buf (Elt Ideal) ((c.tc : Thread Cert.Kernel4Ideal.nD Cert.Kernel4Ideal.τ).loc Cert.Kernel4Ideal.main_v16_7)) (v8 : (c : Dev Cert.Kernel4Ideal.nD) → Buf (Elt Ideal) ((c.tc : Thread Cert.Kernel4Ideal.nD Cert.Kernel4Ideal.τ).loc Cert.Kernel4Ideal.main_v16_8)) (v9 : (c : Dev Cert.Kernel4Ideal.nD) → Buf (Elt Ideal) ((c.tc : Thread Cert.Kernel4Ideal.nD Cert.Kernel4Ideal.τ).loc Cert.Kernel4Ideal.main_v16_9)) (v10 : (c : Dev Cert.Kernel4Ideal.nD) → Buf (Elt Ideal) ((c.tc : Thread Cert.Kernel4Ideal.nD Cert.Kernel4Ideal.τ).loc Cert.Kernel4Ideal.main_v16_10)) (v11 : (c : Dev Cert.Kernel4Ideal.nD) → Buf (Elt Ideal) ((c.tc : Thread Cert.Kernel4Ideal.nD Cert.Kernel4Ideal.τ).loc Cert.Kernel4Ideal.main_v16_11)) (v12 : (c : Dev Cert.Kernel4Ideal.nD) → Buf (Elt Ideal) ((c.tc : Thread Cert.Kernel4Ideal.nD Cert.Kernel4Ideal.τ).loc Cert.Kernel4Ideal.main_v16_12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_3) = v3 c
          ∧ r.2.mem ((c.tc : Thread Cert.Kernel4Ideal.nD Cert.Kernel4Ideal.τ).loc Cert.Kernel4Ideal.main_v16_4) = v4 c
          ∧ r.2.mem ((c.tc : Thread Cert.Kernel4Ideal.nD Cert.Kernel4Ideal.τ).loc Cert.Kernel4Ideal.main_v16_5) = v5 c
          ∧ r.2.mem ((c.tc : Thread Cert.Kernel4Ideal.nD Cert.Kernel4Ideal.τ).loc Cert.Kernel4Ideal.main_v16_6) = v6 c
          ∧ r.2.mem ((c.tc : Thread Cert.Kernel4Ideal.nD Cert.Kernel4Ideal.τ).loc Cert.Kernel4Ideal.main_v16_7) = v7 c
          ∧ r.2.mem ((c.tc : Thread Cert.Kernel4Ideal.nD Cert.Kernel4Ideal.τ).loc Cert.Kernel4Ideal.main_v16_8) = v8 c
          ∧ r.2.mem ((c.tc : Thread Cert.Kernel4Ideal.nD Cert.Kernel4Ideal.τ).loc Cert.Kernel4Ideal.main_v16_9) = v9 c
          ∧ r.2.mem ((c.tc : Thread Cert.Kernel4Ideal.nD Cert.Kernel4Ideal.τ).loc Cert.Kernel4Ideal.main_v16_10) = v10 c
          ∧ r.2.mem ((c.tc : Thread Cert.Kernel4Ideal.nD Cert.Kernel4Ideal.τ).loc Cert.Kernel4Ideal.main_v16_11) = v11 c
          ∧ r.2.mem ((c.tc : Thread Cert.Kernel4Ideal.nD Cert.Kernel4Ideal.τ).loc Cert.Kernel4Ideal.main_v16_12) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v35) = v4 c
          ∧ r.2.mem ((c.tc : Thread Cert.Reference4Ideal.nD Cert.Reference4Ideal.τ).loc Cert.Reference4Ideal.main_v39) = v5 c
          ∧ r.2.mem ((c.tc : Thread Cert.Reference4Ideal.nD Cert.Reference4Ideal.τ).loc Cert.Reference4Ideal.main_v43) = v6 c
          ∧ r.2.mem ((c.tc : Thread Cert.Reference4Ideal.nD Cert.Reference4Ideal.τ).loc Cert.Reference4Ideal.main_v44) = v7 c
          ∧ r.2.mem ((c.tc : Thread Cert.Reference4Ideal.nD Cert.Reference4Ideal.τ).loc Cert.Reference4Ideal.main_v45) = v8 c
          ∧ r.2.mem ((c.tc : Thread Cert.Reference4Ideal.nD Cert.Reference4Ideal.τ).loc Cert.Reference4Ideal.main_v47) = v9 c
          ∧ r.2.mem ((c.tc : Thread Cert.Reference4Ideal.nD Cert.Reference4Ideal.τ).loc Cert.Reference4Ideal.main_v49) = v10 c
          ∧ r.2.mem ((c.tc : Thread Cert.Reference4Ideal.nD Cert.Reference4Ideal.τ).loc Cert.Reference4Ideal.main_v52) = v11 c
          ∧ r.2.mem ((c.tc : Thread Cert.Reference4Ideal.nD Cert.Reference4Ideal.τ).loc Cert.Reference4Ideal.main_v55) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)) (v4 : (c : Dev Cert.Kernel5Ideal.nD) → Buf (Elt Ideal) ((c.tc : Thread Cert.Kernel5Ideal.nD Cert.Kernel5Ideal.τ).loc Cert.Kernel5Ideal.main_v16_4)) (v5 : (c : Dev Cert.Kernel5Ideal.nD) → Buf (Elt Ideal) ((c.tc : Thread Cert.Kernel5Ideal.nD Cert.Kernel5Ideal.τ).loc Cert.Kernel5Ideal.main_v16_5)) (v6 : (c : Dev Cert.Kernel5Ideal.nD) → Buf (Elt Ideal) ((c.tc : Thread Cert.Kernel5Ideal.nD Cert.Kernel5Ideal.τ).loc Cert.Kernel5Ideal.main_v16_6)) (v7 : (c : Dev Cert.Kernel5Ideal.nD) → Buf (Elt Ideal) ((c.tc : Thread Cert.Kernel5Ideal.nD Cert.Kernel5Ideal.τ).loc Cert.Kernel5Ideal.main_v16_7)) (v8 : (c : Dev Cert.Kernel5Ideal.nD) → Buf (Elt Ideal) ((c.tc : Thread Cert.Kernel5Ideal.nD Cert.Kernel5Ideal.τ).loc Cert.Kernel5Ideal.main_v16_8)) (v9 : (c : Dev Cert.Kernel5Ideal.nD) → Buf (Elt Ideal) ((c.tc : Thread Cert.Kernel5Ideal.nD Cert.Kernel5Ideal.τ).loc Cert.Kernel5Ideal.main_v16_9)) (v10 : (c : Dev Cert.Kernel5Ideal.nD) → Buf (Elt Ideal) ((c.tc : Thread Cert.Kernel5Ideal.nD Cert.Kernel5Ideal.τ).loc Cert.Kernel5Ideal.main_v16_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_v16_3) = v3 c
          ∧ r.2.mem ((c.tc : Thread Cert.Kernel5Ideal.nD Cert.Kernel5Ideal.τ).loc Cert.Kernel5Ideal.main_v16_4) = v4 c
          ∧ r.2.mem ((c.tc : Thread Cert.Kernel5Ideal.nD Cert.Kernel5Ideal.τ).loc Cert.Kernel5Ideal.main_v16_5) = v5 c
          ∧ r.2.mem ((c.tc : Thread Cert.Kernel5Ideal.nD Cert.Kernel5Ideal.τ).loc Cert.Kernel5Ideal.main_v16_6) = v6 c
          ∧ r.2.mem ((c.tc : Thread Cert.Kernel5Ideal.nD Cert.Kernel5Ideal.τ).loc Cert.Kernel5Ideal.main_v16_7) = v7 c
          ∧ r.2.mem ((c.tc : Thread Cert.Kernel5Ideal.nD Cert.Kernel5Ideal.τ).loc Cert.Kernel5Ideal.main_v16_8) = v8 c
          ∧ r.2.mem ((c.tc : Thread Cert.Kernel5Ideal.nD Cert.Kernel5Ideal.τ).loc Cert.Kernel5Ideal.main_v16_9) = v9 c
          ∧ r.2.mem ((c.tc : Thread Cert.Kernel5Ideal.nD Cert.Kernel5Ideal.τ).loc Cert.Kernel5Ideal.main_v16_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v35) = v5 c
          ∧ r.2.mem ((c.tc : Thread Cert.Reference5Ideal.nD Cert.Reference5Ideal.τ).loc Cert.Reference5Ideal.main_v39) = v6 c
          ∧ r.2.mem ((c.tc : Thread Cert.Reference5Ideal.nD Cert.Reference5Ideal.τ).loc Cert.Reference5Ideal.main_v14) = v7 c
          ∧ r.2.mem ((c.tc : Thread Cert.Reference5Ideal.nD Cert.Reference5Ideal.τ).loc Cert.Reference5Ideal.main_v20) = v8 c
          ∧ r.2.mem ((c.tc : Thread Cert.Reference5Ideal.nD Cert.Reference5Ideal.τ).loc Cert.Reference5Ideal.main_v15) = v9 c
          ∧ r.2.mem ((c.tc : Thread Cert.Reference5Ideal.nD Cert.Reference5Ideal.τ).loc Cert.Reference5Ideal.main_v16) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite_step [hKernel7Ideal : Cert.Kernel7Ideal.Facts] [hReference7Ideal : Cert.Reference7Ideal.Facts] [hPre_finite_step : Cert.Pre_finite_step.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_step m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_v103) = v1 c
          ∧ r.2.mem ((c.tc : Thread Cert.Reference7Ideal.nD Cert.Reference7Ideal.τ).loc Cert.Reference7Ideal.main_v105) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal_pre_finite_prompt [hKernel8Ideal : Cert.Kernel8Ideal.Facts] [hReference8Ideal : Cert.Reference8Ideal.Facts] [hPre_finite_prompt : Cert.Pre_finite_prompt.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_prompt m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v13_1)) (v1 : (c : Dev Cert.Kernel8Ideal.nD) → Buf (Elt Ideal) ((c.tc : Thread Cert.Kernel8Ideal.nD Cert.Kernel8Ideal.τ).loc Cert.Kernel8Ideal.main_v13_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_1) = v0 c
          ∧ r.2.mem ((c.tc : Thread Cert.Kernel8Ideal.nD Cert.Kernel8Ideal.τ).loc Cert.Kernel8Ideal.main_v13_2) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v70) = v0 c
          ∧ r.2.mem ((c.tc : Thread Cert.Reference8Ideal.nD Cert.Reference8Ideal.τ).loc Cert.Reference8Ideal.main_v71) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_step : Cert.Pre_finite_step.Facts) (hPre_finite_prompt : Cert.Pre_finite_prompt.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_step (hKernel7Ideal := hKernel7Ideal) (hPre_finite_step := hPre_finite_step)
    ∧ quiescent_Reference7Ideal (hReference7Ideal := hReference7Ideal)
    ∧ quiescent_Reference7Ideal_pre_finite_step (hReference7Ideal := hReference7Ideal) (hPre_finite_step := hPre_finite_step)
    ∧ quiescent_Kernel8 (hKernel8 := hKernel8)
    ∧ quiescent_Kernel8Ideal (hKernel8Ideal := hKernel8Ideal)
    ∧ quiescent_Kernel8Ideal_pre_finite_prompt (hKernel8Ideal := hKernel8Ideal) (hPre_finite_prompt := hPre_finite_prompt)
    ∧ quiescent_Reference8Ideal (hReference8Ideal := hReference8Ideal)
    ∧ quiescent_Reference8Ideal_pre_finite_prompt (hReference8Ideal := hReference8Ideal) (hPre_finite_prompt := hPre_finite_prompt)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_step (hKernel7Ideal := hKernel7Ideal) (hReference7Ideal := hReference7Ideal) (hPre_finite_step := hPre_finite_step)
    ∧ preserves_Kernel8_Kernel8Ideal
    ∧ algebraic_Kernel8Ideal_Reference8Ideal_pre_finite_prompt (hKernel8Ideal := hKernel8Ideal) (hReference8Ideal := hReference8Ideal) (hPre_finite_prompt := hPre_finite_prompt)
-- ==== Pre_finite_prompt.lean ====
abbrev S4x4096x512 : Shape := ⟨3, ![4, 4096, 512]⟩
abbrev S4x4096x1024 : Shape := ⟨3, ![4, 4096, 1024]⟩
abbrev S4x4096x8 : Shape := ⟨3, ![4, 4096, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩

class Facts : Prop where
  bcast_S_S4x4096x8 : S_.BroadcastsInDim S4x4096x8 (![] : Fin 0 → Fin S4x4096x8.rank)
  bcast_S_S8 : S_.BroadcastsInDim S8 (![] : Fin 0 → Fin S8.rank)

variable [Facts]

def fn {F : FTy → Type} [FloatOps F] (main_arg0 : FVec F S4x4096x512 .f32) (main_arg1 : FVec F S4x4096x1024 .f32) (main_arg2 : FVec F S4x4096x8 .f32) (main_arg3 : FVec F S4x1024 .f32) (main_arg4 : FVec F S1024 .f32) (main_arg5 : FVec F S8 .f32) (main_arg6 : FVec F S8 .f32) (main_arg7 : FVec F S8 .f32) (main_arg8 : FVec F S512 .f32) : IVec S4x4096x8 1 × IVec S8 1 × IVec S8 1 :=
  let main_v0 : FVec F S4x4096x8 .f32 := Host.absf main_arg2
  let main_cst : FVec F S_ .f32 := constant S_ .f32 0x7F800000#32
  let main_v1 : FVec F S4x4096x8 .f32 := broadcastInDim S4x4096x8 ![] bcast_S_S4x4096x8 main_cst
  let main_v2 : IVec S4x4096x8 1 := cmpf .olt main_v0 main_v1
  let main_v3 : FVec F S8 .f32 := Host.absf main_arg5
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S8 .f32 := Host.absf main_arg6
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_finite_step.lean ====
abbrev S128x512 : Shape := ⟨2, ![128, 512]⟩
abbrev S128x1024 : Shape := ⟨2, ![128, 1024]⟩
abbrev S128x8 : Shape := ⟨2, ![128, 8]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩

class Facts : Prop where
  bcast_S_S128x1024 : S_.BroadcastsInDim S128x1024 (![] : Fin 0 → Fin S128x1024.rank)
  bcast_S_S128x8 : S_.BroadcastsInDim S128x8 (![] : Fin 0 → Fin S128x8.rank)
  bcast_S_S4x128x3x1024 : S_.BroadcastsInDim S4x128x3x1024 (![] : Fin 0 → Fin S4x128x3x1024.rank)
  bcast_S_S4x1024 : S_.BroadcastsInDim S4x1024 (![] : Fin 0 → Fin S4x1024.rank)
  bcast_S_S1024 : S_.BroadcastsInDim S1024 (![] : Fin 0 → Fin S1024.rank)
  bcast_S_S8 : S_.BroadcastsInDim S8 (![] : Fin 0 → Fin S8.rank)

variable [Facts]

def fn {F : FTy → Type} [FloatOps F] (main_arg0 : FVec F S128x512 .f32) (main_arg1 : FVec F S128x1024 .f32) (main_arg2 : FVec F S128x8 .f32) (main_arg3 : FVec F S4x128x3x1024 .f32) (main_arg4 : FVec F S4x128x8x64x128 .f32) (main_arg5 : FVec F S4x1024 .f32) (main_arg6 : FVec F S1024 .f32) (main_arg7 : FVec F S8 .f32) (main_arg8 : FVec F S8 .f32) (main_arg9 : FVec F S8 .f32) (main_arg10 : FVec F S512 .f32) (main_arg11 : FVec F S4x128x8x64x128 .f32) : IVec S128x1024 1 × IVec S128x8 1 × IVec S4x128x3x1024 1 × IVec S4x1024 1 × IVec S1024 1 × IVec S8 1 :=
  let main_v0 : FVec F S128x1024 .f32 := Host.absf main_arg1
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_v3 : FVec F S128x8 .f32 := Host.absf main_arg2
  let main_cst_0 : FVec F S_ .f32 := constant S_ .f32 0x7F800000#32
  let main_v4 : FVec F S128x8 .f32 := broadcastInDim S128x8 ![] bcast_S_S128x8 main_cst_0
  let main_v5 : IVec S128x8 1 := cmpf .olt main_v3 main_v4
  let main_v6 : FVec F S4x128x3x1024 .f32 := Host.absf main_arg3
  let main_cst_1 : FVec F S_ .f32 := constant S_ .f32 0x7F800000#32
  let main_v7 : FVec F S4x128x3x1024 .f32 := broadcastInDim S4x128x3x1024 ![] bcast_S_S4x128x3x1024 main_cst_1
  let main_v8 : IVec S4x128x3x1024 1 := cmpf .olt main_v6 main_v7
  let main_v9 : FVec F S4x1024 .f32 := Host.absf main_arg5
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_v12 : FVec F S1024 .f32 := Host.absf main_arg6
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8 .f32 := Host.absf main_arg7
  let main_cst_4 : FVec F S_ .f32 := constant S_ .f32 0x7F800000#32
  let main_v16 : FVec F S8 .f32 := broadcastInDim S8 ![] bcast_S_S8 main_cst_4
  let main_v17 : IVec S8 1 := cmpf .olt main_v15 main_v16
  (main_v2, main_v5, main_v8, main_v11, main_v14, main_v17)
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S16384x1024, .f32⟩
  | .hbm, ⟨9, _⟩ => ⟨S1x1024, .f32⟩
  | .hbm, ⟨10, _⟩ => ⟨S2816x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x5632, .f32⟩
  | .hbm, ⟨21, _⟩ => ⟨S4x4096x2816, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S_, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S4x4096x1024 : Shape := ⟨3, ![4, 4096, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S16384x1024 : Shape := ⟨2, ![16384, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 19
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S16384x1024, .f32⟩
  | .hbm, ⟨14, _⟩ => ⟨S1x1024, .f32⟩
  | .hbm, ⟨15, _⟩ => ⟨S2816x1024, .bf16⟩
  | .hbm, ⟨16, _⟩ => ⟨S1x1024, .f32⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x4096x1024 : Shape := ⟨3, ![4, 4096, 1024]⟩
abbrev S16384x256 : Shape := ⟨2, ![16384, 256]⟩
abbrev S16384x512 : Shape := ⟨2, ![16384, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x4096x5632, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S1x1x1024, .f32⟩
  | .hbm, ⟨61, _⟩ => ⟨S4x4096x1024, .f32⟩
  | .hbm, ⟨62, _⟩ => ⟨S4x4096x1024, .f32⟩
  | .hbm, ⟨63, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3080 : Shape := ⟨2, ![1024, 3080]⟩
abbrev S4x4x256x4096 : Shape := ⟨4, ![4, 4, 256, 4096]⟩
abbrev S1024x256 : Shape := ⟨2, ![1024, 256]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S1024x2944 : Shape := ⟨2, ![1024, 2944]⟩
abbrev S1024x1536 : Shape := ⟨2, ![1024, 1536]⟩
abbrev S1536x1024 : Shape := ⟨2, ![1536, 1024]⟩
abbrev S1x1024 : Shape := ⟨2, ![1, 1024]⟩
abbrev S16384x512 : Shape := ⟨2, ![16384, 512]⟩
abbrev S16384x128 : Shape := ⟨2, ![16384, 128]⟩
abbrev S4x256x4096 : Shape := ⟨3, ![4, 256, 4096]⟩
abbrev S16384x256 : Shape := ⟨2, ![16384, 256]⟩
abbrev S4x16x256x256 : Shape := ⟨4, ![4, 16, 256, 256]⟩
abbrev S512x1024 : Shape := ⟨2, ![512, 1024]⟩
abbrev S512x512 : Shape := ⟨2, ![512, 512]⟩
abbrev S512x128 : Shape := ⟨2, ![512, 128]⟩
abbrev S1x1x256x512 : Shape := ⟨4, ![1, 1, 256, 512]⟩
abbrev S1x256x512 : Shape := ⟨3, ![1, 256, 512]⟩
abbrev S512x256 : Shape := ⟨2, ![512, 256]⟩
abbrev S1x2x256x256 : Shape := ⟨4, ![1, 2, 256, 256]⟩
abbrev S512 : Shape := ⟨1, ![512]⟩
abbrev S512x1 : Shape := ⟨2, ![512, 1]⟩
abbrev S256x1024 : Shape := ⟨2, ![256, 1024]⟩
abbrev S256x512 : Shape := ⟨2, ![256, 512]⟩
abbrev S256x256 : Shape := ⟨2, ![256, 256]⟩
abbrev S1x1x256x256 : Shape := ⟨4, ![1, 1, 256, 256]⟩

abbrev nBuf : Space → Nat
  | .hbm => 38
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S4x4x256x4096, .f32⟩
  | .hbm, ⟨4, _⟩ => ⟨S4x4x256x4096, .f32⟩
  | .hbm, ⟨5, _⟩ => ⟨S4x4x256x4096, .f32⟩
  | .hbm, ⟨6, _⟩ => ⟨S4x4x256x4096, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x1024, .f32⟩
  | .hbm, ⟨12, _⟩ => ⟨S1024x8, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x2944, .f32⟩
  | .hbm, ⟨20, _⟩ => ⟨S1024x2944, .bf16⟩
  | .hbm, ⟨21, _⟩ => ⟨S1024x1536, .f32⟩
  | .hbm, ⟨22, _⟩ => ⟨S1536x1024, .f32⟩
  | .hbm, ⟨23, _⟩ => ⟨S1536x1024, .bf16⟩
  | .hbm, ⟨24, _⟩ => ⟨S1x1024, .f32⟩
  | .hbm, ⟨25, _⟩ => ⟨S16384x512, .f32⟩
  | .hbm, ⟨26, _⟩ => ⟨S16384x1024, .f32⟩
  | .hbm, ⟨27, _⟩ => ⟨S16384x128, .f32⟩
  | .hbm, ⟨28, _⟩ => ⟨S4x4x256x4096, .f32⟩
  | .hbm, ⟨29, _⟩ => ⟨S4x4x256x4096, .f32⟩
  | .hbm, ⟨30, _⟩ => ⟨S4x4x256x4096, .f32⟩
  | .hbm, ⟨31, _⟩ => ⟨S4x4x256x4096, .f32⟩
  | .hbm, ⟨32, _⟩ => ⟨S4x256x4096, .f32⟩
  | .hbm, ⟨33, _⟩ => ⟨S4x256x4096, .f32⟩
  | .hbm, ⟨34, _⟩ => ⟨S16384x256, .bf16⟩
  | .hbm, ⟨35, _⟩ => ⟨S16384x256, .bf16⟩
  | .hbm, ⟨36, _⟩ => ⟨S4x16x256x256, .bf16⟩
  | .hbm, ⟨37, _⟩ => ⟨S4x16x256x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S1536x1024, .bf16⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x1x256x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1x1x256x512, .f32⟩
  | .local _ .vmem, ⟨18, _⟩ => ⟨S1x1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S1x2x256x256, .bf16⟩
  | .local _ .vmem, ⟨28, _⟩ => ⟨S1x2x256x256, .bf16⟩
  | .local _ .vmem, ⟨29, _⟩ => ⟨S1x2x256x256, .bf16⟩
  | .local _ .vmem, ⟨30, _⟩ => ⟨S1x2x256x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev main_v16_8 : Ref sig .tc := ⟨.hbm, 33, rfl⟩
abbrev main_v16_9 : Ref sig .tc := ⟨.hbm, 34, rfl⟩
abbrev main_v16_10 : Ref sig .tc := ⟨.hbm, 35, rfl⟩
abbrev main_v16_11 : Ref sig .tc := ⟨.hbm, 36, rfl⟩
abbrev main_v16_12 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![c3_i32.toNat, v16.toNat, c0_i32_10.toNat, v26.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![c3_i32.toNat, v16.toNat, c0_i32_10.toNat, v26.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![c3_i32.toNat, v16.toNat, c0_i32_10.toNat, v26.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![c3_i32.toNat, v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16384x1024 : Shape := ⟨2, ![16384, 1024]⟩
abbrev S1024 : Shape := ⟨1, ![1024]⟩
abbrev S1024x3080 : Shape := ⟨2, ![1024, 3080]⟩
abbrev S4x4x256x4096 : Shape := ⟨4, ![4, 4, 256, 4096]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3080 : Shape := ⟨3, ![4, 4096, 3080]⟩
abbrev S4x4096x256 : Shape := ⟨3, ![4, 4096, 256]⟩
abbrev S4x4096x512 : Shape := ⟨3, ![4, 4096, 512]⟩
abbrev S4x4096x8 : Shape := ⟨3, ![4, 4096, 8]⟩
abbrev S16384x512 : Shape := ⟨2, ![16384, 512]⟩
abbrev S16384x8 : Shape := ⟨2, ![16384, 8]⟩
abbrev S16384x128 : Shape := ⟨2, ![16384, 128]⟩
abbrev S3x4x256x4096 : Shape := ⟨4, ![3, 4, 256, 4096]⟩
abbrev S4x256x4096 : Shape := ⟨3, ![4, 256, 4096]⟩
abbrev S1x4x256x4096 : Shape := ⟨4, ![1, 4, 256, 4096]⟩
abbrev S16384x256 : Shape := ⟨2, ![16384, 256]⟩
abbrev S4x16x256x256 : Shape := ⟨4, ![4, 16, 256, 256]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S4x4x256x4096, .f32⟩
  | .hbm, ⟨4, _⟩ => ⟨S4x4x256x4096, .f32⟩
  | .hbm, ⟨5, _⟩ => ⟨S4x4x256x4096, .f32⟩
  | .hbm, ⟨6, _⟩ => ⟨S4x4x256x4096, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x3080, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x512, .f32⟩
  | .hbm, ⟨29, _⟩ => ⟨S4x4096x1024, .f32⟩
  | .hbm, ⟨30, _⟩ => ⟨S4x4096x8, .f32⟩
  | .hbm, ⟨31, _⟩ => ⟨S4x4096x256, .f32⟩
  | .hbm, ⟨32, _⟩ => ⟨S4x4096x256, .f32⟩
  | .hbm, ⟨33, _⟩ => ⟨S4x4096x256, .f32⟩
  | .hbm, ⟨34, _⟩ => ⟨S16384x512, .f32⟩
  | .hbm, ⟨35, _⟩ => ⟨S16384x1024, .f32⟩
  | .hbm, ⟨36, _⟩ => ⟨S16384x8, .f32⟩
  | .hbm, ⟨37, _⟩ => ⟨S_, .i32⟩
  | .hbm, ⟨38, _⟩ => ⟨S_, .f32⟩
  | .hbm, ⟨39, _⟩ => ⟨S16384x128, .f32⟩
  | .hbm, ⟨40, _⟩ => ⟨S3x4x256x4096, .f32⟩
  | .hbm, ⟨41, _⟩ => ⟨S4x256x4096, .f32⟩
  | .hbm, ⟨42, _⟩ => ⟨S1x4x256x4096, .f32⟩
  | .hbm, ⟨43, _⟩ => ⟨S4x4x256x4096, .f32⟩
  | .hbm, ⟨44, _⟩ => ⟨S3x4x256x4096, .f32⟩
  | .hbm, ⟨45, _⟩ => ⟨S4x256x4096, .f32⟩
  | .hbm, ⟨46, _⟩ => ⟨S1x4x256x4096, .f32⟩
  | .hbm, ⟨47, _⟩ => ⟨S4x4x256x4096, .f32⟩
  | .hbm, ⟨48, _⟩ => ⟨S3x4x256x4096, .f32⟩
  | .hbm, ⟨49, _⟩ => ⟨S4x256x4096, .f32⟩
  | .hbm, ⟨50, _⟩ => ⟨S1x4x256x4096, .f32⟩
  | .hbm, ⟨51, _⟩ => ⟨S4x4x256x4096, .f32⟩
  | .hbm, ⟨52, _⟩ => ⟨S3x4x256x4096, .f32⟩
  | .hbm, ⟨53, _⟩ => ⟨S4x256x4096, .f32⟩
  | .hbm, ⟨54, _⟩ => ⟨S1x4x256x4096, .f32⟩
  | .hbm, ⟨55, _⟩ => ⟨S4x4x256x4096, .f32⟩
  | .hbm, ⟨56, _⟩ => ⟨S4x256x4096, .f32⟩
  | .hbm, ⟨57, _⟩ => ⟨S4x256x4096, .f32⟩
  | .hbm, ⟨58, _⟩ => ⟨S16384x256, .f32⟩
  | .hbm, ⟨59, _⟩ => ⟨S16384x256, .bf16⟩
  | .hbm, ⟨60, _⟩ => ⟨S16384x256, .f32⟩
  | .hbm, ⟨61, _⟩ => ⟨S16384x256, .bf16⟩
  | .hbm, ⟨62, _⟩ => ⟨S4x16x256x256, .f32⟩
  | .hbm, ⟨63, _⟩ => ⟨S4x16x256x256, .f32⟩
  | .hbm, ⟨64, _⟩ => ⟨S4x16x256x256, .bf16⟩
  | .hbm, ⟨65, _⟩ => ⟨S4x16x256x256, .f32⟩
  | .hbm, ⟨66, _⟩ => ⟨S4x16x256x256, .f32⟩
  | .hbm, ⟨67, _⟩ => ⟨S4x16x256x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Kernel5.lean ====
abbrev S128x1024 : Shape := ⟨2, ![128, 1024]⟩
abbrev S1024 : Shape := ⟨1, ![1024]⟩
abbrev S1024x3080 : Shape := ⟨2, ![1024, 3080]⟩
abbrev S4x1x256x128 : Shape := ⟨4, ![4, 1, 256, 128]⟩
abbrev S1024x256 : Shape := ⟨2, ![1024, 256]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S1024x2944 : Shape := ⟨2, ![1024, 2944]⟩
abbrev S1024x1536 : Shape := ⟨2, ![1024, 1536]⟩
abbrev S1536x1024 : Shape := ⟨2, ![1536, 1024]⟩
abbrev S1x1024 : Shape := ⟨2, ![1, 1024]⟩
abbrev S128x512 : Shape := ⟨2, ![128, 512]⟩
abbrev S128x128 : Shape := ⟨2, ![128, 128]⟩
abbrev S128x256 : Shape := ⟨2, ![128, 256]⟩
abbrev S1x1x256x128 : Shape := ⟨4, ![1, 1, 256, 128]⟩
abbrev S128 : Shape := ⟨1, ![128]⟩
abbrev S128x1 : Shape := ⟨2, ![128, 1]⟩
abbrev S256x1024 : Shape := ⟨2, ![256, 1024]⟩
abbrev S256x128 : Shape := ⟨2, ![256, 128]⟩

abbrev nBuf : Space → Nat
  | .hbm => 36
  | .vmem => 15
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3080, .f32⟩
  | .hbm, ⟨3, _⟩ => ⟨S4x1x256x128, .f32⟩
  | .hbm, ⟨4, _⟩ => ⟨S4x1x256x128, .f32⟩
  | .hbm, ⟨5, _⟩ => ⟨S4x1x256x128, .f32⟩
  | .hbm, ⟨6, _⟩ => ⟨S4x1x256x128, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x1024, .f32⟩
  | .hbm, ⟨12, _⟩ => ⟨S1024x8, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x2944, .f32⟩
  | .hbm, ⟨20, _⟩ => ⟨S1024x2944, .bf16⟩
  | .hbm, ⟨21, _⟩ => ⟨S1024x1536, .f32⟩
  | .hbm, ⟨22, _⟩ => ⟨S1536x1024, .f32⟩
  | .hbm, ⟨23, _⟩ => ⟨S1536x1024, .bf16⟩
  | .hbm, ⟨24, _⟩ => ⟨S1x1024, .f32⟩
  | .hbm, ⟨25, _⟩ => ⟨S128x512, .f32⟩
  | .hbm, ⟨26, _⟩ => ⟨S128x1024, .f32⟩
  | .hbm, ⟨27, _⟩ => ⟨S128x128, .f32⟩
  | .hbm, ⟨28, _⟩ => ⟨S4x1x256x128, .f32⟩
  | .hbm, ⟨29, _⟩ => ⟨S4x1x256x128, .f32⟩
  | .hbm, ⟨30, _⟩ => ⟨S4x1x256x128, .f32⟩
  | .hbm, ⟨31, _⟩ => ⟨S4x1x256x128, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x256, .f32⟩
  | .local _ .vmem, ⟨0, _⟩ => ⟨S128x1024, .f32⟩
  | .local _ .vmem, ⟨1, _⟩ => ⟨S1x1024, .f32⟩
  | .local _ .vmem, ⟨2, _⟩ => ⟨S1024x2944, .bf16⟩
  | .local _ .vmem, ⟨3, _⟩ => ⟨S1536x1024, .bf16⟩
  | .local _ .vmem, ⟨4, _⟩ => ⟨S128x512, .f32⟩
  | .local _ .vmem, ⟨5, _⟩ => ⟨S128x1024, .f32⟩
  | .local _ .vmem, ⟨6, _⟩ => ⟨S128x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x128, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v16_7 : Ref sig .tc := ⟨.hbm, 32, rfl⟩
abbrev main_v16_8 : Ref sig .tc := ⟨.hbm, 33, rfl⟩
abbrev main_v16_9 : Ref sig .tc := ⟨.hbm, 34, rfl⟩
abbrev main_v16_10 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  let c0_i32_12 : BitVec 32 := 0#32
  ![c3_i32.toNat, v16.toNat, c0_i32_11.toNat, v26.toNat]

def cc0_transform_12 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  let c0_i32_12 : BitVec 32 := 0#32
  ![c3_i32.toNat, v16.toNat, c0_i32_11.toNat, v26.toNat]

def cc0_transform_13 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  let c0_i32_12 : BitVec 32 := 0#32
  ![c3_i32.toNat, v16.toNat, c0_i32_11.toNat, v26.toNat]

def cc0_transform_14 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_11 : BitVec 32 := 0#32
  let c0_i32_12 : BitVec 32 := 0#32
  ![c3_i32.toNat, v16.toNat, c0_i32_11.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1x256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference5Ideal.lean ====
abbrev S128x1024 : Shape := ⟨2, ![128, 1024]⟩
abbrev S1024 : Shape := ⟨1, ![1024]⟩
abbrev S1024x3080 : Shape := ⟨2, ![1024, 3080]⟩
abbrev S4x1x256x128 : Shape := ⟨4, ![4, 1, 256, 128]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3080 : Shape := ⟨2, ![128, 3080]⟩
abbrev S128x256 : Shape := ⟨2, ![128, 256]⟩
abbrev S128x512 : Shape := ⟨2, ![128, 512]⟩
abbrev S128x8 : Shape := ⟨2, ![128, 8]⟩
abbrev S128x128 : Shape := ⟨2, ![128, 128]⟩
abbrev S3x1x256x128 : Shape := ⟨4, ![3, 1, 256, 128]⟩
abbrev S256x128 : Shape := ⟨2, ![256, 128]⟩
abbrev S1x1x256x128 : Shape := ⟨4, ![1, 1, 256, 128]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3080, .f32⟩
  | .hbm, ⟨3, _⟩ => ⟨S4x1x256x128, .f32⟩
  | .hbm, ⟨4, _⟩ => ⟨S4x1x256x128, .f32⟩
  | .hbm, ⟨5, _⟩ => ⟨S4x1x256x128, .f32⟩
  | .hbm, ⟨6, _⟩ => ⟨S4x1x256x128, .f32⟩
  | .hbm, ⟨7, _⟩ => ⟨S128x1024, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S128x3080, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S128x512, .f32⟩
  | .hbm, ⟨28, _⟩ => ⟨S128x1024, .f32⟩
  | .hbm, ⟨29, _⟩ => ⟨S128x8, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .i32⟩
  | .hbm, ⟨34, _⟩ => ⟨S_, .f32⟩
  | .hbm, ⟨35, _⟩ => ⟨S128x128, .f32⟩
  | .hbm, ⟨36, _⟩ => ⟨S3x1x256x128, .f32⟩
  | .hbm, ⟨37, _⟩ => ⟨S256x128, .f32⟩
  | .hbm, ⟨38, _⟩ => ⟨S1x1x256x128, .f32⟩
  | .hbm, ⟨39, _⟩ => ⟨S4x1x256x128, .f32⟩
  | .hbm, ⟨40, _⟩ => ⟨S3x1x256x128, .f32⟩
  | .hbm, ⟨41, _⟩ => ⟨S256x128, .f32⟩
  | .hbm, ⟨42, _⟩ => ⟨S1x1x256x128, .f32⟩
  | .hbm, ⟨43, _⟩ => ⟨S4x1x256x128, .f32⟩
  | .hbm, ⟨44, _⟩ => ⟨S3x1x256x128, .f32⟩
  | .hbm, ⟨45, _⟩ => ⟨S256x128, .f32⟩
  | .hbm, ⟨46, _⟩ => ⟨S1x1x256x128, .f32⟩
  | .hbm, ⟨47, _⟩ => ⟨S4x1x256x128, .f32⟩
  | .hbm, ⟨48, _⟩ => ⟨S3x1x256x128, .f32⟩
  | .hbm, ⟨49, _⟩ => ⟨S256x128, .f32⟩
  | .hbm, ⟨50, _⟩ => ⟨S1x1x256x128, .f32⟩
  | .hbm, ⟨51, _⟩ => ⟨S4x1x256x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel6.lean ====
abbrev S128x1024 : Shape := ⟨2, ![128, 1024]⟩
abbrev S128x256 : Shape := ⟨2, ![128, 256]⟩
abbrev S128x512 : Shape := ⟨2, ![128, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S256x1024 : Shape := ⟨2, ![256, 1024]⟩
abbrev S512x1024 : Shape := ⟨2, ![512, 1024]⟩
abbrev S128 : Shape := ⟨1, ![128]⟩
abbrev S128x1 : Shape := ⟨2, ![128, 1]⟩
abbrev S1024x256 : Shape := ⟨2, ![1024, 256]⟩

abbrev nBuf : Space → Nat
  | .hbm => 18
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x512, .f32⟩
  | .hbm, ⟨3, _⟩ => ⟨S128x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S1x1024, .f32⟩
  | .hbm, ⟨14, _⟩ => ⟨S2816x1024, .bf16⟩
  | .hbm, ⟨15, _⟩ => ⟨S1x1024, .f32⟩
  | .hbm, ⟨16, _⟩ => ⟨S1024x1024, .bf16⟩
  | .hbm, ⟨17, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S128x256, .f32⟩
  | .local _ .vmem, ⟨6, _⟩ => ⟨S128x512, .f32⟩
  | .local _ .vmem, ⟨7, _⟩ => ⟨S128x256, .f32⟩
  | .local _ .vmem, ⟨8, _⟩ => ⟨S1024x1024, .bf16⟩
  | .local _ .vmem, ⟨9, _⟩ => ⟨S1x1024, .f32⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S128x1024 : Shape := ⟨2, ![128, 1024]⟩
abbrev S128x256 : Shape := ⟨2, ![128, 256]⟩
abbrev S128x512 : Shape := ⟨2, ![128, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩

abbrev nBuf : Space → Nat
  | .hbm => 62
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x512, .f32⟩
  | .hbm, ⟨3, _⟩ => ⟨S128x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S128x1024, .f32⟩
  | .hbm, ⟨24, _⟩ => ⟨S128x1024, .f32⟩
  | .hbm, ⟨25, _⟩ => ⟨S1x1024, .f32⟩
  | .hbm, ⟨26, _⟩ => ⟨S128x1024, .f32⟩
  | .hbm, ⟨27, _⟩ => ⟨S128x1024, .f32⟩
  | .hbm, ⟨28, _⟩ => ⟨S128x5632, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S_, .f32⟩
  | .hbm, ⟨34, _⟩ => ⟨S128x2816, .f32⟩
  | .hbm, ⟨35, _⟩ => ⟨S128x2816, .f32⟩
  | .hbm, ⟨36, _⟩ => ⟨S_, .f32⟩
  | .hbm, ⟨37, _⟩ => ⟨S128x2816, .f32⟩
  | .hbm, ⟨38, _⟩ => ⟨S128x2816, .f32⟩
  | .hbm, ⟨39, _⟩ => ⟨S128x2816, .f32⟩
  | .hbm, ⟨40, _⟩ => ⟨S128x2816, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128, .f32⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S128x1, .f32⟩
  | .hbm, ⟨57, _⟩ => ⟨S128x1024, .f32⟩
  | .hbm, ⟨58, _⟩ => ⟨S128x1024, .f32⟩
  | .hbm, ⟨59, _⟩ => ⟨S1x1024, .f32⟩
  | .hbm, ⟨60, _⟩ => ⟨S128x1024, .f32⟩
  | .hbm, ⟨61, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel7.lean ====
abbrev S128x512 : Shape := ⟨2, ![128, 512]⟩
abbrev S128x1024 : Shape := ⟨2, ![128, 1024]⟩
abbrev S128x8 : Shape := ⟨2, ![128, 8]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S4x3x128x1024 : Shape := ⟨4, ![4, 3, 128, 1024]⟩
abbrev S_ : Shape := ⟨0, ![]⟩
abbrev S128x128 : Shape := ⟨2, ![128, 128]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S1x1024 : Shape := ⟨2, ![1, 1024]⟩
abbrev S3x128x1024 : Shape := ⟨3, ![3, 128, 1024]⟩
abbrev S8x512 : Shape := ⟨2, ![8, 512]⟩
abbrev S8x1024 : Shape := ⟨2, ![8, 1024]⟩
abbrev S8x128 : Shape := ⟨2, ![8, 128]⟩
abbrev S1x3x8x1024 : Shape := ⟨4, ![1, 3, 8, 1024]⟩
abbrev S1x8x8x64x128 : Shape := ⟨5, ![1, 8, 8, 64, 128]⟩
abbrev S3x8x1024 : Shape := ⟨3, ![3, 8, 1024]⟩
abbrev S1x1x8x1024 : Shape := ⟨4, ![1, 1, 8, 1024]⟩
abbrev S1x8x1024 : Shape := ⟨3, ![1, 8, 1024]⟩
abbrev S8x256 : Shape := ⟨2, ![8, 256]⟩
abbrev S512x128 : Shape := ⟨2, ![512, 128]⟩
abbrev S128x256 : Shape := ⟨2, ![128, 256]⟩
abbrev S512x256 : Shape := ⟨2, ![512, 256]⟩
abbrev S1x1x8x64x128 : Shape := ⟨5, ![1, 1, 8, 64, 128]⟩
abbrev S8x64x128 : Shape := ⟨3, ![8, 64, 128]⟩
abbrev S1x256 : Shape := ⟨2, ![1, 256]⟩
abbrev S8x1 : Shape := ⟨2, ![8, 1]⟩

abbrev nBuf : Space → Nat
  | .hbm => 32
  | .vmem => 23
  | .smem => 0
  | _ => 0

abbrev bufTy : (tb : Table) → Fin (tcTables nBuf tb) → BufTy
  | .hbm, ⟨0, _⟩ => ⟨S128x512, .f32⟩
  | .hbm, ⟨1, _⟩ => ⟨S128x1024, .f32⟩
  | .hbm, ⟨2, _⟩ => ⟨S128x8, .f32⟩
  | .hbm, ⟨3, _⟩ => ⟨S4x128x3x1024, .f32⟩
  | .hbm, ⟨4, _⟩ => ⟨S4x128x8x64x128, .f32⟩
  | .hbm, ⟨5, _⟩ => ⟨S4x1024, .f32⟩
  | .hbm, ⟨6, _⟩ => ⟨S1024, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S4x128x8x64x128, .f32⟩
  | .hbm, ⟨12, _⟩ => ⟨S4x3x128x1024, .f32⟩
  | .hbm, ⟨13, _⟩ => ⟨S_, .i32⟩
  | .hbm, ⟨14, _⟩ => ⟨S_, .f32⟩
  | .hbm, ⟨15, _⟩ => ⟨S128x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S1x1024, .f32⟩
  | .hbm, ⟨28, _⟩ => ⟨S1x512, .f32⟩
  | .hbm, ⟨29, _⟩ => ⟨S128x512, .f32⟩
  | .hbm, ⟨30, _⟩ => ⟨S4x128x8x64x128, .f32⟩
  | .hbm, ⟨31, _⟩ => ⟨S3x128x1024, .f32⟩
  | .local _ .vmem, ⟨0, _⟩ => ⟨S8x512, .f32⟩
  | .local _ .vmem, ⟨1, _⟩ => ⟨S8x512, .f32⟩
  | .local _ .vmem, ⟨2, _⟩ => ⟨S8x1024, .f32⟩
  | .local _ .vmem, ⟨3, _⟩ => ⟨S8x1024, .f32⟩
  | .local _ .vmem, ⟨4, _⟩ => ⟨S8x128, .f32⟩
  | .local _ .vmem, ⟨5, _⟩ => ⟨S8x128, .f32⟩
  | .local _ .vmem, ⟨6, _⟩ => ⟨S1x3x8x1024, .f32⟩
  | .local _ .vmem, ⟨7, _⟩ => ⟨S1x3x8x1024, .f32⟩
  | .local _ .vmem, ⟨8, _⟩ => ⟨S1x8x8x64x128, .f32⟩
  | .local _ .vmem, ⟨9, _⟩ => ⟨S1x8x8x64x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S8x512, .f32⟩
  | .local _ .vmem, ⟨17, _⟩ => ⟨S8x512, .f32⟩
  | .local _ .vmem, ⟨18, _⟩ => ⟨S1x8x8x64x128, .f32⟩
  | .local _ .vmem, ⟨19, _⟩ => ⟨S1x8x8x64x128, .f32⟩
  | .local _ .vmem, ⟨20, _⟩ => ⟨S3x8x1024, .f32⟩
  | .local _ .vmem, ⟨21, _⟩ => ⟨S3x8x1024, .f32⟩
  | .local _ .vmem, ⟨22, _⟩ => ⟨S8x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_c_0 : Ref sig .tc := ⟨.hbm, 16, rfl⟩
abbrev main_call1_v0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_call2_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_4 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S128x512 : Shape := ⟨2, ![128, 512]⟩
abbrev S128x1024 : Shape := ⟨2, ![128, 1024]⟩
abbrev S128x8 : Shape := ⟨2, ![128, 8]⟩
abbrev S4x128x3x1024 : Shape := ⟨4, ![4, 128, 3, 1024]⟩
abbrev S4x128x8x64x128 : Shape := ⟨5, ![4, 128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x128x3x1024 : Shape := ⟨4, ![1, 128, 3, 1024]⟩
abbrev S128x3x1024 : Shape := ⟨3, ![128, 3, 1024]⟩
abbrev S128x1x1024 : Shape := ⟨3, ![128, 1, 1024]⟩
abbrev S128x4x1024 : Shape := ⟨3, ![128, 4, 1024]⟩
abbrev S1x1024 : Shape := ⟨2, ![1, 1024]⟩
abbrev S_ : Shape := ⟨0, ![]⟩
abbrev S128x8x64 : Shape := ⟨3, ![128, 8, 64]⟩
abbrev S128x256 : Shape := ⟨2, ![128, 256]⟩
abbrev S128x2x128 : Shape := ⟨3, ![128, 2, 128]⟩
abbrev S1x8 : Shape := ⟨2, ![1, 8]⟩
abbrev S128x2x4 : Shape := ⟨3, ![128, 2, 4]⟩
abbrev S128x2x4x64 : Shape := ⟨4, ![128, 2, 4, 64]⟩
abbrev S128x2x4x1 : Shape := ⟨4, ![128, 2, 4, 1]⟩
abbrev S128x2x4x1x1 : Shape := ⟨5, ![128, 2, 4, 1, 1]⟩
abbrev S1x128x8x64x128 : Shape := ⟨5, ![1, 128, 8, 64, 128]⟩
abbrev S128x8x64x128 : Shape := ⟨4, ![128, 8, 64, 128]⟩
abbrev S128x2x4x64x128 : Shape := ⟨5, ![128, 2, 4, 64, 128]⟩
abbrev S128x2x4x64x1 : Shape := ⟨5, ![128, 2, 4, 64, 1]⟩
abbrev S128x2x1x1x128 : Shape := ⟨5, ![128, 2, 1, 1, 128]⟩
abbrev S8x1 : Shape := ⟨2, ![8, 1]⟩
abbrev S1x8x1 : Shape := ⟨3, ![1, 8, 1]⟩
abbrev S128x2x256 : Shape := ⟨3, ![128, 2, 256]⟩
abbrev S2x256 : Shape := ⟨2, ![2, 256]⟩
abbrev S128x2 : Shape := ⟨2, ![128, 2]⟩
abbrev S128x2x1 : Shape := ⟨3, ![128, 2, 1]⟩
abbrev S1x2x256 : Shape := ⟨3, ![1, 2, 256]⟩
abbrev S3x128x8x64x128 : Shape := ⟨5, ![3, 128, 8, 64, 128]⟩
abbrev S3x128x1024 : Shape := ⟨3, ![3, 128, 1024]⟩

abbrev nBuf : Space → Nat
  | .hbm => 151
  | .vmem => 0
  | .smem => 0
  | _ => 0

abbrev hbmTy0_0 (i : Nat) : BufTy := match i % 128 with
  | 0 => ⟨S128x512, .f32⟩
  | 1 => ⟨S128x1024, .f32⟩
  | 2 => ⟨S128x8, .f32⟩
  | 3 => ⟨S4x128x3x1024, .f32⟩
  | 4 => ⟨S4x128x8x64x128, .f32⟩
  | 5 => ⟨S4x1024, .f32⟩
  | 6 => ⟨S1024, .f32⟩
  | 7 => ⟨S8, .f32⟩
  | 8 => ⟨S8, .f32⟩
  | 9 => ⟨S8, .f32⟩
  | 10 => ⟨S512, .f32⟩
  | 11 => ⟨S4x128x8x64x128, .f32⟩
  | 12 => ⟨S1x128x3x1024, .f32⟩
  | 13 => ⟨S128x3x1024, .f32⟩
  | 14 => ⟨S128x1x1024, .f32⟩
  | 15 => ⟨S128x4x1024, .f32⟩
  | 16 => ⟨S1x1024, .f32⟩
  | 17 => ⟨S1024, .f32⟩
  | 18 => ⟨S128x1x1024, .f32⟩
  | 19 => ⟨S128x1024, .f32⟩
  | 20 => ⟨S1x1024, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S1x1024, .f32⟩
  | 27 => ⟨S1024, .f32⟩
  | 28 => ⟨S128x1x1024, .f32⟩
  | 29 => ⟨S128x1024, .f32⟩
  | 30 => ⟨S1x1024, .f32⟩
  | 31 => ⟨S128x1024, .f32⟩
  | 32 => ⟨S128x1024, .f32⟩
  | 33 => ⟨S128x1024, .f32⟩
  | 34 => ⟨S1x1024, .f32⟩
  | 35 => ⟨S1024, .f32⟩
  | 36 => ⟨S128x1x1024, .f32⟩
  | 37 => ⟨S128x1024, .f32⟩
  | 38 => ⟨S1x1024, .f32⟩
  | 39 => ⟨S128x1024, .f32⟩
  | 40 => ⟨S128x1024, .f32⟩
  | 41 => ⟨S128x1024, .f32⟩
  | 42 => ⟨S1x1024, .f32⟩
  | 43 => ⟨S1024, .f32⟩
  | 44 => ⟨S128x1x1024, .f32⟩
  | 45 => ⟨S128x1024, .f32⟩
  | 46 => ⟨S1x1024, .f32⟩
  | 47 => ⟨S128x1024, .f32⟩
  | 48 => ⟨S128x1024, .f32⟩
  | 49 => ⟨S128x1024, .f32⟩
  | 50 => ⟨S1x1024, .f32⟩
  | 51 => ⟨S128x1024, .f32⟩
  | 52 => ⟨S128x1024, .f32⟩
  | 53 => ⟨S128x1024, .f32⟩
  | 54 => ⟨S128x1024, .f32⟩
  | 55 => ⟨S_, .f32⟩
  | 56 => ⟨S128x1024, .f32⟩
  | 57 => ⟨S128x1024, .f32⟩
  | 58 => ⟨S_, .f32⟩
  | 59 => ⟨S128x1024, .f32⟩
  | 60 => ⟨S128x1024, .f32⟩
  | 61 => ⟨S128x1024, .f32⟩
  | 62 => ⟨S128x512, .f32⟩
  | 63 => ⟨S128x8x64, .f32⟩
  | 64 => ⟨S128x256, .f32⟩
  | 65 => ⟨S128x2x128, .f32⟩
  | 66 => ⟨S128x256, .f32⟩
  | 67 => ⟨S128x2x128, .f32⟩
  | 68 => ⟨S1x8, .f32⟩
  | 69 => ⟨S128x8, .f32⟩
  | 70 => ⟨S128x8, .f32⟩
  | 71 => ⟨S_, .f32⟩
  | 72 => ⟨S128x8, .f32⟩
  | 73 => ⟨S128x8, .f32⟩
  | 74 => ⟨S128x8, .f32⟩
  | 75 => ⟨S128x8, .f32⟩
  | 76 => ⟨S128x8, .i1⟩
  | 77 => ⟨S128x8, .f32⟩
  | 78 => ⟨S128x8, .f32⟩
  | 79 => ⟨S128x8, .f32⟩
  | 80 => ⟨S128x8, .f32⟩
  | 81 => ⟨S128x8, .f32⟩
  | 82 => ⟨S128x8, .f32⟩
  | 83 => ⟨S128x8, .f32⟩
  | 84 => ⟨S128x8, .f32⟩
  | 85 => ⟨S8, .f32⟩
  | 86 => ⟨S8, .f32⟩
  | 87 => ⟨S1x8, .f32⟩
  | 88 => ⟨S128x8, .f32⟩
  | 89 => ⟨S128x8, .f32⟩
  | 90 => ⟨S128x8, .f32⟩
  | 91 => ⟨S128x2x4, .f32⟩
  | 92 => ⟨S128x2x4x64, .f32⟩
  | 93 => ⟨S128x2x4, .f32⟩
  | 94 => ⟨S128x2x4x1, .f32⟩
  | 95 => ⟨S128x2x4x64, .f32⟩
  | 96 => ⟨S128x2x4x64, .f32⟩
  | 97 => ⟨S128x2x4x1x1, .f32⟩
  | 98 => ⟨S1x128x8x64x128, .f32⟩
  | 99 => ⟨S128x8x64x128, .f32⟩
  | 100 => ⟨S128x2x4x64x128, .f32⟩
  | 101 => ⟨S128x2x4x64x128, .f32⟩
  | 102 => ⟨S128x2x4x64x128, .f32⟩
  | 103 => ⟨S128x2x4x64x1, .f32⟩
  | 104 => ⟨S128x2x1x1x128, .f32⟩
  | 105 => ⟨S128x2x4x64x128, .f32⟩
  | 106 => ⟨S128x2x4x64x128, .f32⟩
  | 107 => ⟨S128x2x4x64x128, .f32⟩
  | 108 => ⟨S128x2x4x64x128, .f32⟩
  | 109 => ⟨S128x2x4x64, .f32⟩
  | 110 => ⟨S128x8x64, .f32⟩
  | 111 => ⟨S8x1, .f32⟩
  | 112 => ⟨S1x8x1, .f32⟩
  | 113 => ⟨S128x8x64, .f32⟩
  | 114 => ⟨S128x8x64, .f32⟩
  | 115 => ⟨S128x8x64, .f32⟩
  | 116 => ⟨S128x512, .f32⟩
  | 117 => ⟨S128x512, .f32⟩
  | 118 => ⟨S128x512, .f32⟩
  | 119 => ⟨S_, .f32⟩
  | 120 => ⟨S128x512, .f32⟩
  | 121 => ⟨S128x512, .f32⟩
  | 122 => ⟨S_, .f32⟩
  | 123 => ⟨S128x512, .f32⟩
  | 124 => ⟨S128x512, .f32⟩
  | 125 => ⟨S128x512, .f32⟩
  | 126 => ⟨S128x512, .f32⟩
  | 127 => ⟨S128x2x256, .f32⟩
  | _ => ⟨S128x512, .f32⟩

abbrev hbmTy0_1 (i : Nat) : BufTy := match i % 128 with
  | 0 => ⟨S2x256, .f32⟩
  | 1 => ⟨S128x2x256, .f32⟩
  | 2 => ⟨S_, .f32⟩
  | 3 => ⟨S128x2, .f32⟩
  | 4 => ⟨S128x2x1, .f32⟩
  | 5 => ⟨S_, .f32⟩
  | 6 => ⟨S128x2x1, .f32⟩
  | 7 => ⟨S128x2x1, .f32⟩
  | 8 => ⟨S_, .f32⟩
  | 9 => ⟨S128x2x1, .f32⟩
  | 10 => ⟨S128x2x1, .f32⟩
  | 11 => ⟨S128x2x1, .f32⟩
  | 12 => ⟨S128x2x256, .f32⟩
  | 13 => ⟨S128x2x256, .f32⟩
  | 14 => ⟨S1x2x256, .f32⟩
  | 15 => ⟨S128x2x256, .f32⟩
  | 16 => ⟨S128x2x256, .f32⟩
  | 17 => ⟨S128x512, .f32⟩
  | 18 => ⟨S3x128x8x64x128, .f32⟩
  | 19 => ⟨S1x128x8x64x128, .f32⟩
  | 20 => ⟨S4x128x8x64x128, .f32⟩
  | 21 => ⟨S128x3x1024, .f32⟩
  | 22 => ⟨S3x128x1024, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call2_v0 : Ref sig .tc := ⟨.hbm, 117, rfl⟩
abbrev main_call2_v1 : Ref sig .tc := ⟨.hbm, 118, rfl⟩
abbrev main_call2_cst : Ref sig .tc := ⟨.hbm, 119, rfl⟩
abbrev main_call2_v2 : Ref sig .tc := ⟨.hbm, 120, rfl⟩
abbrev main_call2_v3 : Ref sig .tc := ⟨.hbm, 121, rfl⟩
abbrev main_call2_cst_0 : Ref sig .tc := ⟨.hbm, 122, rfl⟩
abbrev main_call2_v4 : Ref sig .tc := ⟨.hbm, 123, rfl⟩
abbrev main_call2_v5 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_0 : Ref sig .tc := ⟨.hbm, 130, rfl⟩
abbrev main_v88 : Ref sig .tc := ⟨.hbm, 131, rfl⟩
abbrev main_v89 : Ref sig .tc := ⟨.hbm, 132, rfl⟩
abbrev main_cst_1 : Ref sig .tc := ⟨.hbm, 133, rfl⟩
abbrev main_v90 : Ref sig .tc := ⟨.hbm, 134, rfl⟩
abbrev main_v91 : Ref sig .tc := ⟨.hbm, 135, rfl⟩
abbrev main_cst_2 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩

abbrev nD : Nat := 1
abbrev τ : Topo := Topo.v7x

variable {F : FTy → Type} [FloatOps F]
-- ==== Kernel8.lean ====
abbrev S4x4096x512 : Shape := ⟨3, ![4, 4096, 512]⟩
abbrev S4x4096x1024 : Shape := ⟨3, ![4, 4096, 1024]⟩
abbrev S4x4096x8 : Shape := ⟨3, ![4, 4096, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S16384x512 : Shape := ⟨2, ![16384, 512]⟩
abbrev S16384x1024 : Shape := ⟨2, ![16384, 1024]⟩
abbrev S16384x8 : Shape := ⟨2, ![16384, 8]⟩
abbrev S_ : Shape := ⟨0, ![]⟩
abbrev S16384x128 : Shape := ⟨2, ![16384, 128]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S1x1024 : Shape := ⟨2, ![1, 1024]⟩
abbrev S4x8x64x128 : Shape := ⟨4, ![4, 8, 64, 128]⟩
abbrev S4x3x1024 : Shape := ⟨3, ![4, 3, 1024]⟩
abbrev S128x512 : Shape := ⟨2, ![128, 512]⟩
abbrev S128x1024 : Shape := ⟨2, ![128, 1024]⟩
abbrev S128x128 : Shape := ⟨2, ![128, 128]⟩
abbrev S1x8x64x128 : Shape := ⟨4, ![1, 8, 64, 128]⟩
abbrev S1x3x1024 : Shape := ⟨3, ![1, 3, 1024]⟩
abbrev S136x1024 : Shape := ⟨2, ![136, 1024]⟩
abbrev S4x128x128 : Shape := ⟨3, ![4, 128, 128]⟩
abbrev S8x1024 : Shape := ⟨2, ![8, 1024]⟩
abbrev S3x1024 : Shape := ⟨2, ![3, 1024]⟩
abbrev S128x1 : Shape := ⟨2, ![128, 1]⟩
abbrev S1x128x128 : Shape := ⟨3, ![1, 128, 128]⟩
abbrev S128x256 : Shape := ⟨2, ![128, 256]⟩
abbrev S1x256 : Shape := ⟨2, ![1, 256]⟩
abbrev S2x64x128 : Shape := ⟨3, ![2, 64, 128]⟩
abbrev S1x2x64x128 : Shape := ⟨4, ![1, 2, 64, 128]⟩

abbrev nBuf : Space → Nat
  | .hbm => 31
  | .vmem => 20
  | .smem => 0
  | _ => 0

abbrev bufTy : (tb : Table) → Fin (tcTables nBuf tb) → BufTy
  | .hbm, ⟨0, _⟩ => ⟨S4x4096x512, .f32⟩
  | .hbm, ⟨1, _⟩ => ⟨S4x4096x1024, .f32⟩
  | .hbm, ⟨2, _⟩ => ⟨S4x4096x8, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S16384x512, .f32⟩
  | .hbm, ⟨10, _⟩ => ⟨S16384x1024, .f32⟩
  | .hbm, ⟨11, _⟩ => ⟨S16384x8, .f32⟩
  | .hbm, ⟨12, _⟩ => ⟨S_, .i32⟩
  | .hbm, ⟨13, _⟩ => ⟨S_, .f32⟩
  | .hbm, ⟨14, _⟩ => ⟨S16384x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S1x1024, .f32⟩
  | .hbm, ⟨27, _⟩ => ⟨S1x512, .f32⟩
  | .hbm, ⟨28, _⟩ => ⟨S16384x512, .f32⟩
  | .hbm, ⟨29, _⟩ => ⟨S4x8x64x128, .f32⟩
  | .hbm, ⟨30, _⟩ => ⟨S4x3x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S1x8x64x128, .f32⟩
  | .local _ .vmem, ⟨15, _⟩ => ⟨S1x8x64x128, .f32⟩
  | .local _ .vmem, ⟨16, _⟩ => ⟨S1x3x1024, .f32⟩
  | .local _ .vmem, ⟨17, _⟩ => ⟨S1x3x1024, .f32⟩
  | .local _ .vmem, ⟨18, _⟩ => ⟨S136x1024, .f32⟩
  | .local _ .vmem, ⟨19, _⟩ => ⟨S4x128x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v447 : BitVec 1 := Scalar.cmpi .eq arg1 c31_i32
  let v448 : BitVec 32 := Scalar.extui v447
  let c0_i32_133 : BitVec 32 := 0#32
  let v449 : BitVec 1 := Scalar.cmpi .ne v448 c0_i32_133
  v449

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference8Ideal.lean ====
abbrev S4x4096x512 : Shape := ⟨3, ![4, 4096, 512]⟩
abbrev S4x4096x1024 : Shape := ⟨3, ![4, 4096, 1024]⟩
abbrev S4x4096x8 : Shape := ⟨3, ![4, 4096, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x8x64 : Shape := ⟨4, ![4, 4096, 8, 64]⟩
abbrev S4x4096x256 : Shape := ⟨3, ![4, 4096, 256]⟩
abbrev S4x4096x2x128 : Shape := ⟨4, ![4, 4096, 2, 128]⟩
abbrev S1x1x8 : Shape := ⟨3, ![1, 1, 8]⟩
abbrev S4x32x128x2x4x64 : Shape := ⟨6, ![4, 32, 128, 2, 4, 64]⟩
abbrev S4x32x128x2x4 : Shape := ⟨5, ![4, 32, 128, 2, 4]⟩
abbrev S4x32x128x2x4x1 : Shape := ⟨6, ![4, 32, 128, 2, 4, 1]⟩
abbrev S4x32x128x2x128 : Shape := ⟨5, ![4, 32, 128, 2, 128]⟩
abbrev S4x32x1x2x4 : Shape := ⟨5, ![4, 32, 1, 2, 4]⟩
abbrev S4x32x2x4x64x128 : Shape := ⟨6, ![4, 32, 2, 4, 64, 128]⟩
abbrev S4x32x2x4 : Shape := ⟨4, ![4, 32, 2, 4]⟩
abbrev S4x2x4x64x128 : Shape := ⟨5, ![4, 2, 4, 64, 128]⟩
abbrev S32x4x2x4x64x128 : Shape := ⟨6, ![32, 4, 2, 4, 64, 128]⟩
abbrev S32x4x2x4 : Shape := ⟨4, ![32, 4, 2, 4]⟩
abbrev S1x4x2x4x64x128 : Shape := ⟨6, ![1, 4, 2, 4, 64, 128]⟩
abbrev S1x4x2x4 : Shape := ⟨4, ![1, 4, 2, 4]⟩
abbrev S4x2x4 : Shape := ⟨3, ![4, 2, 4]⟩
abbrev S4x2x4x1x1 : Shape := ⟨5, ![4, 2, 4, 1, 1]⟩
abbrev S4x8x64x128 : Shape := ⟨4, ![4, 8, 64, 128]⟩
abbrev S4x3x1024 : Shape := ⟨3, ![4, 3, 1024]⟩

abbrev nBuf : Space → Nat
  | .hbm => 132
  | .vmem => 0
  | .smem => 0
  | _ => 0

abbrev hbmTy0_0 (i : Nat) : BufTy := match i % 128 with
  | 0 => ⟨S4x4096x512, .f32⟩
  | 1 => ⟨S4x4096x1024, .f32⟩
  | 2 => ⟨S4x4096x8, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S_, .i32⟩
  | 10 => ⟨S_, .f32⟩
  | 11 => ⟨S4x4099x1024, .f32⟩
  | 12 => ⟨S1x1024, .f32⟩
  | 13 => ⟨S1024, .f32⟩
  | 14 => ⟨S4x4096x1024, .f32⟩
  | 15 => ⟨S1x1x1024, .f32⟩
  | 16 => ⟨S4x4096x1024, .f32⟩
  | 17 => ⟨S4x4096x1024, .f32⟩
  | 18 => ⟨S_, .f32⟩
  | 19 => ⟨S4x4096x1024, .f32⟩
  | 20 => ⟨S4x4096x1024, .f32⟩
  | 21 => ⟨S1x1024, .f32⟩
  | 22 => ⟨S1024, .f32⟩
  | 23 => ⟨S4x4096x1024, .f32⟩
  | 24 => ⟨S1x1x1024, .f32⟩
  | 25 => ⟨S4x4096x1024, .f32⟩
  | 26 => ⟨S4x4096x1024, .f32⟩
  | 27 => ⟨S4x4096x1024, .f32⟩
  | 28 => ⟨S1x1024, .f32⟩
  | 29 => ⟨S1024, .f32⟩
  | 30 => ⟨S4x4096x1024, .f32⟩
  | 31 => ⟨S1x1x1024, .f32⟩
  | 32 => ⟨S4x4096x1024, .f32⟩
  | 33 => ⟨S4x4096x1024, .f32⟩
  | 34 => ⟨S4x4096x1024, .f32⟩
  | 35 => ⟨S1x1024, .f32⟩
  | 36 => ⟨S1024, .f32⟩
  | 37 => ⟨S4x4096x1024, .f32⟩
  | 38 => ⟨S1x1x1024, .f32⟩
  | 39 => ⟨S4x4096x1024, .f32⟩
  | 40 => ⟨S4x4096x1024, .f32⟩
  | 41 => ⟨S4x4096x1024, .f32⟩
  | 42 => ⟨S1x1x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S_, .f32⟩
  | 48 => ⟨S4x4096x1024, .f32⟩
  | 49 => ⟨S4x4096x1024, .f32⟩
  | 50 => ⟨S_, .f32⟩
  | 51 => ⟨S4x4096x1024, .f32⟩
  | 52 => ⟨S4x4096x1024, .f32⟩
  | 53 => ⟨S4x4096x1024, .f32⟩
  | 54 => ⟨S4x4096x512, .f32⟩
  | 55 => ⟨S4x4096x8x64, .f32⟩
  | 56 => ⟨S4x4096x256, .f32⟩
  | 57 => ⟨S4x4096x2x128, .f32⟩
  | 58 => ⟨S1x1x8, .f32⟩
  | 59 => ⟨S4x4096x8, .f32⟩
  | 60 => ⟨S4x4096x8, .f32⟩
  | 61 => ⟨S_, .f32⟩
  | 62 => ⟨S4x4096x8, .f32⟩
  | 63 => ⟨S4x4096x8, .f32⟩
  | 64 => ⟨S4x4096x8, .f32⟩
  | 65 => ⟨S4x4096x8, .f32⟩
  | 66 => ⟨S4x4096x8, .i1⟩
  | 67 => ⟨S4x4096x8, .f32⟩
  | 68 => ⟨S4x4096x8, .f32⟩
  | 69 => ⟨S4x4096x8, .f32⟩
  | 70 => ⟨S4x4096x8, .f32⟩
  | 71 => ⟨S4x4096x8, .f32⟩
  | 72 => ⟨S4x4096x8, .f32⟩
  | 73 => ⟨S4x4096x8, .f32⟩
  | 74 => ⟨S4x4096x8, .f32⟩
  | 75 => ⟨S8, .f32⟩
  | 76 => ⟨S8, .f32⟩
  | 77 => ⟨S4x32x128x2x4x64, .f32⟩
  | 78 => ⟨S4x32x128x2x4, .f32⟩
  | 79 => ⟨S4x32x128x2x4x1, .f32⟩
  | 80 => ⟨S4x32x128x2x4x64, .f32⟩
  | 81 => ⟨S4x32x128x2x4x64, .f32⟩
  | 82 => ⟨S1x1x8, .f32⟩
  | 83 => ⟨S4x4096x8, .f32⟩
  | 84 => ⟨S4x4096x8, .f32⟩
  | 85 => ⟨S4x32x128x2x4, .f32⟩
  | 86 => ⟨S_, .f32⟩
  | 87 => ⟨S_, .f32⟩
  | 88 => ⟨S4x32x128x2x4, .f32⟩
  | 89 => ⟨S4x32x128x2x128, .f32⟩
  | 90 => ⟨S4x32x1x2x4, .f32⟩
  | 91 => ⟨S4x32x128x2x4, .f32⟩
  | 92 => ⟨S4x32x128x2x4, .f32⟩
  | 93 => ⟨S4x32x128x2x4, .f32⟩
  | 94 => ⟨S4x32x128x2x4x1, .f32⟩
  | 95 => ⟨S4x32x128x2x4x64, .f32⟩
  | 96 => ⟨S4x32x128x2x4x64, .f32⟩
  | 97 => ⟨S4x32x2x4x64x128, .f32⟩
  | 98 => ⟨S4x32x1x2x4, .f32⟩
  | 99 => ⟨S4x32x2x4, .f32⟩
  | 100 => ⟨S4x32x2x4, .f32⟩
  | 101 => ⟨S_, .f32⟩
  | 102 => ⟨S4x2x4x64x128, .f32⟩
  | 103 => ⟨S32x4x2x4x64x128, .f32⟩
  | 104 => ⟨S32x4x2x4, .f32⟩
  | 105 => ⟨S_, .i32⟩
  | 106 => ⟨S32x4x2x4x64x128, .f32⟩
  | 107 => ⟨S32x4x2x4, .f32⟩
  | 108 => ⟨S_, .i32⟩
  | 109 => ⟨S4x2x4x64x128, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x4x2x4x64x128, .f32⟩
  | 118 => ⟨S4x2x4x64x128, .f32⟩
  | 119 => ⟨S_, .i32⟩
  | 120 => ⟨S_, .i32⟩
  | 121 => ⟨S_, .i32⟩
  | 122 => ⟨S1x4x2x4, .f32⟩
  | 123 => ⟨S4x2x4, .f32⟩
  | 124 => ⟨S4x2x4x1x1, .f32⟩
  | 125 => ⟨S4x2x4x64x128, .f32⟩
  | 126 => ⟨S4x2x4x64x128, .f32⟩
  | 127 => ⟨S4x2x4x64x128, .f32⟩
  | _ => ⟨S4x4096x512, .f32⟩

abbrev hbmTy0_1 (i : Nat) : BufTy := match i % 128 with
  | 0 => ⟨S_, .i32⟩
  | 1 => ⟨S_, .i32⟩
  | 2 => ⟨S4x8x64x128, .f32⟩
  | 3 => ⟨S4x3x1024, .f32⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call3_call0_cst : Ref sig .tc := ⟨.hbm, 86, rfl⟩
abbrev main_call3_call0_v0 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_1 : Ref sig .tc := ⟨.hbm, 105, rfl⟩
abbrev main_v69_0 : Ref sig .tc := ⟨.hbm, 106, rfl⟩
abbrev main_v69_1 : Ref sig .tc := ⟨.hbm, 107, rfl⟩
abbrev main_v69_2 : Ref sig .tc := ⟨.hbm, 108, rfl⟩
abbrev main_v69_3 : Ref sig .tc := ⟨.hbm, 109, rfl⟩
abbrev main_while0c_c_5 : Ref sig .tc := ⟨.hbm, 110, rfl⟩
abbrev main_while0c_v72 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_c_2 : Ref sig .tc := ⟨.hbm, 115, rfl⟩
abbrev main_while0b_call4_c_3 : Ref sig .tc := ⟨.hbm, 116, rfl⟩
abbrev main_while0b_call4_v0 : Ref sig .tc := ⟨.hbm, 117, rfl⟩
abbrev main_while0b_v72 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_v0 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_c_5 : Ref sig .tc := ⟨.hbm, 128, rfl⟩
abbrev main_while0b_v78 : Ref sig .tc := ⟨.hbm, 129, rfl⟩
abbrev main_v70 : Ref sig .tc := ⟨.hbm, 130, rfl⟩
abbrev main_v71 : Ref sig .tc := ⟨.hbm, 131, rfl⟩

abbrev nD : Nat := 1
abbrev τ : Topo := Topo.v7x

variable {F : FTy → Type} [FloatOps F]

abbrev main_while0_count : Scf.Loop 32 := ⟨0#32, 32#32, 1#32⟩
-- ==== Proof.SsdRow.lean ====
/-
  ONE STEP OF THE STATE-SPACE RECURRENCE AT ONE ROW, on the extended reals: the four-tap convolution and its activation, the
  step size, the decay, the gated normalization of a group; which of them are real numbers when the inputs are; and the
  arithmetic that the kernels' splits of a number into parts need (a real number minus itself is zero).
-/
module

public import Idealize.ShloMosaic.Lib.Pointwise

@[expose] public section

noncomputable section

open Idealize.ShloMosaic

namespace Cert.SsdRow

/-- The number is neither infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.logistic {x : EReal} (hx : IsReal x) : IsReal (Ideal.logistic x) := by
  obtain ⟨a, rfl⟩ := hx
  exact ⟨_, Ideal.logistic_coe a⟩

theorem IsReal.sub_self {x : EReal} (hx : IsReal x) : x - x = 0 := by
  obtain ⟨a, rfl⟩ := hx
  rw [← EReal.coe_sub, _root_.sub_self, EReal.coe_zero]

/-- A number whose absolute value is below infinity is real. -/
theorem isReal_of_abs_lt {x : EReal} (h : max x (-x) < ⊤) : IsReal x := by
  induction x with
  | bot => simp at h
  | top => simp at h
  | coe r => exact ⟨r, rfl⟩

/-- The activation of a convolution's value. -/
def silu (x : EReal) : EReal := x * Ideal.logistic x

theorem IsReal.silu {x : EReal} (hx : IsReal x) : IsReal (silu x) := hx.mul hx.logistic

/-- The step size from its logit. -/
def softplus (x : EReal) : EReal := max x 0 + Ideal.log1p (Ideal.exp (-max x (-x)))

/-- Of a real logit the step size is real and not negative. -/
theorem softplus_real {x : EReal} (hx : IsReal x) : IsReal (softplus x) ∧ 0 ≤ softplus x := by
  obtain ⟨a, rfl⟩ := hx
  have hpos : (0 : ℝ) < Real.exp (-max a (-a)) := Real.exp_pos _
  have e : softplus (a : EReal) = ((max a 0 + Real.log (1 + Real.exp (-max a (-a))) : ℝ) : EReal) := by
    unfold softplus
    have h1 : max (a : EReal) (-(a : EReal)) = ((max a (-a) : ℝ) : EReal) := by
      rw [← EReal.coe_neg]; exact (EReal.coe_strictMono.monotone.map_max (a := a) (b := -a)).symm
    have h2 : max (a : EReal) 0 = ((max a 0 : ℝ) : EReal) := by
      rw [← EReal.coe_zero]; exact (EReal.coe_strictMono.monotone.map_max (a := a) (b := 0)).symm
    have h3 : Ideal.log1p ((Real.exp (-max a (-a)) : ℝ) : EReal) = ((Real.log (1 + Real.exp (-max a (-a))) : ℝ) : EReal) := by
      unfold Ideal.log1p
      rw [← EReal.coe_one, ← EReal.coe_add, Ideal.log_coe, if_neg (by linarith)]
    rw [h1, h2, ← EReal.coe_neg, Ideal.exp_coe, h3, ← EReal.coe_add]
  refine ⟨⟨_, e⟩, ?_⟩
  rw [e, ← EReal.coe_zero, EReal.coe_le_coe_iff]
  exact add_nonneg (le_max_right _ _) (Real.log_nonneg (by linarith))

theorem exp_nonneg (x : EReal) : 0 ≤ Ideal.exp x := by
  induction x with
  | bot => exact le_refl _
  | top => exact le_top
  | coe r => rw [Ideal.exp_coe]; exact EReal.coe_nonneg.mpr (Real.exp_pos r).le

/-- The decay of one step of size `t` at the rate `exp a`. -/
def decay (t a : EReal) : EReal := Ideal.exp (t * -Ideal.exp a)

/-- A step size that is not negative decays to a real number, whatever the rate. -/
theorem decay_real {t a : EReal} (ht : 0 ≤ t) : IsReal (decay t a) := by
  have h : t * -Ideal.exp a ≤ 0 := by
    rw [mul_neg, EReal.neg_le, neg_zero]
    exact EReal.mul_nonneg ht (exp_nonneg a)
  unfold decay
  generalize t * -Ideal.exp a = y at h ⊢
  induction y with
  | bot => exact ⟨0, rfl⟩
  | top => simp at h
  | coe r => exact ⟨_, Ideal.exp_coe r⟩

/-- A sum against the indicator of one index. -/
theorem sum_pick {n : ℕ} (f : Fin n → EReal) (k : Fin n) : (∑ j, f j * (if j = k then (1 : EReal) else 0)) = f k := by
  simp

/-- Entry `c` of a group's gated values `y · silu z`, normalized over the group's 256 entries, times the gain. -/
def nrm (y g : Fin 256 → EReal) (k : Fin 256) : EReal :=
  y k * Ideal.rsqrt (Ideal.div (∑ j, y j * y j) (Ideal.ofBits .f32 0x43800000#32) + Ideal.ofBits .f32 0x358637BD#32) * g k

theorem nrm_congr {y y' g g' : Fin 256 → EReal} (hy : ∀ j, y j = y' j) (hg : ∀ j, g j = g' j) (k : Fin 256) : nrm y g k = nrm y' g' k := by
  obtain rfl : y = y' := funext hy
  obtain rfl : g = g' := funext hg
  rfl

/-! ### One step at one row -/

section step
variable (x : Fin 1024 → EReal) (s : Fin 3 → Fin 1024 → EReal) (w : Fin 4 → Fin 1024 → EReal) (b : Fin 1024 → EReal)

/-- The convolution of the three kept rows and the new one. -/
def conv (k : Fin 1024) : EReal := b k + w 0 k * s 0 k + w 1 k * s 1 k + w 2 k * s 2 k + w 3 k * x k

variable {x s w b} in
theorem conv_real (hx : ∀ k, IsReal (x k)) (hs : ∀ j k, IsReal (s j k)) (hw : ∀ j k, IsReal (w j k)) (hb : ∀ k, IsReal (b k)) (k : Fin 1024) :
    IsReal (conv x s w b k) :=
  ((((hb k).add ((hw 0 k).mul (hs 0 k))).add ((hw 1 k).mul (hs 1 k))).add ((hw 2 k).mul (hs 2 k))).add ((hw 3 k).mul (hx k))

variable (cv : Fin 1024 → EReal) (t a : Fin 8 → EReal) (old : Fin 8 → Fin 64 → Fin 128 → EReal) (d : Fin 8 → EReal) (z g : Fin 512 → EReal)

/-- The new state at place `q = 64 h + p` and state index `n`: the old one decayed, plus the scaled value times the group's `B`. -/
def state (q : Fin 512) (n : Fin 128) : EReal :=
  decay (t ⟨q.val / 64, by omega⟩) (a ⟨q.val / 64, by omega⟩) * old ⟨q.val / 64, by omega⟩ ⟨q.val % 64, by omega⟩ n
    + silu (cv ⟨q.val, by omega⟩) * t ⟨q.val / 64, by omega⟩ * silu (cv ⟨512 + (q.val / 256 * 128 + n.val), by omega⟩)

theorem state_at (q : Fin 512) (h : Fin 8) (p : Fin 64) (n : Fin 128) (hq : q.val = 64 * h.val + p.val) :
    state cv t a old q n = decay (t h) (a h) * old h p n + silu (cv ⟨q.val, by omega⟩) * t h * silu (cv ⟨512 + (h.val / 4 * 128 + n.val), by omega⟩) := by
  have e1 : (⟨q.val / 64, by omega⟩ : Fin 8) = h := Fin.ext (by dsimp only; omega)
  have e2 : (⟨q.val % 64, by omega⟩ : Fin 64) = p := Fin.ext (by dsimp only; omega)
  have e3 : q.val / 256 = h.val / 4 := by omega
  unfold state
  simp only [e1, e2, e3]

/-- The output before the gate: the new state read through the group's `C`, plus the skip. -/
def skip (q : Fin 512) : EReal :=
  (∑ n : Fin 128, silu (cv ⟨768 + (q.val / 256 * 128 + n.val), by omega⟩) * state cv t a old q n) + d ⟨q.val / 64, by omega⟩ * silu (cv ⟨q.val, by omega⟩)

/-- The output: the gated values normalized over each half. -/
def out (q : Fin 512) : EReal :=
  nrm (fun j => skip cv t a old d ⟨q.val / 256 * 256 + j.val, by omega⟩ * silu (z ⟨q.val / 256 * 256 + j.val, by omega⟩))
    (fun j => g ⟨q.val / 256 * 256 + j.val, by omega⟩) ⟨q.val % 256, by omega⟩

end step

end Cert.SsdRow
end
-- ==== Proof.SsdStep.lean ====
/-
  ONE STEP OF THE STATE-SPACE RECURRENCE (samples): what the kernel's body computes for a block of eight rows, of any blocks. The
  body spreads the eight heads' step sizes and decays over the 512 places by products with a 0/1 matrix, splits every factor into
  a leading part and remainders, and makes each row's decay and outer product from one product over sixteen pieces; on the
  extended reals the remainders of real numbers are zero and the pieces left are those of `SsdRow.state`.
-/
module

public import proofs.«01_k».proof.Defs
public import proofs.«01_k».proof.Proof.Gen.Kernel7Ideal.Value
public import proofs.«01_k».proof.Proof.SsdRow
public import Idealize.ShloMosaic.Lib.Pointwise
public import Idealize.ShloMosaic.Lib.ValueIdx
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen

/-- The 0/1 matrix that repeats head `q / 64`'s entry at place `q`. -/
abbrev EM : Vec Ideal S128x512 .bf16 := k0_pay15 (F := Ideal) (iota .tc S128x512 32 [0] iota_S128x512_d0_w32) k0_pay14

theorem shift6 : ∀ q : Fin 512, IntOp.shrsi .vector (BitVec.ofNat 32 q.val) 6#32 = BitVec.ofNat 32 (q.val / 64) := by decide +kernel

/-- Choosing by the first or second half of the 512 places. -/
theorem lt256 (q : Fin 512) {α : Type} (a b : α) : Scalar.select (IntOp.cmpi .slt (BitVec.ofNat 32 q.val) 256#32) a b = if q.val < 256 then a else b := by
  have h : ∀ q : Fin 512, IntOp.cmpi .slt (BitVec.ofNat 32 q.val) 256#32 = if q.val < 256 then 1#1 else 0#1 := by decide +kernel
  rw [h q]
  by_cases hq : q.val < 256
  · rw [if_pos hq, if_pos hq]; rfl
  · rw [if_neg hq, if_neg hq]; rfl

theorem em_apply (k : Fin 128) (q : Fin 512) : EM (ix2 k q) = if k = (⟨q.val / 64, by omega⟩ : Fin 128) then 1 else 0 := by
  unfold EM k0_pay15 k0_pay14
  pointwise
  rw [shift6 q, WordCmp.cmpi_eq_ofNat (by omega) (by omega)]
  by_cases h : k.val = q.val / 64
  · rw [if_pos (Fin.ext h), decide_eq_true h]; rfl
  · rw [if_neg fun e => h (congrArg Fin.val e), decide_eq_false h]; rfl

/-! ### The steps before the state -/

theorem pay12_apply (x2 : Vec Ideal S8x128 .f32) (x7 : Vec Ideal S1x128 .f32) (r : Fin 8) (k : Fin 128) :
    k0_pay12 x2 x7 (ix2 r k) = SsdRow.softplus (x2 (ix2 r k) + x7 (ix2 0 k)) := by
  unfold k0_pay12
  pointwise
  unfold SsdRow.softplus
  rw [zero_sub]
  rfl

theorem pay13_apply (x2 : Vec Ideal S8x128 .f32) (x7 x8 : Vec Ideal S1x128 .f32) (r : Fin 8) (k : Fin 128) (hk : k.val < 8) :
    k0_pay13 x2 x7 x8 (ix2 r k) = SsdRow.decay (SsdRow.softplus (x2 (ix2 r k) + x7 (ix2 0 k))) (x8 (ix2 0 k)) := by
  unfold k0_pay13
  pointwise [pay12_apply]
  unfold SsdRow.decay
  have h : ∀ k : Fin 128, k.val < 8 → IntOp.cmpi .slt (BitVec.ofNat 32 k.val) 8#32 = 1#1 := by decide +kernel
  rw [h k hk, zero_sub]
  rfl

theorem pay4_apply (x1 : Vec Ideal S8x1024 .f32) (s0 s1 s2 : Vec Ideal S1x1x8x1024 .f32) (b w0 w1 w2 w3 : Vec Ideal S1x1024 .f32) (r : Fin 8) (k : Fin 1024) :
    k0_pay4 x1 s0 s1 s2 b w0 w1 w2 w3 (ix2 r k) = b (ix2 0 k) + w0 (ix2 0 k) * s0 (ix4 0 0 r k) + w1 (ix2 0 k) * s1 (ix4 0 0 r k)
      + w2 (ix2 0 k) * s2 (ix4 0 0 r k) + w3 (ix2 0 k) * x1 (ix2 r k) := by
  unfold k0_pay4 k0_pay2 k0_pay3
  pointwise

theorem pay8_apply (CV : Vec Ideal S8x1024 .f32) (r : Fin 8) (k : Fin 1024) : k0_pay8 (F := Ideal) CV (ix2 r k) = SsdRow.silu (CV (ix2 r k)) := by
  unfold k0_pay8
  pointwise
  rfl

theorem pay16_apply (xs : Vec Ideal S8x512 .f32) (d : Vec Ideal S8x128 .f32) (r : Fin 8) (q : Fin 512)
    (hd : SsdRow.IsReal (d (ix2 r ⟨q.val / 64, by omega⟩))) :
    k0_pay16 (F := Ideal) xs d (iota .tc S128x512 32 [0] iota_S128x512_d0_w32) k0_pay14 (ix2 r q) = xs (ix2 r q) * d (ix2 r ⟨q.val / 64, by omega⟩) := by
  unfold k0_pay16
  have hE := em_apply
  unfold EM at hE
  generalize k0_pay15 (F := Ideal) (iota .tc S128x512 32 [0] iota_S128x512_d0_w32) k0_pay14 = E at hE ⊢
  pointwise [dot_S8x128_S128x512_S8x512_1_0_0_1_n_n, hE, SsdRow.sum_pick]
  rw [hd.sub_self]
  simp

theorem pay17_apply (d : Vec Ideal S8x128 .f32) (r : Fin 8) (q : Fin 512)
    (hd : SsdRow.IsReal (d (ix2 r ⟨q.val / 64, by omega⟩))) :
    k0_pay17 (F := Ideal) d (iota .tc S128x512 32 [0] iota_S128x512_d0_w32) k0_pay14 (ix2 r q) = d (ix2 r ⟨q.val / 64, by omega⟩) := by
  unfold k0_pay17
  have hE := em_apply
  unfold EM at hE
  generalize k0_pay15 (F := Ideal) (iota .tc S128x512 32 [0] iota_S128x512_d0_w32) k0_pay14 = E at hE ⊢
  pointwise [dot_S8x128_S128x512_S8x512_1_0_0_1_n_n, hE, SsdRow.sum_pick]
  rw [hd.sub_self]
  simp

/-- A sum over 128 rows of which only those congruent to `i` modulo 8 count. -/
theorem sum_strided (f : Fin 128 → EReal) (i : Fin 8) :
    ∑ k : Fin 128, (if k.val % 8 = i.val then f k else 0) = ∑ p : Fin 16, f ⟨8 * p.val + i.val, by omega⟩ := by
  rw [← Equiv.sum_comp (finProdFinEquiv : Fin 16 × Fin 8 ≃ Fin 128), Fintype.sum_prod_type]
  refine Finset.sum_congr rfl fun p _ => ?_
  rw [Finset.sum_eq_single i]
  · have e : (finProdFinEquiv (p, i) : Fin 128) = ⟨8 * p.val + i.val, by omega⟩ := Fin.ext (by show i.val + 8 * p.val = 8 * p.val + i.val; omega)
    have e8 : (8 * p.val + i.val) % 8 = i.val := by omega
    rw [e, if_pos e8]
  · intro j _ hj
    refine if_neg ?_
    show ¬ (j.val + 8 * p.val) % 8 = i.val
    intro h
    exact hj (Fin.ext (by omega))
  · simp

/-- The new state of the block's row whose number is the word `b`, from the left and right factors and the old state. -/
def hnew (XT : Vec Ideal S512x128 .bf16) (R : Vec Ideal S128x256 .f32) (b : BitVec 32) (h : Vec Ideal S1x1x8x64x128 .f32) : Vec Ideal S512x128 .f32 :=
  k0_pay33 (F := Ideal) XT R (cmpi .eq k0_pay27 (broadcast S128x256 b)) h

/-- Choosing the rows congruent to `i` modulo 8. -/
theorem row_word (i : Fin 8) (k : Fin 128) {α : Type} (a b : α) :
    Scalar.select (IntOp.cmpi .eq (IntOp.andi (BitVec.ofNat 32 k.val) 7#32) (BitVec.ofNat 32 i.val)) a b = if k.val % 8 = i.val then a else b := by
  have h : ∀ k : Fin 128, ∀ i : Fin 8, IntOp.cmpi .eq (IntOp.andi (BitVec.ofNat 32 k.val) 7#32) (BitVec.ofNat 32 i.val) = if k.val % 8 = i.val then 1#1 else 0#1 := by decide +kernel
  rw [h k i]
  by_cases hq : k.val % 8 = i.val
  · rw [if_pos hq, if_pos hq]; rfl
  · rw [if_neg hq, if_neg hq]; rfl

theorem hnew_apply (XT : Vec Ideal S512x128 .bf16) (R : Vec Ideal S128x256 .f32) (i : Fin 8) (h : Vec Ideal S1x1x8x64x128 .f32) (q : Fin 512) (n : Fin 128) :
    hnew XT R (BitVec.ofNat 32 i.val) h (ix2 q n)
      = (∑ p : Fin 16, XT (ix2 q ⟨8 * p.val + i.val, by omega⟩) * R (ix2 ⟨8 * p.val + i.val, by omega⟩ ⟨128 + n.val, by omega⟩)) * h (ix5 0 0 ⟨q.val / 64, by omega⟩ ⟨q.val % 64, by omega⟩ n)
        + ∑ p : Fin 16, XT (ix2 q ⟨8 * p.val + i.val, by omega⟩) * R (ix2 ⟨8 * p.val + i.val, by omega⟩ ⟨n.val, by omega⟩) := by
  unfold hnew k0_pay33 k0_pay27
  pointwise [dot_S512x128_S128x256_S512x256_1_0_0_1_n_n]
  simp only [row_word, sum_strided]

/-- The new row's products with the two groups' `C`. -/
def yrow (c0 c1 : Vec Ideal S1x128 .f32) (H : Vec Ideal S512x128 .f32) : Vec Ideal S1x512 .f32 :=
  k0_pay62 (iota .tc S1x512 32 [1] iota_S1x512_d1_w32) H (k0_pay59 (iota .tc S8x128 32 [0] iota_S8x128_d0_w32))
    (select (cmpi .eq (iota .tc S8x128 32 [0] iota_S8x128_d0_w32) (broadcast S8x128 1#32)) (broadcastTo S8x128 (shapeCast S1x128 c1 shapeCasts_S1x128_S1x128) broadcasts_S1x128_S8x128)
      (broadcast S8x128 (Scalar.ofBits (F := Ideal) .f32 0x00000000#32)))
    (shapeCast S1x128 c0 shapeCasts_S1x128_S1x128)

theorem yrow_apply (c0 c1 : Vec Ideal S1x128 .f32) (H : Vec Ideal S512x128 .f32) (q : Fin 512) :
    yrow c0 c1 H (ix2 0 q) = ∑ n, (if q.val < 256 then c0 (ix2 0 n) else c1 (ix2 0 n)) * H (ix2 q n) := by
  unfold yrow k0_pay62 k0_pay59
  pointwise [dot_S8x128_S512x128_S8x512_1_1_0_0_n_n]
  rw [lt256]
  by_cases hq : q.val < 256
  · simp only [if_pos hq]
  · simp only [if_neg hq]; rfl

section factors
variable (X0 X1 D0 D1 D2 : Vec Ideal S8x512 .bf16)

/-- The left factor's entry in row `8 p + i` of its sixteen pieces. -/
theorem xt_apply (i : Fin 8) (q : Fin 512) (p : Fin 16) :
    k0_pay25 (F := Ideal) X0 X1 D0 D1 D2 k0_pay24 (FloatOps.ofBits FTy.f32 0#32) (ix2 q ⟨8 * p.val + i.val, by omega⟩)
      = (![if q.val < 256 then X0 (ix2 i q) else 0, if q.val < 256 then X0 (ix2 i q) else 0, if q.val < 256 then X1 (ix2 i q) else 0,
          if q.val < 256 then 0 else X0 (ix2 i q), if q.val < 256 then 0 else X0 (ix2 i q), if q.val < 256 then 0 else X1 (ix2 i q),
          D0 (ix2 i q), D1 (ix2 i q), D2 (ix2 i q), 0, 0, 0, 0, 0, 0, 0] : Fin 16 → EReal) p := by
  unfold k0_pay25 k0_pay24
  pointwise
  simp only [lt256]
  by_cases hq : q.val < 256 <;> simp only [hq, if_true, if_false] <;> fin_cases p <;> dsimp only
  all_goals repeat refine (dif_neg (by omega)).trans ?_
  all_goals try refine (dif_pos (by omega)).trans ?_
  all_goals first
    | rfl
    | exact congrArg (fun j => X0 (ix2 j q)) (Fin.ext (by dsimp only; omega))
    | exact congrArg (fun j => X1 (ix2 j q)) (Fin.ext (by dsimp only; omega))
    | exact congrArg (fun j => D0 (ix2 j q)) (Fin.ext (by dsimp only; omega))
    | exact congrArg (fun j => D1 (ix2 j q)) (Fin.ext (by dsimp only; omega))
    | exact congrArg (fun j => D2 (ix2 j q)) (Fin.ext (by dsimp only; omega))

end factors

/-- The right factor's entry in row `8 p + i`, in the left half: the two groups' `B` in parts. -/
theorem r_left (B : Vec Ideal S8x256 .f32) (i : Fin 8) (n : Fin 128) (p : Fin 16) :
    k0_pay26 (F := Ideal) B (ix2 ⟨8 * p.val + i.val, by omega⟩ ⟨n.val, by omega⟩)
      = (![B (ix2 i ⟨n.val, by omega⟩), B (ix2 i ⟨n.val, by omega⟩) - B (ix2 i ⟨n.val, by omega⟩), B (ix2 i ⟨n.val, by omega⟩),
          B (ix2 i ⟨128 + n.val, by omega⟩), B (ix2 i ⟨128 + n.val, by omega⟩) - B (ix2 i ⟨128 + n.val, by omega⟩), B (ix2 i ⟨128 + n.val, by omega⟩),
          0, 0, 0, 0, 0, 0, 0, 0, 0, 0] : Fin 16 → EReal) p := by
  unfold k0_pay26
  pointwise
  fin_cases p <;> dsimp only
  all_goals repeat refine (dif_neg (by omega)).trans ?_
  all_goals try refine (dif_pos (by omega)).trans ?_
  all_goals first
    | rfl
    | exact congrArg (fun j => B (ix2 j ⟨n.val, by omega⟩)) (Fin.ext (by dsimp only; omega))
    | exact congrArg (fun j => B (ix2 j ⟨128 + n.val, by omega⟩)) (Fin.ext (by dsimp only; omega))
    | exact congrArg (fun j => B (ix2 j ⟨n.val, by omega⟩) - B (ix2 j ⟨n.val, by omega⟩)) (Fin.ext (by dsimp only; omega))
    | exact congrArg (fun j => B (ix2 j ⟨128 + n.val, by omega⟩) - B (ix2 j ⟨128 + n.val, by omega⟩)) (Fin.ext (by dsimp only; omega))

/-- The same in the right half: ones against the decays, zeros elsewhere. -/
theorem r_right (B : Vec Ideal S8x256 .f32) (i : Fin 8) (n : Fin 128) (p : Fin 16) :
    k0_pay26 (F := Ideal) B (ix2 ⟨8 * p.val + i.val, by omega⟩ ⟨128 + n.val, by omega⟩)
      = (![0, 0, 0, 0, 0, 0, 1, 1, 1, 0, 0, 0, 0, 0, 0, 0] : Fin 16 → EReal) p := by
  unfold k0_pay26
  pointwise
  fin_cases p <;> dsimp only
  all_goals repeat refine (dif_neg (by omega)).trans ?_
  all_goals try refine (dif_pos (by omega)).trans ?_
  all_goals rfl

/-- The new state of row `i`: the old one times the decay, plus the outer product of the scaled values with the head's group's `B`. -/
theorem hnew_value (X0 X1 D0 D1 D2 : Vec Ideal S8x512 .bf16) (B : Vec Ideal S8x256 .f32) (h : Vec Ideal S1x1x8x64x128 .f32) (i : Fin 8) (q : Fin 512) (n : Fin 128)
    (hX : X1 (ix2 i q) = 0) (h1 : D1 (ix2 i q) = 0) (h2 : D2 (ix2 i q) = 0) (hB : ∀ k, SsdRow.IsReal (B (ix2 i k))) :
    hnew (k0_pay25 (F := Ideal) X0 X1 D0 D1 D2 k0_pay24 (FloatOps.ofBits FTy.f32 0#32)) (k0_pay26 (F := Ideal) B) (BitVec.ofNat 32 i.val) h (ix2 q n)
      = D0 (ix2 i q) * h (ix5 0 0 ⟨q.val / 64, by omega⟩ ⟨q.val % 64, by omega⟩ n)
        + X0 (ix2 i q) * B (ix2 i ⟨q.val / 256 * 128 + n.val, by omega⟩) := by
  rw [hnew_apply]
  simp only [xt_apply, r_left, r_right, Fin.sum_univ_succ, Fin.sum_univ_zero, hX, h1, h2, (hB _).sub_self]
  by_cases hq : q.val < 256
  · have e : (⟨q.val / 256 * 128 + n.val, by omega⟩ : Fin 256) = ⟨n.val, by omega⟩ := Fin.ext (by dsimp only; omega)
    rw [e]
    simp [hq]
  · have e : (⟨q.val / 256 * 128 + n.val, by omega⟩ : Fin 256) = ⟨128 + n.val, by omega⟩ := Fin.ext (by dsimp only; omega)
    rw [e]
    simp [hq]

/-! ### A row's new state and output, of any blocks -/

section row
variable (CV : Vec Ideal S8x1024 .f32) (x2 : Vec Ideal S8x128 .f32) (x7 x8 : Vec Ideal S1x128 .f32)

/-- The left factor the body builds from the convolution's values, the step sizes' logits, and the rates. -/
abbrev XT : Vec Ideal S512x128 .bf16 :=
  k0_pay25 (F := Ideal)
    (k0_pay18 (k0_pay9 CV) (k0_pay12 x2 x7) (iota .tc S128x512 32 [0] iota_S128x512_d0_w32) k0_pay14)
    (k0_pay19 (k0_pay9 CV) (k0_pay12 x2 x7) (iota .tc S128x512 32 [0] iota_S128x512_d0_w32) k0_pay14)
    (k0_pay20 (k0_pay13 x2 x7 x8) (iota .tc S128x512 32 [0] iota_S128x512_d0_w32) k0_pay14)
    (k0_pay22 (k0_pay13 x2 x7 x8) (iota .tc S128x512 32 [0] iota_S128x512_d0_w32) k0_pay14)
    (k0_pay23 (k0_pay13 x2 x7 x8) (iota .tc S128x512 32 [0] iota_S128x512_d0_w32) k0_pay14)
    k0_pay24 (FloatOps.ofBits FTy.f32 0#32)

/-- The step size of row `r` at head `h`. -/
abbrev stp (r : Fin 8) (h : Fin 8) : EReal := SsdRow.softplus (x2 (ix2 r ⟨h.val, by omega⟩) + x7 (ix2 0 ⟨h.val, by omega⟩))

/-- The head of a place among the 512. -/
abbrev hd (q : Fin 512) : Fin 8 := ⟨q.val / 64, by omega⟩

/-- The new state of row `r` over the old state's block `h`. -/
abbrev st (h : Vec Ideal S1x1x8x64x128 .f32) (r : Fin 8) (q : Fin 512) (n : Fin 128) : EReal :=
  SsdRow.decay (stp x2 x7 r (hd q)) (x8 (ix2 0 ⟨q.val / 64, by omega⟩)) * h (ix5 0 0 (hd q) ⟨q.val % 64, by omega⟩ n)
    + SsdRow.silu (CV (ix2 r ⟨q.val, by omega⟩)) * stp x2 x7 r (hd q) * SsdRow.silu (CV (ix2 r ⟨512 + (q.val / 256 * 128 + n.val), by omega⟩))

variable (hc : ∀ r k, SsdRow.IsReal (CV (ix2 r k)))
  (ht : ∀ (r h : Fin 8), SsdRow.IsReal (x2 (ix2 r ⟨h.val, by omega⟩) + x7 (ix2 0 ⟨h.val, by omega⟩)))
include hc ht

theorem state_row (h : Vec Ideal S1x1x8x64x128 .f32) (i : Fin 8) (q : Fin 512) (n : Fin 128) :
    hnew (XT CV x2 x7 x8) (k0_pay26 (F := Ideal) (k0_pay10 CV)) (BitVec.ofNat 32 i.val) h (ix2 q n) = st CV x2 x7 x8 h i q n := by
  have hxs : ∀ r (k : Fin 512), k0_pay9 (F := Ideal) CV (ix2 r k) = SsdRow.silu (CV (ix2 r ⟨k.val, by omega⟩)) := fun r k => by
    unfold k0_pay9; pointwise [pay8_apply]
  have hB : ∀ r (k : Fin 256), k0_pay10 (F := Ideal) CV (ix2 r k) = SsdRow.silu (CV (ix2 r ⟨512 + k.val, by omega⟩)) := fun r k => by
    unfold k0_pay10; pointwise [pay8_apply]
  have hD : ∀ (r : Fin 8) (q : Fin 512), k0_pay12 x2 x7 (ix2 r ⟨q.val / 64, by omega⟩) = stp x2 x7 r (hd q) := fun r q => pay12_apply x2 x7 r _
  have hDr : ∀ (r : Fin 8) (q : Fin 512), SsdRow.IsReal (k0_pay12 x2 x7 (ix2 r ⟨q.val / 64, by omega⟩)) := fun r q => by
    rw [hD]; exact (SsdRow.softplus_real (ht r (hd q))).1
  have hA : ∀ (r : Fin 8) (q : Fin 512), k0_pay13 x2 x7 x8 (ix2 r ⟨q.val / 64, by omega⟩) = SsdRow.decay (stp x2 x7 r (hd q)) (x8 (ix2 0 ⟨q.val / 64, by omega⟩)) :=
    fun r q => pay13_apply x2 x7 x8 r _ (by dsimp only; omega)
  have hAr : ∀ (r : Fin 8) (q : Fin 512), SsdRow.IsReal (k0_pay13 x2 x7 x8 (ix2 r ⟨q.val / 64, by omega⟩)) := fun r q => by
    rw [hA]; exact SsdRow.decay_real (SsdRow.softplus_real (ht r (hd q))).2
  have h16 := pay16_apply (k0_pay9 (F := Ideal) CV) (k0_pay12 (F := Ideal) x2 x7) i q (hDr i q)
  have h17 := pay17_apply (k0_pay13 (F := Ideal) x2 x7 x8) i q (hAr i q)
  have r16 : SsdRow.IsReal (k0_pay9 (F := Ideal) CV (ix2 i q) * k0_pay12 x2 x7 (ix2 i ⟨q.val / 64, by omega⟩)) := by
    rw [hxs]; exact (hc _ _).silu.mul (hDr i q)
  refine (hnew_value _ _ _ _ _ _ h i q n ?_ ?_ ?_ fun k => ?_).trans ?_
  · show k0_pay16 (F := Ideal) _ _ _ _ _ - k0_pay16 _ _ _ _ _ = _
    rw [h16]; exact r16.sub_self
  · show k0_pay17 (F := Ideal) _ _ _ _ - k0_pay17 _ _ _ _ = _
    rw [h17]; exact (hAr i q).sub_self
  · show k0_pay17 (F := Ideal) _ _ _ _ - k0_pay17 _ _ _ _ - (k0_pay17 _ _ _ _ - k0_pay17 _ _ _ _) = _
    rw [h17, (hAr i q).sub_self]; exact sub_zero _
  · rw [hB]; exact (hc _ _).silu
  · show k0_pay17 (F := Ideal) _ _ _ _ * _ + k0_pay16 _ _ _ _ _ * _ = _
    rw [h16, h17, hA, hB, hxs, hD]

theorem out_row (h : Vec Ideal S1x1x8x64x128 .f32) (i : Fin 8) (c0 c1 : Vec Ideal S1x128 .f32)
    (e0 : ∀ n, c0 (ix2 0 n) = SsdRow.silu (CV (ix2 i ⟨768 + n.val, by omega⟩))) (e1 : ∀ n, c1 (ix2 0 n) = SsdRow.silu (CV (ix2 i ⟨768 + (128 + n.val), by omega⟩))) (q : Fin 512) :
    yrow c0 c1 (hnew (XT CV x2 x7 x8) (k0_pay26 (F := Ideal) (k0_pay10 CV)) (BitVec.ofNat 32 i.val) h) (ix2 0 q)
      = ∑ n : Fin 128, SsdRow.silu (CV (ix2 i ⟨768 + (q.val / 256 * 128 + n.val), by omega⟩)) * st CV x2 x7 x8 h i q n := by
  rw [yrow_apply]
  refine Finset.sum_congr rfl fun n _ => ?_
  rw [state_row CV x2 x7 x8 hc ht, e0, e1]
  by_cases hq : q.val < 256
  · rw [if_pos hq]
    exact congrArg (fun k => SsdRow.silu (CV (ix2 i k)) * st CV x2 x7 x8 h i q n) (Fin.ext (by dsimp only; omega))
  · rw [if_neg hq]
    exact congrArg (fun k => SsdRow.silu (CV (ix2 i k)) * st CV x2 x7 x8 h i q n) (Fin.ext (by dsimp only; omega))

end row

/-- The gated normalization of a row, of any blocks. -/
theorem gate_apply (xs Y : Vec Ideal S8x512 .f32) (x9 : Vec Ideal S1x512 .f32) (x0 : Vec Ideal S8x512 .f32) (x10 : Vec Ideal S1x512 .f32) (r : Fin 8) (q : Fin 512) :
    k0_pay1 (F := Ideal) (k0_pay65 xs Y x9 x0 x10) (k0_pay66 xs Y x9 x0) (k0_pay67 x10) (k0_pay68 xs Y x9 x0) (ix2 r q)
      = SsdRow.nrm (fun j => (Y (ix2 r ⟨q.val / 256 * 256 + j.val, by omega⟩) + x9 (ix2 0 ⟨q.val / 256 * 256 + j.val, by omega⟩) * xs (ix2 r ⟨q.val / 256 * 256 + j.val, by omega⟩))
            * SsdRow.silu (x0 (ix2 r ⟨q.val / 256 * 256 + j.val, by omega⟩)))
          (fun j => x10 (ix2 0 ⟨q.val / 256 * 256 + j.val, by omega⟩)) ⟨q.val % 256, by omega⟩ := by
  have hG : ∀ r (q : Fin 512), k0_pay64 (F := Ideal) xs Y x9 x0 (ix2 r q) = (Y (ix2 r q) + x9 (ix2 0 q) * xs (ix2 r q)) * SsdRow.silu (x0 (ix2 r q)) := fun r q => by
    unfold k0_pay64; pointwise; rfl
  unfold k0_pay1 k0_pay65 k0_pay68 k0_pay66 k0_pay67 k0_pay63
  simp only [← hG]
  generalize k0_pay64 (F := Ideal) xs Y x9 x0 = G
  pointwise
  unfold SsdRow.nrm
  have e0 : (⟨q.val / 256 * 256 + q.val % 256, by omega⟩ : Fin 512) = q := Fin.ext (by dsimp only; omega)
  dsimp only
  simp only [e0]
  by_cases hq : q.val < 256
  · have e : ∀ j : Fin 256, (⟨q.val / 256 * 256 + j.val, by omega⟩ : Fin 512) = ⟨j.val, by omega⟩ := fun j => Fin.ext (by dsimp only; omega)
    rw [dif_pos hq]
    simp only [e]
  · have e : ∀ j : Fin 256, (⟨q.val / 256 * 256 + j.val, by omega⟩ : Fin 512) = ⟨256 + j.val, by omega⟩ := fun j => Fin.ext (by dsimp only; omega)
    have e1 : (⟨256 + (q.val - 256), by omega⟩ : Fin 512) = q := Fin.ext (by dsimp only; omega)
    rw [dif_neg hq]
    simp only [e, e1]

/-! ### The three results, of the argument arrays -/

section arrays
variable (a0 : S128x512.Idx → EReal) (a1 : S128x1024.Idx → EReal) (a2 : S128x8.Idx → EReal) (a3 : S4x128x3x1024.Idx → EReal)
  (a4 : S4x128x8x64x128.Idx → EReal) (a5 : S4x1024.Idx → EReal) (a6 : S1024.Idx → EReal) (a7 a8 a9 : S8.Idx → EReal)
  (a10 : S512.Idx → EReal) (a11 : S4x128x8x64x128.Idx → EReal) (R : Fin 128)

/-- The convolution's values at row `R`, layer 3's kept rows before it. -/
abbrev cvOf : Fin 1024 → EReal :=
  SsdRow.conv (fun k => a1 (ix2 R k)) (fun j k => a3 (ix4 3 R j k)) (fun j k => a5 (ix2 j k)) (fun k => a6 (ix1 k))

/-- The step sizes at row `R`. -/
abbrev tOf : Fin 8 → EReal := fun h => SsdRow.softplus (a2 (ix2 R h) + a7 (ix1 h))

/-- Layer 3's state at row `R`. -/
abbrev oldOf : Fin 8 → Fin 64 → Fin 128 → EReal := fun h p n => a4 (ix5 3 R h p n)

/-- The new state at row `R`. -/
abbrev newOf : Fin 512 → Fin 128 → EReal := SsdRow.state (cvOf a1 a3 a5 a6 R) (tOf a2 a7 R) (fun h => a8 (ix1 h)) (oldOf a4 R)

/-- The output. -/
abbrev yOf : S128x512.Idx → EReal := fun i =>
  SsdRow.out (cvOf a1 a3 a5 a6 (i 0)) (tOf a2 a7 (i 0)) (fun h => a8 (ix1 h)) (oldOf a4 (i 0)) (fun h => a9 (ix1 h)) (fun q => a0 (ix2 (i 0) q))
    (fun q => a10 (ix1 q)) (i 1)

/-- The new state stacked as layer 3 on the layers before it. -/
def hOf : S4x128x8x64x128.Idx → EReal := fun i =>
  if (i 0).val = 3 then newOf a1 a2 a3 a4 a5 a6 a7 a8 (i 1) ⟨64 * (i 2).val + (i 3).val, by
    have h2 : (i 2).val < 8 := (i 2).isLt
    have h3 : (i 3).val < 64 := (i 3).isLt
    omega⟩ (i 4) else a11 i

/-- The rows the next step's convolution keeps: the last two kept ones and the new one. -/
abbrev keptOf : S3x128x1024.Idx → EReal := fun i =>
  (![a3 (ix4 3 (i 1) 1 (i 2)), a3 (ix4 3 (i 1) 2 (i 2)), a1 (ix2 (i 1) (i 2))] : Fin 3 → EReal) (i 0)

end arrays

end Cert.Kernel7Ideal.Hand
-- ==== Proof.Step7.lean ====
/-
  ONE STEP OF THE STATE-SPACE RECURRENCE (samples), layer 3 of 4: the kernel's blocks and its results. The grid of sixteen points
  takes eight of the 128 samples each; the host lays out the step sizes, the gates' weights and the convolution's bias for it. Each
  point writes its samples' convolution rows, their new states (the other layers' states are kept) and their outputs; the values
  are those `Proof/SsdStep.lean` states of any blocks.
-/
module

public import proofs.«01_k».proof.Defs
public import proofs.«01_k».proof.Proof.Gen.Kernel7Ideal.Value
public import proofs.«01_k».proof.Proof.SsdStep
public import Idealize.ShloMosaic.Lib.Pointwise
public import Idealize.ShloMosaic.Lib.ValueIdx
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen

variable (m : (ℓ : Loc nD τ sig) → Buf (Elt Ideal) ℓ)

/-! ### The arrays the host lays out -/

theorem V_v0 (c : Dev nD) : V m c main_v0 = (transpose S4x3x128x1024 [0, 2, 1, 3] (m ((c : Thread nD τ).loc main_arg3)) transposes_S4x128x3x1024_S4x3x128x1024_0_2_1_3 : S4x3x128x1024.Idx → EReal) := by
  simp only [V, hostOps0, hostOps0_1, hostOps0_2, hostOps0_3, hostOps0_4, hostOps0_5, hostOps0_6, List.flatten_cons, List.flatten_nil, List.append_nil, List.cons_append, List.nil_append]
  after_results_simp <;> rfl

theorem V_past (c : Dev nD) : V m c main_v11_1 = (m ((c : Thread nD τ).loc main_arg11) : S4x128x8x64x128.Idx → EReal) := by
  simp only [V, hostOps0, hostOps0_1, hostOps0_2, hostOps0_3, hostOps0_4, hostOps0_5, hostOps0_6, List.flatten_cons, List.flatten_nil, List.append_nil, List.cons_append, List.nil_append]
  after_results_simp <;> rfl

theorem pad2_apply (x : Vec Ideal S128x8 .f32) (z : Vec Ideal S_ .f32) (r : Fin 128) (j : Fin 128) (hj : j.val < 8) :
    pad S128x128 ![0, 0] ![0, 120] ![0, 0] x z pads_S128x8_S128x128_000_01200 h_S_ (ix2 r j) = x (ix2 r ⟨j, hj⟩) := by
  pointwise
  exact dif_pos hj

theorem pad1_apply (x : Vec Ideal S8 .f32) (z : Vec Ideal S_ .f32) (j : Fin 128) (hj : j.val < 8) :
    shapeCast S1x128 (pad S128 ![0] ![120] ![0] x z pads_S8_S128_01200 h_S_) shapeCasts_S128_S1x128 (ix2 0 j) = x (ix1 ⟨j, hj⟩) := by
  pointwise
  exact dif_pos hj

theorem V_v1 (c : Dev nD) (r : Fin 128) (h : Fin 8) : V m c main_v1 (ix2 r ⟨h.val, by omega⟩) = m ((c : Thread nD τ).loc main_arg2) (ix2 r h) := by
  simp only [V, hostOps0, hostOps0_1, hostOps0_2, hostOps0_3, hostOps0_4, hostOps0_5, hostOps0_6, List.flatten_cons, List.flatten_nil, List.append_nil, List.cons_append, List.nil_append]
  after_results_simp
  exact pad2_apply _ _ r ⟨h.val, by omega⟩ (by dsimp only; omega)

theorem V_v3 (c : Dev nD) (h : Fin 8) : V m c main_v3 (ix2 0 ⟨h.val, by omega⟩) = m ((c : Thread nD τ).loc main_arg7) (ix1 h) := by
  simp only [V, hostOps0, hostOps0_1, hostOps0_2, hostOps0_3, hostOps0_4, hostOps0_5, hostOps0_6, List.flatten_cons, List.flatten_nil, List.append_nil, List.cons_append, List.nil_append]
  after_results_simp
  exact pad1_apply _ _ ⟨h.val, by omega⟩ (by dsimp only; omega)

theorem V_v5 (c : Dev nD) (h : Fin 8) : V m c main_v5 (ix2 0 ⟨h.val, by omega⟩) = m ((c : Thread nD τ).loc main_arg8) (ix1 h) := by
  simp only [V, hostOps0, hostOps0_1, hostOps0_2, hostOps0_3, hostOps0_4, hostOps0_5, hostOps0_6, List.flatten_cons, List.flatten_nil, List.append_nil, List.cons_append, List.nil_append]
  after_results_simp
  exact pad1_apply _ _ ⟨h.val, by omega⟩ (by dsimp only; omega)

theorem V_v8 (c : Dev nD) (q : Fin 512) : V m c main_v8 (ix2 0 q) = m ((c : Thread nD τ).loc main_arg9) (ix1 ⟨q.val / 64, by omega⟩) := by
  simp only [V, hostOps0, hostOps0_1, hostOps0_2, hostOps0_3, hostOps0_4, hostOps0_5, hostOps0_6, List.flatten_cons, List.flatten_nil, List.append_nil, List.cons_append, List.nil_append]
  after_results_simp
  pointwise

theorem V_v9 (c : Dev nD) (k : Fin 1024) : V m c main_v9 (ix2 0 k) = m ((c : Thread nD τ).loc main_arg6) (ix1 k) := by
  simp only [V, hostOps0, hostOps0_1, hostOps0_2, hostOps0_3, hostOps0_4, hostOps0_5, hostOps0_6, List.flatten_cons, List.flatten_nil, List.append_nil, List.cons_append, List.nil_append]
  after_results_simp
  pointwise

theorem V_v10 (c : Dev nD) (q : Fin 512) : V m c main_v10 (ix2 0 q) = m ((c : Thread nD τ).loc main_arg10) (ix1 q) := by
  simp only [V, hostOps0, hostOps0_1, hostOps0_2, hostOps0_3, hostOps0_4, hostOps0_5, hostOps0_6, List.flatten_cons, List.flatten_nil, List.append_nil, List.cons_append, List.nil_append]
  after_results_simp
  pointwise

/-! ### The blocks -/

theorem idx : ∀ t : Fin cfg0.N, win0_0.index t = ![t.val, 0] ∧ win0_1.index t = ![t.val, 0] ∧ win0_2.index t = ![t.val, 0] ∧ win0_3.index t = ![3, 0, t.val, 0]
    ∧ win0_4.index t = ![3, t.val, 0, 0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] ∧ win0_12.index t = ![3, t.val, 0, 0, 0] ∧ win0_13.index t = ![0, t.val, 0] :=
  (by decide +kernel : ∀ t : Fin grid0.N, win0_0.index t = ![t.val, 0] ∧ win0_1.index t = ![t.val, 0] ∧ win0_2.index t = ![t.val, 0] ∧ win0_3.index t = ![3, 0, t.val, 0]
    ∧ win0_4.index t = ![3, t.val, 0, 0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] ∧ win0_12.index t = ![3, t.val, 0, 0, 0] ∧ win0_13.index t = ![0, t.val, 0])

/-- Row `r` of point `t`'s block, among the 128. -/
abbrev row (t : Fin cfg0.N) (r : Fin 8) : Fin 128 := ⟨8 * t.val + r.val, by have := t.isLt; have : cfg0.N = 16 := rfl; omega⟩

section blocks
variable (c : Dev nD) (t : Fin cfg0.N)

theorem blk0 (r : Fin 8) (q : Fin 512) : (iblk m c 0 t : S8x512.Idx → EReal) (ix2 r q) = m ((c : Thread nD τ).loc main_arg0) (ix2 (row t r) q) := by
  rw [← V_main_arg0 m c]
  blk_ext [iblk, idx t]

theorem blk1 (r : Fin 8) (k : Fin 1024) : (iblk m c 1 t : S8x1024.Idx → EReal) (ix2 r k) = m ((c : Thread nD τ).loc main_arg1) (ix2 (row t r) k) := by
  rw [← V_main_arg1 m c]
  blk_ext [iblk, idx t]

theorem blk2 (r h : Fin 8) : (iblk m c 2 t : S8x128.Idx → EReal) (ix2 r ⟨h.val, by omega⟩) = m ((c : Thread nD τ).loc main_arg2) (ix2 (row t r) h) := by
  rw [← V_v1 m c]
  blk_ext [iblk, idx t]

theorem blk3 (j : Fin 3) (r : Fin 8) (k : Fin 1024) : (iblk m c 3 t : S1x3x8x1024.Idx → EReal) (ix4 0 j r k) = m ((c : Thread nD τ).loc main_arg3) (ix4 3 (row t r) j k) := by
  have e : (iblk m c 3 t : S1x3x8x1024.Idx → EReal) (ix4 0 j r k) = V m c main_v0 (ix4 3 j (row t r) k) := by blk_ext [iblk, idx t]
  exact e.trans ((congrFun (V_v0 m c) _).trans (by pointwise))

theorem blk4 (r h : Fin 8) (p : Fin 64) (n : Fin 128) :
    (iblk m c 4 t : S1x8x8x64x128.Idx → EReal) (ix5 0 r h p n) = m ((c : Thread nD τ).loc main_arg4) (ix5 3 (row t r) h p n) := by
  rw [← V_main_arg4 m c]
  blk_ext [iblk, idx t]

theorem blk5 (j : Fin 4) (k : Fin 1024) : (iblk m c 5 t : S4x1024.Idx → EReal) (ix2 j k) = m ((c : Thread nD τ).loc main_arg5) (ix2 j k) := by
  rw [← V_main_arg5 m c]
  blk_ext [iblk, idx t]

theorem blk6 (k : Fin 1024) : (iblk m c 6 t : S1x1024.Idx → EReal) (ix2 0 k) = m ((c : Thread nD τ).loc main_arg6) (ix1 k) := by
  rw [← V_v9 m c]
  blk_ext [iblk, idx t]

theorem blk7 (h : Fin 8) : (iblk m c 7 t : S1x128.Idx → EReal) (ix2 0 ⟨h.val, by omega⟩) = m ((c : Thread nD τ).loc main_arg7) (ix1 h) := by
  rw [← V_v3 m c]
  blk_ext [iblk, idx t]

theorem blk8 (h : Fin 8) : (iblk m c 8 t : S1x128.Idx → EReal) (ix2 0 ⟨h.val, by omega⟩) = m ((c : Thread nD τ).loc main_arg8) (ix1 h) := by
  rw [← V_v5 m c]
  blk_ext [iblk, idx t]

theorem blk9 (q : Fin 512) : (iblk m c 9 t : S1x512.Idx → EReal) (ix2 0 q) = m ((c : Thread nD τ).loc main_arg9) (ix1 ⟨q.val / 64, by omega⟩) := by
  rw [← V_v8 m c]
  blk_ext [iblk, idx t]

theorem blk10 (q : Fin 512) : (iblk m c 10 t : S1x512.Idx → EReal) (ix2 0 q) = m ((c : Thread nD τ).loc main_arg10) (ix1 q) := by
  rw [← V_v10 m c]
  blk_ext [iblk, idx t]

end blocks

/-- The convolution's values of the blocks. -/
abbrev cvB (x1 : Vec Ideal S8x1024 .f32) (x3 : Vec Ideal S1x3x8x1024 .f32) (x5 : Vec Ideal S4x1024 .f32) (x6 : Vec Ideal S1x1024 .f32) : Vec Ideal S8x1024 .f32 :=
  k0_pay4 x1 (View.ld x3 (Rect.unit ![0, 0, 0, 0] ![1, 1, 8, 1024] inb_S1x3x8x1024_S1x1x8x1024_0_0_0_0))
    (View.ld x3 (Rect.unit ![0, 1, 0, 0] ![1, 1, 8, 1024] inb_S1x3x8x1024_S1x1x8x1024_0_1_0_0))
    (View.ld x3 (Rect.unit ![0, 2, 0, 0] ![1, 1, 8, 1024] inb_S1x3x8x1024_S1x1x8x1024_0_2_0_0)) x6
    (View.ld x5 (Rect.unit ![0, 0] ![1, 1024] inb_S4x1024_S1x1024_0_0)) (View.ld x5 (Rect.unit ![1, 0] ![1, 1024] inb_S4x1024_S1x1024_1_0))
    (View.ld x5 (Rect.unit ![2, 0] ![1, 1024] inb_S4x1024_S1x1024_2_0)) (View.ld x5 (Rect.unit ![3, 0] ![1, 1024] inb_S4x1024_S1x1024_3_0))

/-- The new state as the body stores it. -/
theorem kept_apply (XT : Vec Ideal S512x128 .bf16) (R : Vec Ideal S128x256 .f32) (b : BitVec 32) (h : Vec Ideal S1x1x8x64x128 .f32) (a : Fin 8) (p : Fin 64) (n : Fin 128) :
    k0_pay34 (F := Ideal) XT R (cmpi .eq k0_pay27 (broadcast S128x256 b)) h (ix5 0 0 a p n) = hnew XT R b h (ix2 ⟨64 * a.val + p.val, by omega⟩ n) := by
  unfold k0_pay34 hnew
  generalize k0_pay33 (F := Ideal) XT R (cmpi .eq k0_pay27 (broadcast S128x256 b)) h = H
  pointwise
  exact congrArg (fun q => H (ix2 q n)) (Fin.ext (by dsimp only; omega))

/-! ### The eight rows' payloads, written one way -/

/-- A row's part of the stored state. -/
abbrev kept (X : Vec Ideal S512x128 .bf16) (R : Vec Ideal S128x256 .f32) (i : Fin 8) (h : Vec Ideal S1x1x8x64x128 .f32) : Vec Ideal S1x1x8x64x128 .f32 :=
  k0_pay34 (F := Ideal) X R (cmpi .eq k0_pay27 (broadcast S128x256 (BitVec.ofNat 32 i.val))) h

/-- A row's part of the output read from the state. -/
abbrev given (C B : Vec Ideal S8x256 .f32) (X : Vec Ideal S512x128 .bf16) (i : Fin 8) (s0 : S8x256.Slices ![i.val, 0] S1x128) (s1 : S8x256.Slices ![i.val, 128] S1x128)
    (h : Vec Ideal S1x1x8x64x128 .f32) : Vec Ideal S1x512 .f32 :=
  yrow (extractStridedSlice S1x128 ![i.val, 0] C s0) (extractStridedSlice S1x128 ![i.val, 128] C s1) (hnew X (k0_pay26 (F := Ideal) B) (BitVec.ofNat 32 i.val) h)

section rows
variable (X : Vec Ideal S512x128 .bf16) (C B : Vec Ideal S8x256 .f32) (h : Vec Ideal S1x1x8x64x128 .f32)

theorem kept0 : k0_pay30 (F := Ideal) X (k0_pay28 B) h = kept X (k0_pay26 (F := Ideal) B) 0 h := rfl
theorem kept1 (R : Vec Ideal S128x256 .f32) : k0_pay34 (F := Ideal) X R (k0_pay32 k0_pay27) h = kept X R 1 h := rfl
theorem kept2 (R : Vec Ideal S128x256 .f32) : k0_pay37 (F := Ideal) X R k0_pay27 h = kept X R 2 h := rfl
theorem kept3 (R : Vec Ideal S128x256 .f32) : k0_pay41 (F := Ideal) X R k0_pay27 h = kept X R 3 h := rfl
theorem kept4 (R : Vec Ideal S128x256 .f32) : k0_pay45 (F := Ideal) X R k0_pay27 h = kept X R 4 h := rfl
theorem kept5 (R : Vec Ideal S128x256 .f32) : k0_pay50 (F := Ideal) X R k0_pay27 h = kept X R 5 h := rfl
theorem kept6 (R : Vec Ideal S128x256 .f32) : k0_pay54 (F := Ideal) X R k0_pay27 h = kept X R 6 h := rfl
theorem kept7 (R : Vec Ideal S128x256 .f32) : k0_pay58 (F := Ideal) X R k0_pay27 h = kept X R 7 h := rfl

theorem given0 : k0_pay31 (F := Ideal) C X (iota .tc S8x128 32 [0] iota_S8x128_d0_w32) (iota .tc S1x512 32 [1] iota_S1x512_d1_w32) (k0_pay28 B) h = given C B X 0 slices_S8x256_o0_0_S1x128 slices_S8x256_o0_128_S1x128 h := rfl
theorem given1 : k0_pay35 (F := Ideal) C X (k0_pay26 B) (iota .tc S8x128 32 [0] iota_S8x128_d0_w32) (iota .tc S1x512 32 [1] iota_S1x512_d1_w32) (k0_pay32 k0_pay27) h = given C B X 1 slices_S8x256_o1_0_S1x128 slices_S8x256_o1_128_S1x128 h := rfl
theorem given2 : k0_pay39 (F := Ideal) (k0_pay38 C X (k0_pay26 B) k0_pay27 (iota .tc S8x128 32 [0] iota_S8x128_d0_w32) (iota .tc S1x512 32 [1] iota_S1x512_d1_w32) h) = given C B X 2 slices_S8x256_o2_0_S1x128 slices_S8x256_o2_128_S1x128 h := rfl
theorem given3 : k0_pay43 (F := Ideal) (k0_pay42 C X (k0_pay26 B) k0_pay27 (iota .tc S8x128 32 [0] iota_S8x128_d0_w32) (iota .tc S1x512 32 [1] iota_S1x512_d1_w32) h) = given C B X 3 slices_S8x256_o3_0_S1x128 slices_S8x256_o3_128_S1x128 h := rfl
theorem given4 : k0_pay48 (F := Ideal) (k0_pay46 C X (k0_pay26 B) k0_pay27 (iota .tc S8x128 32 [0] iota_S8x128_d0_w32) h) (k0_pay47 (iota .tc S1x512 32 [1] iota_S1x512_d1_w32)) = given C B X 4 slices_S8x256_o4_0_S1x128 slices_S8x256_o4_128_S1x128 h := rfl
theorem given5 : k0_pay52 (F := Ideal) (iota .tc S1x512 32 [1] iota_S1x512_d1_w32) (k0_pay51 C X (k0_pay26 B) k0_pay27 (iota .tc S8x128 32 [0] iota_S8x128_d0_w32) h) = given C B X 5 slices_S8x256_o5_0_S1x128 slices_S8x256_o5_128_S1x128 h := rfl
theorem given6 : k0_pay56 (F := Ideal) (iota .tc S1x512 32 [1] iota_S1x512_d1_w32) (k0_pay53 X (k0_pay26 B) k0_pay27 h) (k0_pay55 C (iota .tc S8x128 32 [0] iota_S8x128_d0_w32)) = given C B X 6 slices_S8x256_o6_0_S1x128 slices_S8x256_o6_128_S1x128 h := rfl
theorem given7 : k0_pay62 (F := Ideal) (iota .tc S1x512 32 [1] iota_S1x512_d1_w32) (k0_pay57 X (k0_pay26 B) k0_pay27 h) (k0_pay59 (iota .tc S8x128 32 [0] iota_S8x128_d0_w32)) (k0_pay60 C (iota .tc S8x128 32 [0] iota_S8x128_d0_w32)) (k0_pay61 C)
    = given C B X 7 slices_S8x256_o7_0_S1x128 slices_S8x256_o7_128_S1x128 h := rfl

end rows

/-- One row's old state out of the block's. -/
theorem ld_row (x : Vec Ideal S1x8x8x64x128 .f32) (i : Fin 8) (hb : ∀ a : Fin 5, (![0, i.val, 0, 0, 0] : Fin 5 → ℕ) a + (![1, 1, 8, 64, 128] : Fin 5 → ℕ) a ≤ S1x8x8x64x128.size a) (a : Fin 8) (p : Fin 64) (n : Fin 128) :
    View.ld x (Rect.unit ![0, i.val, 0, 0, 0] ![1, 1, 8, 64, 128] hb) (ix5 0 0 a p n) = x (ix5 0 i a p n) := by
  pointwise

section final
variable (c : Dev nD)

theorem cv_at (t : Fin cfg0.N) (r : Fin 8) (k : Fin 1024) : cvB (iblk m c 1 t) (iblk m c 3 t) (iblk m c 5 t) (iblk m c 6 t) (ix2 r k)
    = cvOf (m ((c : Thread nD τ).loc main_arg1)) (m ((c : Thread nD τ).loc main_arg3)) (m ((c : Thread nD τ).loc main_arg5)) (m ((c : Thread nD τ).loc main_arg6)) (row t r) k := by
  unfold cvB
  rw [pay4_apply]
  pointwise
  unfold cvOf SsdRow.conv
  dsimp only
  rw [← blk1 m c t, ← blk6 m c t]
  simp only [← blk3 m c t, ← blk5 m c t]

theorem final13 : (dats m 0 c).arrAt 13 (cfgs 0).N = keptOf (m ((c : Thread nD τ).loc main_arg1)) (m ((c : Thread nD τ).loc main_arg3)) := by
  refine (dats m 0 c).arrAt_eq_of_covers 13 _ (by decide +kernel) fun t _ y => ?_
  blk_simp
  rw [after0_13]; simp only [outsAt0]; frame_out
  obtain_idx r : S3x8x1024 := [(y 0 : ℕ), (y 1 : ℕ), (y 2 : ℕ)] with hr
  idx_vars r
  refine Eq.trans (b := keptOf (m ((c : Thread nD τ).loc main_arg1)) (m ((c : Thread nD τ).loc main_arg3)) (ix3 r0 (row t r1) r2)) ?_ ?_
  · canon_tiles x h
    all_goals idx_vars x
    all_goals
      obtain rfl : x0 = 0 := Subsingleton.elim _ _
      obtain rfl : r1 = x1 := Fin.ext (hr1.trans h1)
      obtain rfl : r2 = x2 := Fin.ext (hr2.trans h2)
    · obtain rfl : r0 = 2 := Fin.ext (hr0.trans h0)
      unfold k0_pay7
      pointwise
      exact blk1 m c t _ _
    · obtain rfl : r0 = 1 := Fin.ext (hr0.trans h0)
      unfold k0_pay6 k0_pay3
      pointwise
      exact blk3 m c t 2 _ _
    · obtain rfl : r0 = 0 := Fin.ext (hr0.trans h0)
      unfold k0_pay5 k0_pay2
      pointwise
      exact blk3 m c t 1 _ _
  · blk_ext [idx t]

/-- The numbers of the arguments that the body splits into parts are real. -/
def Real7 : Prop :=
  (∀ i, SsdRow.IsReal ((m ((c : Thread nD τ).loc main_arg1) : S128x1024.Idx → EReal) i)) ∧ (∀ i, SsdRow.IsReal ((m ((c : Thread nD τ).loc main_arg2) : S128x8.Idx → EReal) i))
  ∧ (∀ i, SsdRow.IsReal ((m ((c : Thread nD τ).loc main_arg3) : S4x128x3x1024.Idx → EReal) i)) ∧ (∀ i, SsdRow.IsReal ((m ((c : Thread nD τ).loc main_arg5) : S4x1024.Idx → EReal) i))
  ∧ (∀ i, SsdRow.IsReal ((m ((c : Thread nD τ).loc main_arg6) : S1024.Idx → EReal) i)) ∧ (∀ i, SsdRow.IsReal ((m ((c : Thread nD τ).loc main_arg7) : S8.Idx → EReal) i))

variable (hm : Real7 m c)
include hm

theorem cv_real (t : Fin cfg0.N) (r : Fin 8) (k : Fin 1024) : SsdRow.IsReal (cvB (iblk m c 1 t) (iblk m c 3 t) (iblk m c 5 t) (iblk m c 6 t) (ix2 r k)) := by
  rw [cv_at]
  exact SsdRow.conv_real (fun k => hm.1 _) (fun j k => hm.2.2.1 _) (fun j k => hm.2.2.2.1 _) (fun k => hm.2.2.2.2.1 _) k

theorem step_real (t : Fin cfg0.N) (r h : Fin 8) :
    SsdRow.IsReal (HAdd.hAdd (α := EReal) (β := EReal) ((iblk m c 2 t : S8x128.Idx → EReal) (ix2 r ⟨h.val, by omega⟩)) ((iblk m c 7 t : S1x128.Idx → EReal) (ix2 0 ⟨h.val, by omega⟩))) := by
  rw [blk2 m c t r h, blk7 m c t h]
  exact (hm.2.1 _).add (hm.2.2.2.2.2 _)

/-- The new state of the arguments, row by row. -/
abbrev N : Fin 128 → Fin 512 → Fin 128 → EReal :=
  newOf (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

omit hm in
theorem st_at (t : Fin cfg0.N) (i : Fin 8) (h : Vec Ideal S1x1x8x64x128 .f32)
    (hh : ∀ a p n, h (ix5 0 0 a p n) = (iblk m c 4 t : S1x8x8x64x128.Idx → EReal) (ix5 0 i a p n)) (q : Fin 512) (n : Fin 128) :
    st (cvB (iblk m c 1 t) (iblk m c 3 t) (iblk m c 5 t) (iblk m c 6 t)) (iblk m c 2 t) (iblk m c 7 t) (iblk m c 8 t) h i q n = N m c (row t i) q n := by
  have e2 := blk2 m c t i (hd q)
  have e7 := blk7 m c t (hd q)
  have e8 := blk8 m c t (hd q)
  have e4 := (hh (hd q) ⟨q.val % 64, by omega⟩ n).trans (blk4 m c t i (hd q) ⟨q.val % 64, by omega⟩ n)
  unfold N newOf SsdRow.state tOf oldOf st stp
  rw [cv_at, cv_at, e4]
  refine congrArg₂ (· + ·) (congrArg₂ (· * ·) (congrArg₂ SsdRow.decay (congrArg SsdRow.softplus (congrArg₂ (· + ·) e2 e7)) e8) rfl) ?_
  exact congrArg₂ (· * ·) (congrArg₂ (· * ·) rfl (congrArg SsdRow.softplus (congrArg₂ (· + ·) e2 e7))) rfl

/-- A row's piece of the stored state. -/
theorem state_piece (t : Fin cfg0.N) (i : Fin 8) (h : Vec Ideal S1x1x8x64x128 .f32)
    (hh : ∀ a p n, h (ix5 0 0 a p n) = (iblk m c 4 t : S1x8x8x64x128.Idx → EReal) (ix5 0 i a p n)) (a : Fin 8) (p : Fin 64) (n : Fin 128) :
    kept (XT (cvB (iblk m c 1 t) (iblk m c 3 t) (iblk m c 5 t) (iblk m c 6 t)) (iblk m c 2 t) (iblk m c 7 t) (iblk m c 8 t))
        (k0_pay26 (F := Ideal) (k0_pay10 (cvB (iblk m c 1 t) (iblk m c 3 t) (iblk m c 5 t) (iblk m c 6 t)))) i h (ix5 0 0 a p n)
      = N m c (row t i) ⟨64 * a.val + p.val, by omega⟩ n :=
  (kept_apply _ _ _ _ a p n).trans ((state_row _ _ _ _ (cv_real m c hm t) (step_real m c hm t) h i _ n).trans (st_at m c t i h hh _ n))

theorem final12 : (dats m 0 c).arrAt 12 (cfgs 0).N = hOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  rw [← V_past m c]
  unfold hOf
  refine (dats m 0 c).arrAt_eq_of_coversWhere 12 _ (fun β : Fin 5 → ℕ => β 0 = 3) (by decide +kernel) (fun t _ y => ?_)
      (fun j => by blk_simp [Pipeline.Window.cell_apply]; omega)
  blk_simp
  rw [after0_12]; simp only [outsAt0]; frame_out
  obtain_idx r : S1x8x8x64x128 := [(y 0 : ℕ), (y 1 : ℕ), (y 2 : ℕ), (y 3 : ℕ), (y 4 : ℕ)] with hr
  idx_vars r
  show _ = N m c (((View.whole main_v11_1).slice (win0_12.rect t)).emb y 1) _ (((View.whole main_v11_1).slice (win0_12.rect t)).emb y 4)
  have b2 : r2.val < 8 := r2.isLt
  have b3 : r3.val < 64 := r3.isLt
  refine Eq.trans (b := N m c (row t r1) ⟨64 * r2.val + r3.val, by omega⟩ r4) ?_ ?_
  · canon_tiles x h
    all_goals
      idx_vars x
      obtain rfl : x0 = 0 := Subsingleton.elim _ _
      obtain rfl : x1 = 0 := Subsingleton.elim _ _
      obtain rfl : x2 = r2 := Fin.ext (h2.symm.trans hr2.symm)
      obtain rfl : x3 = r3 := Fin.ext (h3.symm.trans hr3.symm)
      obtain rfl : x4 = r4 := Fin.ext (h4.symm.trans hr4.symm)
    · rw [kept7, (Fin.ext (hr1.trans h1) : r1 = 7)]
      exact state_piece m c hm t 7 _ (ld_row _ 7 _) _ _ _
    · rw [kept6, (Fin.ext (hr1.trans h1) : r1 = 6)]
      exact state_piece m c hm t 6 _ (ld_row _ 6 _) _ _ _
    · rw [kept5, (Fin.ext (hr1.trans h1) : r1 = 5)]
      exact state_piece m c hm t 5 _ (ld_row _ 5 _) _ _ _
    · rw [kept4, (Fin.ext (hr1.trans h1) : r1 = 4)]
      exact state_piece m c hm t 4 _ (ld_row _ 4 _) _ _ _
    · rw [kept3, (Fin.ext (hr1.trans h1) : r1 = 3)]
      exact state_piece m c hm t 3 _ (ld_row _ 3 _) _ _ _
    · rw [kept2, (Fin.ext (hr1.trans h1) : r1 = 2)]
      exact state_piece m c hm t 2 _ (ld_row _ 2 _) _ _ _
    · rw [kept1, (Fin.ext (hr1.trans h1) : r1 = 1)]
      exact state_piece m c hm t 1 _ (ld_row _ 1 _) _ _ _
    · rw [kept0, (Fin.ext (hr1.trans h1) : r1 = 0)]
      exact state_piece m c hm t 0 _ (ld_row _ 0 _) _ _ _
  · refine congr (congr (congrArg (N m c) ?_) ?_) ?_
    all_goals refine Fin.ext ?_
    all_goals blk_simp [idx t]
    all_goals dsimp only
    all_goals omega

theorem out_piece (t : Fin cfg0.N) (i : Fin 8) (h : Vec Ideal S1x1x8x64x128 .f32)
    (hh : ∀ a p n, h (ix5 0 0 a p n) = (iblk m c 4 t : S1x8x8x64x128.Idx → EReal) (ix5 0 i a p n))
    (s0 : S8x256.Slices ![i.val, 0] S1x128) (s1 : S8x256.Slices ![i.val, 128] S1x128) (q : Fin 512) :
    given (k0_pay11 (F := Ideal) (cvB (iblk m c 1 t) (iblk m c 3 t) (iblk m c 5 t) (iblk m c 6 t))) (k0_pay10 (F := Ideal) (cvB (iblk m c 1 t) (iblk m c 3 t) (iblk m c 5 t) (iblk m c 6 t)))
        (XT (cvB (iblk m c 1 t) (iblk m c 3 t) (iblk m c 5 t) (iblk m c 6 t)) (iblk m c 2 t) (iblk m c 7 t) (iblk m c 8 t)) i s0 s1 h (ix2 0 q)
      = ∑ n : Fin 128, SsdRow.silu (cvOf (m ((c : Thread nD τ).loc main_arg1)) (m ((c : Thread nD τ).loc main_arg3)) (m ((c : Thread nD τ).loc main_arg5)) (m ((c : Thread nD τ).loc main_arg6))
          (row t i) ⟨768 + (q.val / 256 * 128 + n.val), by omega⟩) * N m c (row t i) q n := by
  have hC : ∀ r (k : Fin 256), k0_pay11 (F := Ideal) (cvB (iblk m c 1 t) (iblk m c 3 t) (iblk m c 5 t) (iblk m c 6 t)) (ix2 r k)
      = SsdRow.silu (cvB (iblk m c 1 t) (iblk m c 3 t) (iblk m c 5 t) (iblk m c 6 t) (ix2 r ⟨768 + k.val, by omega⟩)) := fun r k => by
    unfold k0_pay11; pointwise [pay8_apply]
  refine (out_row _ _ _ _ (cv_real m c hm t) (step_real m c hm t) h i _ _ (fun n => ?_) (fun n => ?_) q).trans ?_
  · pointwise [hC]
  · pointwise [hC]
  · refine Finset.sum_congr rfl fun n _ => ?_
    rw [st_at m c t i h hh q n, cv_at]

theorem final11 : (dats m 0 c).arrAt 11 (cfgs 0).N = yOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]; simp only [outsAt0]; frame_out
  idx_vars y
  refine Eq.trans (b := yOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (ix2 (row t y0) y1)) ?_ (by blk_ext [idx t])
  refine (gate_apply _ _ _ _ _ y0 y1).trans (SsdRow.nrm_congr (fun j => ?_) (fun j => blk10 m c t _) _)
  refine congrArg₂ (· * ·) (congrArg₂ (· + ·) ?_ (congrArg₂ (· * ·) (blk9 m c t _) ?_)) (congrArg SsdRow.silu (blk0 m c t _ _))
  · rw [View.readCov_eq_canon']
    canon_tiles x h
    all_goals
      idx_vars x
      obtain rfl : x0 = 0 := Subsingleton.elim _ _
      have h1' : y1.val / 256 * 256 + j.val = x1.val := by rw [← h1]; simp [LoadRect.idx, Rect.unit]
      rw [← (Fin.ext h1' : (⟨y1.val / 256 * 256 + j.val, by omega⟩ : Fin 512) = x1)]
      have h0' := (show y0.val = _ by simp [LoadRect.idx, Rect.unit]).trans h0
    · rw [given7, (Fin.ext h0' : y0 = 7)]
      exact out_piece m c hm t 7 _ (ld_row _ 7 _) _ _ _
    · rw [given6, (Fin.ext h0' : y0 = 6)]
      exact out_piece m c hm t 6 _ (ld_row _ 6 _) _ _ _
    · rw [given5, (Fin.ext h0' : y0 = 5)]
      exact out_piece m c hm t 5 _ (ld_row _ 5 _) _ _ _
    · rw [given4, (Fin.ext h0' : y0 = 4)]
      exact out_piece m c hm t 4 _ (ld_row _ 4 _) _ _ _
    · rw [given3, (Fin.ext h0' : y0 = 3)]
      exact out_piece m c hm t 3 _ (ld_row _ 3 _) _ _ _
    · rw [given2, (Fin.ext h0' : y0 = 2)]
      exact out_piece m c hm t 2 _ (ld_row _ 2 _) _ _ _
    · rw [given1, (Fin.ext h0' : y0 = 1)]
      exact out_piece m c hm t 1 _ (ld_row _ 1 _) _ _ _
    · rw [given0, (Fin.ext h0' : y0 = 0)]
      exact out_piece m c hm t 0 _ (ld_row _ 0 _) _ _ _
  · unfold k0_pay9
    pointwise [pay8_apply]
    exact congrArg SsdRow.silu (cv_at m c t _ _)

end final

end Cert.Kernel7Ideal.Hand

end
-- ==== Proof.Step7Ref.lean ====
/-
  ONE STEP OF THE STATE-SPACE RECURRENCE (samples): what the plain reference computes, read at an index. Each group of definitions
  is opened by itself and read at an index before the next: the convolution, the step sizes and decays, the new states, the outputs.
-/
module

public import proofs.«01_k».proof.Defs
public import proofs.«01_k».proof.Proof.Gen.Reference7Ideal.Read
public import proofs.«01_k».proof.Proof.SsdStep
public import Idealize.ShloMosaic.Lib.Pointwise
public import Idealize.ShloMosaic.Lib.ValueIdx
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference7Ideal.Hand

open Cert.Reference7Ideal Cert.Reference7Ideal.Gen Cert.Reference7Ideal.Read
open Cert.Kernel7Ideal.Hand (cvOf tOf oldOf newOf yOf hOf keptOf)

variable (x0 : Vec Ideal S128x512 .f32) (x1 : Vec Ideal S128x1024 .f32) (x2 : Vec Ideal S128x8 .f32) (x3 : Vec Ideal S4x128x3x1024 .f32)
  (x4 : Vec Ideal S4x128x8x64x128 .f32) (x5 : Vec Ideal S4x1024 .f32) (x6 : Vec Ideal S1024 .f32) (x7 x8 x9 : Vec Ideal S8 .f32)
  (x10 : Vec Ideal S512 .f32) (x11 : Vec Ideal S4x128x8x64x128 .f32)

/-- The convolution's four rows, at an index. -/
theorem rows_apply (R : Fin 128) (j : Fin 4) (k : Fin 1024) :
    val_main_v3 (F := Ideal) x1 x3 (ix3 R j k) = if h : j.val < 3 then x3 (ix4 3 R ⟨j.val, h⟩ k) else x1 (ix2 R k) := by
  unfold val_main_v3 val_main_v2 val_main_v1 val_main_v0
  pointwise

/-- The convolution's value, at an index. -/
theorem conv_apply (R : Fin 128) (k : Fin 1024) : val_main_v39 (F := Ideal) x1 x3 x5 x6 (ix2 R k) = cvOf x1 x3 x5 x6 R k := by
  unfold val_main_v39 val_main_v38 val_main_v37 val_main_v36 val_main_v35 val_main_v34 val_main_v33 val_main_v32 val_main_v31 val_main_v30
    val_main_v29 val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11 val_main_v10
    val_main_v9 val_main_v8 val_main_v7 val_main_v6 val_main_v5 val_main_v4 val_main_cst
  have hN := rows_apply x1 x3
  generalize val_main_v3 (F := Ideal) x1 x3 = N at hN ⊢
  pointwise [hN]
  unfold cvOf SsdRow.conv
  simp
  rw [add_comm]
  simp only [add_assoc]

/-- The activated convolution, at an index. -/
theorem act_apply (R : Fin 128) (k : Fin 1024) : val_main_v40 (F := Ideal) x1 x3 x5 x6 (ix2 R k) = SsdRow.silu (cvOf x1 x3 x5 x6 R k) := by
  unfold val_main_v40 val_main_call0_v5 val_main_call0_v4 val_main_call0_v3 val_main_call0_v2 val_main_call0_v1 val_main_call0_v0 val_main_call0_cst val_main_call0_cst_0
  have hN := conv_apply x1 x3 x5 x6
  generalize val_main_v39 (F := Ideal) x1 x3 x5 x6 = N at hN ⊢
  pointwise [hN]
  rfl

/-- The step size, at an index. -/
theorem step_apply (R : Fin 128) (h : Fin 8) : val_main_v50 (F := Ideal) x2 x7 (ix2 R h) = tOf x2 x7 R h := by
  unfold val_main_v50 val_main_call1_v11 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_v49 val_main_v48 val_main_v47
  pointwise
  unfold tOf SsdRow.softplus
  exact (if_neg (fun h => h rfl)).trans rfl

theorem decay_apply (R : Fin 128) (h : Fin 8) : val_main_v56 (F := Ideal) x2 x7 x8 (ix2 R h) = SsdRow.decay (tOf x2 x7 R h) (x8 (ix1 h)) := by
  unfold val_main_v56 val_main_v55 val_main_v54 val_main_v53 val_main_v52 val_main_v51
  have hN := step_apply x2 x7
  generalize val_main_v50 (F := Ideal) x2 x7 = N at hN ⊢
  pointwise [hN]
  unfold SsdRow.decay
  rfl

/-- The new state, at an index. -/
theorem state_apply (R : Fin 128) (g : Fin 2) (e : Fin 4) (p : Fin 64) (n : Fin 128) :
    val_main_v74 (F := Ideal) x1 x2 x3 x4 x5 x6 x7 x8 (ix5 R g e p n) = newOf x1 x2 x3 x4 x5 x6 x7 x8 R ⟨64 * (4 * g.val + e.val) + p.val, by omega⟩ n := by
  unfold val_main_v74 val_main_v73 val_main_v72 val_main_v71 val_main_v70 val_main_v69 val_main_v68 val_main_v67 val_main_v66 val_main_v65 val_main_v64
    val_main_v63 val_main_v62 val_main_v61 val_main_v60 val_main_v59 val_main_v58 val_main_v57 val_main_v44 val_main_v43 val_main_v42 val_main_v41
  have hN := act_apply x1 x3 x5 x6
  have hT := step_apply x2 x7
  have hD := decay_apply x2 x7 x8
  generalize val_main_v40 (F := Ideal) x1 x3 x5 x6 = N at hN ⊢
  generalize val_main_v50 (F := Ideal) x2 x7 = T at hT ⊢
  generalize val_main_v56 (F := Ideal) x2 x7 x8 = D at hD ⊢
  pointwise [hN, hT, hD]
  refine Eq.symm ((SsdRow.state_at _ _ _ _ _ ⟨g.val * 4 + e.val, by omega⟩ p n (by dsimp only; omega)).trans ?_)
  have e1 : (⟨64 * (4 * g.val + e.val) + p.val, by omega⟩ : Fin 1024) = ⟨g.val * 256 + e.val * 64 + p.val, by omega⟩ := Fin.ext (by dsimp only; omega)
  have e2 : (⟨512 + ((g.val * 4 + e.val) / 4 * 128 + n.val), by omega⟩ : Fin 1024) = ⟨512 + (g.val * 128 + n.val), by omega⟩ := Fin.ext (by dsimp only; omega)
  dsimp only
  rw [e1, e2]

theorem read_apply (R : Fin 128) (q : Fin 512) :
    val_main_v82 (F := Ideal) x1 x2 x3 x4 x5 x6 x7 x8 x9 (ix2 R q)
      = SsdRow.skip (cvOf x1 x3 x5 x6 R) (tOf x2 x7 R) (fun h => x8 (ix1 h)) (oldOf x4 R) (fun h => x9 (ix1 h)) q := by
  unfold val_main_v82 val_main_v81 val_main_v80 val_main_v79 val_main_v78 val_main_v77 val_main_v76 val_main_v75 val_main_v46 val_main_v45 val_main_v42 val_main_v41
  have hN := act_apply x1 x3 x5 x6
  have hS := state_apply x1 x2 x3 x4 x5 x6 x7 x8
  generalize val_main_v40 (F := Ideal) x1 x3 x5 x6 = N at hN ⊢
  generalize val_main_v74 (F := Ideal) x1 x2 x3 x4 x5 x6 x7 x8 = S at hS ⊢
  pointwise [hN, hS, dot_S128x2x4x64x128_S128x2x128_S128x2x4x64_4_2_23_n_01_01]
  unfold SsdRow.skip
  have e : (⟨64 * (4 * (q.val / 64 / 4) + q.val / 64 % 4) + q.val % 64, by omega⟩ : Fin 512) = q := Fin.ext (by dsimp only; omega)
  have e' : q.val / 64 / 4 = q.val / 256 := by omega
  rw [e]
  simp only [e', mul_comm (newOf x1 x2 x3 x4 x5 x6 x7 x8 R q _)]

theorem y_eq : val_main_v100 (F := Ideal) x0 x1 x2 x3 x4 x5 x6 x7 x8 x9 x10 = yOf x0 x1 x2 x3 x4 x5 x6 x7 x8 x9 x10 := by
  funext i; idx_vars i
  unfold val_main_v100 val_main_v99 val_main_v98 val_main_v97 val_main_v96 val_main_v95 val_main_v94 val_main_v93 val_main_v92 val_main_v91 val_main_v90
    val_main_v89 val_main_v88 val_main_v87 val_main_v86 val_main_v85 val_main_v84 val_main_v83 val_main_call2_v5 val_main_call2_v4 val_main_call2_v3
    val_main_call2_v2 val_main_call2_v1 val_main_call2_v0 val_main_call2_cst val_main_call2_cst_0 val_main_cst_0 val_main_cst_1 val_main_cst_2
  have hN := read_apply x1 x2 x3 x4 x5 x6 x7 x8 x9
  generalize val_main_v82 (F := Ideal) x1 x2 x3 x4 x5 x6 x7 x8 x9 = N at hN ⊢
  pointwise [hN]
  show _ = SsdRow.out (cvOf x1 x3 x5 x6 i0) (tOf x2 x7 i0) (fun h => x8 (ix1 h)) (oldOf x4 i0) (fun h => x9 (ix1 h)) (fun q => x0 (ix2 i0 q)) (fun q => x10 (ix1 q)) i1
  have e : (⟨i1.val / 256 * 256 + i1.val % 256, by omega⟩ : Fin 512) = i1 := Fin.ext (by dsimp only; omega)
  unfold SsdRow.out SsdRow.nrm
  dsimp only
  rw [e]
  rfl

theorem h_eq : val_main_v103 (F := Ideal) x1 x2 x3 x4 x5 x6 x7 x8 x11 = hOf x1 x2 x3 x4 x5 x6 x7 x8 x11 := by
  funext i; idx_vars i
  unfold val_main_v103 val_main_v102 val_main_v101
  have hS := state_apply x1 x2 x3 x4 x5 x6 x7 x8
  generalize val_main_v74 (F := Ideal) x1 x2 x3 x4 x5 x6 x7 x8 = S at hS ⊢
  pointwise [hS]
  unfold hOf
  by_cases h3 : i0.val < 3
  · rw [dif_pos h3]
    exact (if_neg (show ¬ i0.val = 3 by omega)).symm
  · rw [dif_neg h3]
    refine Eq.trans ?_ (if_pos (show i0.val = 3 by omega)).symm
    exact congrArg (fun q => newOf x1 x2 x3 x4 x5 x6 x7 x8 i1 q i4)
      (Fin.ext (show 64 * (4 * (i2.val / 4) + i2.val % 4) + i3.val = 64 * i2.val + i3.val by omega))

theorem kept_eq : val_main_v105 (F := Ideal) x1 x3 = keptOf x1 x3 := by
  funext i; idx_vars i
  unfold val_main_v105 val_main_v104
  have hN := rows_apply x1 x3
  generalize val_main_v3 (F := Ideal) x1 x3 = N at hN ⊢
  pointwise [hN]
  fin_cases i0 <;> rfl

end Cert.Reference7Ideal.Hand

end
-- ==== Proof.Step7Eq.lean ====
/-
  ONE STEP OF THE STATE-SPACE RECURRENCE (samples): the kernel and its plain reference compute the same three arrays, of finite
  convolution rows, step sizes, weights and biases.
-/
module

public import proofs.«01_k».proof.Defs
public import proofs.«01_k».proof.Proof.Step7
public import proofs.«01_k».proof.Proof.Gen.Pre_finite_step
public import proofs.«01_k».proof.Proof.Step7Ref

@[expose] public section

set_option maxRecDepth 16384

noncomputable section

open Idealize.ShloMosaic Idealize.ShloMosaic.TcCoe Idealize.SL.Sem

namespace Cert.Proof

open Cert.Kernel7Ideal.Hand

/-- The compare with infinity says that a number is real. -/
theorem real_of_finite {s : Shape} (a b : FVec Ideal s .f32) (hb : ∀ i, b i = (⊤ : EReal)) (h : cmpf .olt (Host.absf a) b = fun _ => 1#1) (i : s.Idx) :
    SsdRow.IsReal ((a : s.Idx → EReal) i) := by
  have e := congrFun h i
  refine SsdRow.isReal_of_abs_lt ?_
  by_contra hn
  have e' : BitVec.ofBool (decide (max ((a : s.Idx → EReal) i) (-((a : s.Idx → EReal) i)) < b i)) = 1#1 := e
  rw [hb, decide_eq_false hn] at e'
  exact absurd e' (by decide)

/-- The splat of the word of infinity is infinity. -/
theorem inf_apply {s : Shape} (h : (⟨0, ![]⟩ : Shape).BroadcastsInDim s (![] : Fin 0 → Fin s.rank)) (i : s.Idx) :
    broadcastInDim s ![] h (constant (F := Ideal) ⟨0, ![]⟩ .f32 0x7F800000#32) i = (⊤ : EReal) := by
  show FloatOps.ofBits (F := Ideal) .f32 0x7F800000#32 = (⊤ : EReal)
  simp [Ideal.ofBits, Ideal.ieee]

/-- The precondition's numbers are real. -/
theorem real7 (m : (ℓ : Loc Kernel7Ideal.nD Kernel7Ideal.τ Kernel7Ideal.sig) → Buf (Elt Ideal) ℓ) (h : Cert.Pre_Kernel7Ideal_finite_step m) (c : Dev Kernel7Ideal.nD) : Real7 m c := by
  obtain ⟨h1, h2, h3, h5, h6, h7⟩ := h c
  exact ⟨real_of_finite _ _ (inf_apply _) h1, real_of_finite _ _ (inf_apply _) h2, real_of_finite _ _ (inf_apply _) h3,
    real_of_finite _ _ (inf_apply _) h5, real_of_finite _ _ (inf_apply _) h6, real_of_finite _ _ (inf_apply _) h7⟩

theorem algebraic7 : Cert.algebraic_Kernel7Ideal_Reference7Ideal_pre_finite_step := by
  intro m g m' g' hpre hargs
  refine ⟨fun c => yOf (m ((c : Thread Kernel7Ideal.nD Kernel7Ideal.τ).loc Kernel7Ideal.main_arg0)) (m ((c : Thread Kernel7Ideal.nD Kernel7Ideal.τ).loc Kernel7Ideal.main_arg1)) (m ((c : Thread Kernel7Ideal.nD Kernel7Ideal.τ).loc Kernel7Ideal.main_arg2)) (m ((c : Thread Kernel7Ideal.nD Kernel7Ideal.τ).loc Kernel7Ideal.main_arg3)) (m ((c : Thread Kernel7Ideal.nD Kernel7Ideal.τ).loc Kernel7Ideal.main_arg4)) (m ((c : Thread Kernel7Ideal.nD Kernel7Ideal.τ).loc Kernel7Ideal.main_arg5)) (m ((c : Thread Kernel7Ideal.nD Kernel7Ideal.τ).loc Kernel7Ideal.main_arg6)) (m ((c : Thread Kernel7Ideal.nD Kernel7Ideal.τ).loc Kernel7Ideal.main_arg7)) (m ((c : Thread Kernel7Ideal.nD Kernel7Ideal.τ).loc Kernel7Ideal.main_arg8)) (m ((c : Thread Kernel7Ideal.nD Kernel7Ideal.τ).loc Kernel7Ideal.main_arg9)) (m ((c : Thread Kernel7Ideal.nD Kernel7Ideal.τ).loc Kernel7Ideal.main_arg10)),
    fun c => hOf (m ((c : Thread Kernel7Ideal.nD Kernel7Ideal.τ).loc Kernel7Ideal.main_arg1)) (m ((c : Thread Kernel7Ideal.nD Kernel7Ideal.τ).loc Kernel7Ideal.main_arg2)) (m ((c : Thread Kernel7Ideal.nD Kernel7Ideal.τ).loc Kernel7Ideal.main_arg3)) (m ((c : Thread Kernel7Ideal.nD Kernel7Ideal.τ).loc Kernel7Ideal.main_arg4)) (m ((c : Thread Kernel7Ideal.nD Kernel7Ideal.τ).loc Kernel7Ideal.main_arg5)) (m ((c : Thread Kernel7Ideal.nD Kernel7Ideal.τ).loc Kernel7Ideal.main_arg6)) (m ((c : Thread Kernel7Ideal.nD Kernel7Ideal.τ).loc Kernel7Ideal.main_arg7)) (m ((c : Thread Kernel7Ideal.nD Kernel7Ideal.τ).loc Kernel7Ideal.main_arg8)) (m ((c : Thread Kernel7Ideal.nD Kernel7Ideal.τ).loc Kernel7Ideal.main_arg11)),
    fun c => keptOf (m ((c : Thread Kernel7Ideal.nD Kernel7Ideal.τ).loc Kernel7Ideal.main_arg1)) (m ((c : Thread Kernel7Ideal.nD Kernel7Ideal.τ).loc Kernel7Ideal.main_arg3)), ?_, ?_⟩
  · refine (θ_run _ _ _).mono (fun r h c => ?_) (Kernel7Ideal.Value.run_blocks m g)
    obtain ⟨h0, h1, h2, hr⟩ := h c
    exact ⟨h0.trans (final11 m c (real7 m hpre c)), h1.trans (final12 m c (real7 m hpre c)), h2.trans (final13 m c), hr⟩
  · refine (θ_run _ _ _).mono (fun r h c => ?_) (Reference7Ideal.Value.run m' g')
    obtain ⟨h0, h1, h2, hr⟩ := h c
    obtain ⟨e0, e1, e2, e3, e4, e5, e6, e7, e8, e9, e10, e11⟩ := hargs c
    refine ⟨h0.trans ?_, h1.trans ?_, h2.trans ?_, hr⟩
    · exact ((Reference7Ideal.Read.val_main_v100_eq _).trans (Reference7Ideal.Hand.y_eq _ _ _ _ _ _ _ _ _ _ _)).trans
        (by dsimp only; rw [← e0, ← e1, ← e2, ← e3, ← e4, ← e5, ← e6, ← e7, ← e8, ← e9, ← e10])
    · exact ((Reference7Ideal.Read.val_main_v103_eq _).trans (Reference7Ideal.Hand.h_eq _ _ _ _ _ _ _ _ _)).trans
        (by dsimp only; rw [← e1, ← e2, ← e3, ← e4, ← e5, ← e6, ← e7, ← e8, ← e11])
    · exact ((Reference7Ideal.Read.val_main_v105_eq _).trans (Reference7Ideal.Hand.kept_eq _ _)).trans (by dsimp only; rw [← e1, ← e3])

end Cert.Proof

end
-- ==== Proof.Chunk8.lean ====
/-
  ONE CHUNK OF THE STATE-SPACE RECURRENCE (prompts): what the kernel's body makes of a chunk of 128 positions, of any blocks. The body
  forms the running sums of the decay exponents by a product with a lower triangle of ones, spreads them and the step sizes over the
  512 places by products with a 0/1 matrix, each factor split into a leading part and remainders; on the extended reals the
  remainders of real numbers are zero and what is left is `SsdChunk.upd`.
-/
module

public import proofs.«01_k».proof.Defs
public import proofs.«01_k».proof.Proof.Gen.Kernel8Ideal.Value
public import proofs.«01_k».proof.Proof.SsdRow
public import Idealize.ShloMosaic.Lib.Pointwise
public import Idealize.ShloMosaic.Lib.ValueIdx
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SsdChunk

open Cert.SsdRow (IsReal silu softplus)

theorem sum_real {n : ℕ} (f : Fin n → EReal) (h : ∀ i, IsReal (f i)) : IsReal (∑ i, f i) :=
  Finset.sum_induction f IsReal (fun _ _ hx hy => hx.add hy) ⟨0, rfl⟩ fun i _ => h i

section
variable (cv : Fin 128 → Fin 1024 → EReal) (t : Fin 128 → Fin 8 → EReal) (a : Fin 8 → EReal) (old : Fin 512 → Fin 128 → EReal)

/-- The running sum of the decay exponents up to position `s`. -/
def cum (s : Fin 128) (h : Fin 8) : EReal := ∑ u : Fin 128, if u.val ≤ s.val then t u h * a h else 0

/-- The head of a place among the 512. -/
abbrev hd (q : Fin 512) : Fin 8 := ⟨q.val / 64, by omega⟩

/-- Position `s`'s scaled value at place `q`, decayed to the chunk's end. -/
def xdec (s : Fin 128) (q : Fin 512) : EReal :=
  silu (cv s ⟨q.val, by omega⟩) * t s (hd q) * Ideal.exp (cum t a 127 (hd q) - cum t a s (hd q))

/-- The state after the chunk. -/
def upd (q : Fin 512) (n : Fin 128) : EReal :=
  Ideal.exp (cum t a 127 (hd q)) * old q n + ∑ s : Fin 128, silu (cv s ⟨512 + (q.val / 256 * 128 + n.val), by omega⟩) * xdec cv t a s q

variable {cv t a} in
theorem upd_of (old : EReal) (q : Fin 512) (n : Fin 128) (k : Fin 1024) (hk : k.val = 512 + (q.val / 256 * 128 + n.val)) :
    Ideal.exp (cum t a 127 (hd q)) * old + ∑ s : Fin 128, silu (cv s k) * xdec cv t a s q = upd cv t a (fun _ _ => old) q n := by
  unfold upd
  rw [show k = ⟨512 + (q.val / 256 * 128 + n.val), by omega⟩ from Fin.ext hk]

variable {t a} in
theorem cum_real (ht : ∀ u h, IsReal (t u h)) (ha : ∀ h, IsReal (a h)) (s : Fin 128) (h : Fin 8) : IsReal (cum t a s h) := by
  refine sum_real _ fun u => ?_
  by_cases hu : u.val ≤ s.val
  · rw [if_pos hu]; exact (ht u h).mul (ha h)
  · rw [if_neg hu]; exact ⟨0, rfl⟩

end

end Cert.SsdChunk

namespace Cert.Kernel8Ideal.Hand

open Cert.Kernel8Ideal Cert.Kernel8Ideal.Gen
open Cert.SsdRow (IsReal silu softplus sum_pick)
open Cert.SsdChunk (cum xdec upd hd)

theorem shift_six : ∀ q : Fin 512, IntOp.shrsi .vector (BitVec.ofNat 32 q.val) 6#32 = BitVec.ofNat 32 (q.val / 64) := by decide +kernel

/-- The 0/1 matrix that repeats head `q / 64`'s entry at place `q`. -/
theorem em_apply (k : Fin 128) (q : Fin 512) : k0_pay21 (F := Ideal) (ix2 k q) = if k = (⟨q.val / 64, by omega⟩ : Fin 128) then 1 else 0 := by
  unfold k0_pay21
  pointwise
  rw [shift_six q, WordCmp.cmpi_eq_ofNat (by omega) (by omega)]
  by_cases h : k.val = q.val / 64
  · rw [if_pos (Fin.ext h), decide_eq_true h]; rfl
  · rw [if_neg fun e => h (congrArg Fin.val e), decide_eq_false h]; rfl

/-- The lower triangle of ones. -/
theorem tri_apply (s u : Fin 128) : k0_pay17 (F := Ideal) (ix2 s u) = if u.val ≤ s.val then 1 else 0 := by
  unfold k0_pay17 k0_pay16
  pointwise
  have h : ∀ s u : Fin 128, IntOp.cmpi .sge (BitVec.ofNat 32 s.val) (BitVec.ofNat 32 u.val) = if u.val ≤ s.val then 1#1 else 0#1 := by decide +kernel
  rw [h s u]
  by_cases hu : u.val ≤ s.val
  · rw [if_pos hu, if_pos hu]; rfl
  · rw [if_neg hu, if_neg hu]; rfl

theorem pay14_apply (x2 : Vec Ideal S128x128 .f32) (x5 : Vec Ideal S1x128 .f32) (r k : Fin 128) :
    k0_pay14 x2 x5 (ix2 r k) = softplus (x2 (ix2 r k) + x5 (ix2 0 k)) := by
  unfold k0_pay14
  pointwise
  unfold softplus
  rw [zero_sub]
  rfl

theorem pay15_apply (x2 : Vec Ideal S128x128 .f32) (x5 x6 : Vec Ideal S1x128 .f32) (r k : Fin 128) (hk : k.val < 8) :
    k0_pay15 x2 x5 x6 (ix2 r k) = softplus (x2 (ix2 r k) + x5 (ix2 0 k)) * -Ideal.exp (x6 (ix2 0 k)) := by
  unfold k0_pay15
  pointwise [pay14_apply]
  have h : ∀ k : Fin 128, k.val < 8 → IntOp.cmpi .slt (BitVec.ofNat 32 k.val) 8#32 = 1#1 := by decide +kernel
  rw [h k hk, zero_sub]
  rfl

theorem pay10_apply (b w0 w1 w2 w3 : Vec Ideal S1x1024 .f32) (e0 e1 e2 e3 : Vec Ideal S128x1024 .f32) (r : Fin 128) (k : Fin 1024) :
    k0_pay10 b w0 e0 w1 e1 w2 e2 w3 e3 (ix2 r k) = b (ix2 0 k) + w0 (ix2 0 k) * e0 (ix2 r k) + w1 (ix2 0 k) * e1 (ix2 r k)
      + w2 (ix2 0 k) * e2 (ix2 r k) + w3 (ix2 0 k) * e3 (ix2 r k) := by
  unfold k0_pay10
  pointwise

theorem pay12_apply (CV : Vec Ideal S128x1024 .f32) (r : Fin 128) (k : Fin 1024) : k0_pay12 (F := Ideal) CV (ix2 r k) = silu (CV (ix2 r k)) := by
  unfold k0_pay12
  pointwise
  rfl

/-- The running sums, of a second factor whose split leaves nothing. -/
theorem pay20_apply (T D : Vec Ideal S128x128 .bf16) (Z : Vec Ideal S128x128 .f32) (s k : Fin 128) (hZ : ∀ u, Z (ix2 u k) = 0) :
    k0_pay20 (F := Ideal) T D Z (ix2 s k) = ∑ u, T (ix2 s u) * D (ix2 u k) := by
  unfold k0_pay20
  pointwise [dot_S128x128_S128x128_S128x128_1_0_0_1_n_n]
  simp [hZ]

/-- The spread of the running sums over the places. -/
theorem pay22_apply (T D : Vec Ideal S128x128 .bf16) (Z : Vec Ideal S128x128 .f32) (s : Fin 128) (q : Fin 512)
    (h : IsReal (k0_pay20 (F := Ideal) T D Z (ix2 s ⟨q.val / 64, by omega⟩))) :
    k0_pay22 (F := Ideal) T D Z (ix2 s q) = k0_pay20 (F := Ideal) T D Z (ix2 s ⟨q.val / 64, by omega⟩) := by
  unfold k0_pay22
  have hE := em_apply
  generalize k0_pay21 (F := Ideal) = E at hE ⊢
  generalize k0_pay20 (F := Ideal) T D Z = C at h ⊢
  pointwise [dot_S128x128_S128x512_S128x512_1_0_0_1_n_n, hE, sum_pick]
  rw [h.sub_self]
  simp

/-- The scaled values: the step sizes spread over the places. -/
theorem pay28_apply (xs : Vec Ideal S128x512 .f32) (d : Vec Ideal S128x128 .f32) (s : Fin 128) (q : Fin 512)
    (h : IsReal (d (ix2 s ⟨q.val / 64, by omega⟩))) :
    k0_pay28 (F := Ideal) xs k0_pay21 (k0_pay26 d) (k0_pay27 d) (ix2 s q) = xs (ix2 s q) * d (ix2 s ⟨q.val / 64, by omega⟩) := by
  unfold k0_pay28 k0_pay27 k0_pay26 k0_pay25 k0_pay24 k0_pay23
  have hE := em_apply
  generalize k0_pay21 (F := Ideal) = E at hE ⊢
  pointwise [dot_S128x128_S128x512_S128x512_1_0_0_1_n_n, hE, sum_pick]
  rw [h.sub_self]
  simp

section chunk
variable (CV : Vec Ideal S128x1024 .f32) (x2 : Vec Ideal S128x128 .f32) (x5 x6 : Vec Ideal S1x128 .f32)

/-- The step sizes of the chunk. -/
abbrev tt : Fin 128 → Fin 8 → EReal := fun s h => softplus (x2 (ix2 s ⟨h.val, by omega⟩) + x5 (ix2 0 ⟨h.val, by omega⟩))

/-- The rates. -/
abbrev aa : Fin 8 → EReal := fun h => -Ideal.exp (x6 (ix2 0 ⟨h.val, by omega⟩))

abbrev cc : Fin 128 → Fin 1024 → EReal := fun s k => CV (ix2 s k)

/-- The spread running sums the body makes. -/
abbrev CUM : Vec Ideal S128x512 .f32 := k0_pay22 (F := Ideal) k0_pay17 (k0_pay18 x2 x5 x6) (k0_pay19 x2 x5 x6)

/-- The decayed scaled values the body makes. -/
abbrev XD : Vec Ideal S128x512 .f32 :=
  k0_pay30 (F := Ideal) (k0_pay13 CV) k0_pay21 (CUM x2 x5 x6) (k0_pay26 (k0_pay14 x2 x5)) (k0_pay27 (k0_pay14 x2 x5))

variable (ht : ∀ (s : Fin 128) (h : Fin 8), IsReal (x2 (ix2 s ⟨h.val, by omega⟩) + x5 (ix2 0 ⟨h.val, by omega⟩)))
  (ha : ∀ h : Fin 8, IsReal (x6 (ix2 0 ⟨h.val, by omega⟩)))
include ht ha

theorem tt_real (s : Fin 128) (h : Fin 8) : IsReal (tt x2 x5 s h) := (SsdRow.softplus_real (ht s h)).1

theorem aa_real (h : Fin 8) : IsReal (aa x6 h) := by
  obtain ⟨r, hr⟩ := ha h
  refine ⟨-Real.exp r, ?_⟩
  show -Ideal.exp _ = _
  rw [hr, Ideal.exp_coe, EReal.coe_neg]

theorem cum_apply (s : Fin 128) (q : Fin 512) : CUM x2 x5 x6 (ix2 s q) = cum (tt x2 x5) (aa x6) s (hd q) := by
  have h15 : ∀ u : Fin 128, k0_pay15 x2 x5 x6 (ix2 u ⟨q.val / 64, by omega⟩) = tt x2 x5 u (hd q) * aa x6 (hd q) :=
    fun u => pay15_apply x2 x5 x6 u _ (by dsimp only; omega)
  have hr : ∀ u : Fin 128, IsReal (k0_pay15 x2 x5 x6 (ix2 u ⟨q.val / 64, by omega⟩)) := fun u => by
    rw [h15]; exact (tt_real x2 x5 x6 ht ha u _).mul (aa_real x2 x5 x6 ht ha _)
  have e : k0_pay20 (F := Ideal) k0_pay17 (k0_pay18 x2 x5 x6) (k0_pay19 x2 x5 x6) (ix2 s ⟨q.val / 64, by omega⟩) = cum (tt x2 x5) (aa x6) s (hd q) := by
    rw [pay20_apply _ _ _ _ _ fun u => (hr u).sub_self]
    refine Finset.sum_congr rfl fun u _ => ?_
    rw [tri_apply]
    by_cases hu : u.val ≤ s.val
    · rw [if_pos hu, if_pos hu, one_mul]; exact h15 u
    · rw [if_neg hu, if_neg hu, zero_mul]
  have hc := SsdChunk.cum_real (tt_real x2 x5 x6 ht ha) (aa_real x2 x5 x6 ht ha) s (hd q)
  exact (pay22_apply _ _ _ s q (by rw [e]; exact hc)).trans e

theorem xd_apply (s : Fin 128) (q : Fin 512) : XD CV x2 x5 x6 (ix2 s q) = xdec (cc CV) (tt x2 x5) (aa x6) s q := by
  have h28 := pay28_apply (k0_pay13 (F := Ideal) CV) (k0_pay14 (F := Ideal) x2 x5) s q (by rw [pay14_apply]; exact tt_real x2 x5 x6 ht ha s (hd q))
  have h13 : k0_pay13 (F := Ideal) CV (ix2 s q) = silu (CV (ix2 s ⟨q.val, by omega⟩)) := by
    unfold k0_pay13; pointwise [pay12_apply]
  unfold XD k0_pay30 k0_pay29
  have h1 := cum_apply x2 x5 x6 ht ha s q
  have h2 := cum_apply x2 x5 x6 ht ha 127 q
  generalize CUM x2 x5 x6 = C at h1 h2 ⊢
  generalize k0_pay28 (F := Ideal) (k0_pay13 CV) k0_pay21 (k0_pay26 (k0_pay14 x2 x5)) (k0_pay27 (k0_pay14 x2 x5)) = X at h28 ⊢
  pointwise
  rw [h28, h13, pay14_apply]
  refine congrArg₂ (fun a b => _ * Ideal.exp (a - b)) ?_ h1
  exact h2

/-! A slab of 128 places of the new state: the old one decayed, and the chunk's outer products summed. -/

theorem slab0 (H : Vec Ideal S1x128x128 .f32) (n l : Fin 128) :
    k0_pay42 (F := Ideal) (k0_pay29 (CUM x2 x5 x6)) (XD CV x2 x5 x6) (k0_pay36 (k0_pay12 CV)) H (ix3 0 n l)
      = upd (cc CV) (tt x2 x5) (aa x6) (fun _ _ => H (ix3 0 n l)) ⟨l.val, by omega⟩ n := by
  have h2 := cum_apply x2 x5 x6 ht ha 127
  have h3 := xd_apply CV x2 x5 x6 ht ha
  unfold k0_pay42 k0_pay41 k0_pay36 k0_pay33 k0_pay29
  generalize CUM x2 x5 x6 = C at h2 ⊢
  generalize XD CV x2 x5 x6 = X at h3 ⊢
  pointwise [dot_S128x128_S128x128_S128x128_1_0_0_1_n_n, pay12_apply, h3]
  rw [h2]
  refine SsdChunk.upd_of (cv := cc CV) (t := tt x2 x5) (a := aa x6) (H (ix3 0 n l)) ⟨l.val, by omega⟩ n ⟨512 + n.val, by omega⟩ ?_
  dsimp only
  omega

theorem slab1 (H : Vec Ideal S1x128x128 .f32) (n l : Fin 128) :
    k0_pay50 (F := Ideal) (k0_pay49 (k0_pay29 (CUM x2 x5 x6)) (XD CV x2 x5 x6) (k0_pay36 (k0_pay12 CV)) H) (ix3 0 n l)
      = upd (cc CV) (tt x2 x5) (aa x6) (fun _ _ => H (ix3 0 n l)) ⟨128 + l.val, by omega⟩ n := by
  have h2 := cum_apply x2 x5 x6 ht ha 127
  have h3 := xd_apply CV x2 x5 x6 ht ha
  unfold k0_pay50 k0_pay49 k0_pay47 k0_pay36 k0_pay33 k0_pay29
  generalize CUM x2 x5 x6 = C at h2 ⊢
  generalize XD CV x2 x5 x6 = X at h3 ⊢
  pointwise [dot_S128x128_S128x128_S128x128_1_0_0_1_n_n, pay12_apply, h3]
  rw [h2]
  refine SsdChunk.upd_of (cv := cc CV) (t := tt x2 x5) (a := aa x6) (H (ix3 0 n l)) ⟨128 + l.val, by omega⟩ n ⟨512 + n.val, by omega⟩ ?_
  dsimp only
  omega

theorem slab2 (H : Vec Ideal S1x128x128 .f32) (n l : Fin 128) :
    k0_pay60 (F := Ideal) (k0_pay29 (CUM x2 x5 x6)) (XD CV x2 x5 x6) (k0_pay55 (k0_pay12 CV)) H (ix3 0 n l)
      = upd (cc CV) (tt x2 x5) (aa x6) (fun _ _ => H (ix3 0 n l)) ⟨256 + l.val, by omega⟩ n := by
  have h2 := cum_apply x2 x5 x6 ht ha 127
  have h3 := xd_apply CV x2 x5 x6 ht ha
  unfold k0_pay60 k0_pay59 k0_pay55 k0_pay52 k0_pay29
  generalize CUM x2 x5 x6 = C at h2 ⊢
  generalize XD CV x2 x5 x6 = X at h3 ⊢
  pointwise [dot_S128x128_S128x128_S128x128_1_0_0_1_n_n, pay12_apply, h3]
  rw [h2]
  refine SsdChunk.upd_of (cv := cc CV) (t := tt x2 x5) (a := aa x6) (H (ix3 0 n l)) ⟨256 + l.val, by omega⟩ n ⟨640 + n.val, by omega⟩ ?_
  dsimp only
  omega

theorem slab3 (H : Vec Ideal S1x128x128 .f32) (n l : Fin 128) :
    k0_pay68 (F := Ideal) (k0_pay67 (k0_pay29 (CUM x2 x5 x6)) (XD CV x2 x5 x6) (k0_pay55 (k0_pay12 CV)) H) (ix3 0 n l)
      = upd (cc CV) (tt x2 x5) (aa x6) (fun _ _ => H (ix3 0 n l)) ⟨384 + l.val, by omega⟩ n := by
  have h2 := cum_apply x2 x5 x6 ht ha 127
  have h3 := xd_apply CV x2 x5 x6 ht ha
  unfold k0_pay68 k0_pay67 k0_pay65 k0_pay55 k0_pay52 k0_pay29
  generalize CUM x2 x5 x6 = C at h2 ⊢
  generalize XD CV x2 x5 x6 = X at h3 ⊢
  pointwise [dot_S128x128_S128x128_S128x128_1_0_0_1_n_n, pay12_apply, h3]
  rw [h2]
  refine SsdChunk.upd_of (cv := cc CV) (t := tt x2 x5) (a := aa x6) (H (ix3 0 n l)) ⟨384 + l.val, by omega⟩ n ⟨640 + n.val, by omega⟩ ?_
  dsimp only
  omega

end chunk

end Cert.Kernel8Ideal.Hand
-- ==== Proof.Scan8.lean ====
/-
  THE PROMPT'S RECURRENCE, POINT BY POINT: what a grid point leaves in the two carried scratches and in the two results it writes back at
  a batch's last chunk, of what the point before left.
-/
module

public import proofs.«01_k».proof.Proof.Chunk8
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen Cert.Kernel8Ideal.Value
open Cert.SsdRow (IsReal silu softplus sum_pick)
open Cert.SsdChunk (cum xdec upd hd)

/-- The rows the convolution's tap `o` reads: the last kept rows of `E`, then the chunk's own. -/
def extv (E : Vec Ideal S136x1024 .f32) (w : Vec Ideal S128x1024 .f32) (o : Fin 4) : Vec Ideal S128x1024 .f32 := fun i =>
  have hi : (i 0).val < 128 := (i 0).isLt
  if h : (i 0).val + o.val < 3 then E (ix2 ⟨5 + o.val + (i 0).val, by omega⟩ (i 1)) else w (ix2 ⟨(i 0).val + o.val - 3, by omega⟩ (i 1))

theorem extv_apply (E : Vec Ideal S136x1024 .f32) (w : Vec Ideal S128x1024 .f32) (o : Fin 4) (r : Fin 128) (k : Fin 1024) :
    extv E w o (ix2 r k) = if h : r.val + o.val < 3 then E (ix2 ⟨5 + o.val + r.val, by omega⟩ k) else w (ix2 ⟨r.val + o.val - 3, by omega⟩ k) := rfl

theorem pay9_eq (x : Vec Ideal S128x1024 .f32) : k0_pay9 (F := Ideal) x = x := by
  funext i; idx_vars i; unfold k0_pay9; pointwise

theorem pay11_eq (x : Vec Ideal S3x1024 .f32) : k0_pay11 (F := Ideal) x = x := by
  funext i; idx_vars i; unfold k0_pay11; pointwise

/-- The carried scratch after the chunk's rows are stored from row 8 on. -/
theorem read_rows (h : (Memref.whole cc0_scratch0).IsWhole) (E : Vec Ideal S136x1024 .f32) (w : Vec Ideal S128x1024 .f32)
    (inb : ∀ a, (![8, 0] : Fin 2 → ℕ) a + (![128, 1024] : Fin 2 → ℕ) a ≤ S136x1024.size a) (i : Fin 136) (k : Fin 1024) :
    View.read (Elt Ideal) (View.whole cc0_scratch0) ((View.whole cc0_scratch0).writes (Elt Ideal) (h.unread E) [⟨Rect.unit ![8, 0] ![128, 1024] inb, w⟩]) (ix2 i k)
      = if h : 8 ≤ i.val then w (ix2 ⟨i.val - 8, by omega⟩ k) else E (ix2 i k) := by
  by_cases hi : 8 ≤ i.val
  · rw [dif_pos hi]
    exact View.read_writes_cons_rows_of_mem _ _ inb w [] (ix2 i k) (ix2 ⟨i.val - 8, by omega⟩ k) rfl (by show i.val = 8 + (i.val - 8); omega) rfl
  · rw [dif_neg hi]
    refine (View.read_writes_cons_rows_of_not_mem (o := 8) (W := 128) _ _ inb w [] (ix2 i k) rfl rfl (Or.inl (by show i.val < 8; omega))).trans ?_
    exact congrFun (read_unread_whole _ h E) _

theorem ld_rows (h : (Memref.whole cc0_scratch0).IsWhole) (E : Vec Ideal S136x1024 .f32) (w : Vec Ideal S128x1024 .f32)
    (inb : ∀ a, (![8, 0] : Fin 2 → ℕ) a + (![128, 1024] : Fin 2 → ℕ) a ≤ S136x1024.size a) (o : Fin 4) (n : ℕ) (hn : n = 5 + o.val)
    (inb' : ∀ a, (![n, 0] : Fin 2 → ℕ) a + (![128, 1024] : Fin 2 → ℕ) a ≤ S136x1024.size a) :
    View.ld (View.read (Elt Ideal) (View.whole cc0_scratch0) ((View.whole cc0_scratch0).writes (Elt Ideal) (h.unread E) [⟨Rect.unit ![8, 0] ![128, 1024] inb, w⟩]))
      (Rect.unit ![n, 0] ![128, 1024] inb') = extv E w o := by
  subst hn
  funext i
  obtain ⟨r, k, rfl⟩ : ∃ (r : Fin 128) (k : Fin 1024), i = ix2 r k := ⟨i 0, i 1, by funext a; fin_cases a <;> rfl⟩
  have e : (Rect.unit (s := S136x1024) ![5 + o.val, 0] ![128, 1024] inb').emb (ix2 r k) = ix2 ⟨5 + o.val + r.val, by omega⟩ k := by
    funext a; refine Fin.ext ?_; fin_cases a
    · show 5 + o.val + 1 * r.val = 5 + o.val + r.val; omega
    · show 0 + 1 * k.val = k.val; omega
  refine (congrArg _ e).trans ((read_rows h E w inb _ k).trans ?_)
  rw [extv_apply]
  by_cases hr : r.val + o.val < 3
  · rw [dif_neg (by dsimp only; omega), dif_pos hr]
  · rw [dif_pos (by dsimp only; omega), dif_neg hr]
    exact congrArg (fun j => w (ix2 j k)) (Fin.ext (by dsimp only; omega))

/-- The same over a scratch just zeroed in its first eight rows. -/
theorem cov_rows (Z : Vec Ideal S8x1024 .f32) (hZ : ∀ i, Z i = 0) (w : Vec Ideal S128x1024 .f32)
    (inb : ∀ a, (![8, 0] : Fin 2 → ℕ) a + (![128, 1024] : Fin 2 → ℕ) a ≤ S136x1024.size a)
    (inb0 : ∀ a, (![0, 0] : Fin 2 → ℕ) a + (![8, 1024] : Fin 2 → ℕ) a ≤ S136x1024.size a) (o : Fin 4) (n : ℕ) (hn : n = 5 + o.val)
    (inb' : ∀ a, (![n, 0] : Fin 2 → ℕ) a + (![128, 1024] : Fin 2 → ℕ) a ≤ S136x1024.size a) :
    (View.whole cc0_scratch0).readCov (Val := Elt Ideal) [⟨Rect.unit ![8, 0] ![128, 1024] inb, w⟩, ⟨Rect.unit ![0, 0] ![8, 1024] inb0, Z⟩] (Rect.unit ![n, 0] ![128, 1024] inb').toLoadRect
      = extv (fun _ => 0) w o := by
  subst hn
  funext i
  obtain ⟨r, k, rfl⟩ : ∃ (r : Fin 128) (k : Fin 1024), i = ix2 r k := ⟨i 0, i 1, by funext a; fin_cases a <;> rfl⟩
  have e : (Rect.unit (s := S136x1024) ![5 + o.val, 0] ![128, 1024] inb').toLoadRect.idx (ix2 r k) = ix2 ⟨5 + o.val + r.val, by omega⟩ k := by
    funext a; refine Fin.ext ?_; fin_cases a
    · show 5 + o.val + 1 * r.val = 5 + o.val + r.val; omega
    · show 0 + 1 * k.val = k.val; omega
  refine (congrArg (View.read (Elt Ideal) (View.whole cc0_scratch0) ((View.whole cc0_scratch0).writes (Elt Ideal) (View.junk _)
    [⟨Rect.unit ![8, 0] ![128, 1024] inb, w⟩, ⟨Rect.unit ![0, 0] ![8, 1024] inb0, Z⟩])) e).trans ?_
  rw [extv_apply]
  by_cases hr : r.val + o.val < 3
  · rw [dif_pos hr]
    refine (View.read_writes_cons_rows_of_not_mem (o := 8) (W := 128) _ _ inb w _ _ rfl rfl (Or.inl (by show 5 + o.val + r.val < 8; omega))).trans ?_
    refine (View.read_writes_cons_rows_of_mem (o := 0) _ _ inb0 Z [] _ (ix2 ⟨5 + o.val + r.val, by omega⟩ k) rfl (by show 5 + o.val + r.val = 0 + (5 + o.val + r.val); omega) rfl).trans ?_
    exact hZ _
  · rw [dif_neg hr]
    exact View.read_writes_cons_rows_of_mem (o := 8) _ _ inb w _ _ (ix2 ⟨r.val + o.val - 3, by omega⟩ k) rfl
      (by show 5 + o.val + r.val = 8 + (r.val + o.val - 3); omega) rfl

/-- The last three of the chunk's rows. -/
def lastv (w : Vec Ideal S128x1024 .f32) : Vec Ideal S3x1024 .f32 := fun i =>
  have hi : (i 0).val < 3 := (i 0).isLt
  w (ix2 ⟨125 + (i 0).val, by omega⟩ (i 1))

theorem cov_tail (w : Vec Ideal S128x1024 .f32) (L : List (View.Piece (Elt Ideal) S136x1024 .f32))
    (inb : ∀ a, (![8, 0] : Fin 2 → ℕ) a + (![128, 1024] : Fin 2 → ℕ) a ≤ S136x1024.size a)
    (inb' : ∀ a, (![133, 0] : Fin 2 → ℕ) a + (![3, 1024] : Fin 2 → ℕ) a ≤ S136x1024.size a) :
    (View.whole cc0_scratch0).readCov (Val := Elt Ideal) (⟨Rect.unit ![8, 0] ![128, 1024] inb, w⟩ :: L) (Rect.unit ![133, 0] ![3, 1024] inb').toLoadRect
      = lastv w := by
  funext i
  obtain ⟨r, k, rfl⟩ : ∃ (r : Fin 3) (k : Fin 1024), i = ix2 r k := ⟨i 0, i 1, by funext a; fin_cases a <;> rfl⟩
  have e : (Rect.unit (s := S136x1024) ![133, 0] ![3, 1024] inb').toLoadRect.idx (ix2 r k) = ix2 ⟨133 + r.val, by omega⟩ k := by
    funext a; refine Fin.ext ?_; fin_cases a
    · show 133 + 1 * r.val = 133 + r.val; omega
    · show 0 + 1 * k.val = k.val; omega
  refine (congrArg (View.read (Elt Ideal) (View.whole cc0_scratch0) ((View.whole cc0_scratch0).writes (Elt Ideal) (View.junk _)
    (⟨Rect.unit ![8, 0] ![128, 1024] inb, w⟩ :: L))) e).trans ?_
  exact View.read_writes_cons_rows_of_mem (o := 8) _ _ inb w _ _ (ix2 ⟨125 + r.val, by omega⟩ k) rfl
    (by show 133 + r.val = 8 + (125 + r.val); omega) rfl

/-- The step sizes' logits and the rates' logarithms of the chunk are real. -/
structure RealX (x2 : Vec Ideal S128x128 .f32) (x5 x6 : Vec Ideal S1x128 .f32) : Prop where
  ht : ∀ (s : Fin 128) (h : Fin 8), IsReal (x2 (ix2 s ⟨h.val, by omega⟩) + x5 (ix2 0 ⟨h.val, by omega⟩))
  ha : ∀ h : Fin 8, IsReal (x6 (ix2 0 ⟨h.val, by omega⟩))

section points
variable (m : (ℓ : Loc nD τ sig) → Buf (Elt Ideal) ℓ) (c : Dev nD) (t : Fin cfg0.N)
  (acc : Vec Ideal S128x512 .f32 × Vec Ideal S1x8x64x128 .f32 × Vec Ideal S1x3x1024 .f32 × Vec Ideal S136x1024 .f32 × Vec Ideal S4x128x128 .f32)

/-- The convolution's values in the chunk of point `t`, over the kept rows in `E`. -/
abbrev cvE (E : Vec Ideal S136x1024 .f32) : Vec Ideal S128x1024 .f32 :=
  k0_pay10 (F := Ideal) (iblk m c 4 t) (View.ld (iblk m c 3 t) (Rect.unit ![0, 0] ![1, 1024] inb_S4x1024_S1x1024_0_0)) (extv E (iblk m c 1 t) 0)
    (View.ld (iblk m c 3 t) (Rect.unit ![1, 0] ![1, 1024] inb_S4x1024_S1x1024_1_0)) (extv E (iblk m c 1 t) 1)
    (View.ld (iblk m c 3 t) (Rect.unit ![2, 0] ![1, 1024] inb_S4x1024_S1x1024_2_0)) (extv E (iblk m c 1 t) 2)
    (View.ld (iblk m c 3 t) (Rect.unit ![3, 0] ![1, 1024] inb_S4x1024_S1x1024_3_0)) (iblk m c 1 t)

/-- The new state of the chunk of point `t`, over the kept rows in `E` and the old state `H`. -/
abbrev updE (E : Vec Ideal S136x1024 .f32) (H : Vec Ideal S4x128x128 .f32) (j : Fin 4) (n l : Fin 128) : EReal :=
  upd (cc (cvE m c t E)) (tt (iblk m c 2 t) (iblk m c 5 t)) (aa (iblk m c 6 t)) (fun _ _ => H (ix3 j n l)) ⟨128 * j.val + l.val, by omega⟩ n

variable {m c t}

theorem ld_slab (H : Vec Ideal S4x128x128 .f32) (j : Fin 4) (n l : Fin 128)
    (inb : ∀ a, (![j.val, 0, 0] : Fin 3 → ℕ) a + (![1, 128, 128] : Fin 3 → ℕ) a ≤ S4x128x128.size a) :
    View.ld H (Rect.unit ![j.val, 0, 0] ![1, 128, 128] inb) (ix3 0 n l) = H (ix3 j n l) :=
  congrArg H (by
    funext a; refine Fin.ext ?_; fin_cases a
    · show j.val + 1 * 0 = j.val; omega
    · show 0 + 1 * n.val = n.val; omega
    · show 0 + 1 * l.val = l.val; omega)

/-! The four slabs of the new state. -/

theorem piece0 (hr : RealX (iblk m c 2 t) (iblk m c 5 t) (iblk m c 6 t)) (E : Vec Ideal S136x1024 .f32) (H : Vec Ideal S4x128x128 .f32)
    (j : Fin 4) (n l : Fin 128) (x0 : Fin 1) (x1 x2 : Fin 128) (h0 : j.val = 0) (h1 : n.val = x1.val) (h2 : l.val = x2.val) :
    k0_pay42 (F := Ideal) (k0_pay29 (CUM (iblk m c 2 t) (iblk m c 5 t) (iblk m c 6 t)))
      (XD (cvE m c t E) (iblk m c 2 t) (iblk m c 5 t) (iblk m c 6 t)) (k0_pay36 (k0_pay12 (cvE m c t E)))
      (View.ld H (Rect.unit ![0, 0, 0] ![1, 128, 128] inb_S4x128x128_S1x128x128_0_0_0)) (ix3 x0 x1 x2) = updE m c t E H j n l := by
  obtain rfl : x0 = 0 := Fin.ext (by omega)
  obtain rfl : n = x1 := Fin.ext h1
  obtain rfl : l = x2 := Fin.ext h2
  obtain rfl : j = 0 := Fin.ext h0
  refine (slab0 (cvE m c t E) _ _ _ hr.ht hr.ha _ n l).trans ?_
  exact congrArg₂ (fun q o => upd (cc (cvE m c t E)) _ _ (fun _ _ => o) q n) (Fin.ext (by first | rfl | (show l.val = 128 * 0 + l.val; omega)))
    (ld_slab H 0 n l inb_S4x128x128_S1x128x128_0_0_0)

theorem piece1 (hr : RealX (iblk m c 2 t) (iblk m c 5 t) (iblk m c 6 t)) (E : Vec Ideal S136x1024 .f32) (H : Vec Ideal S4x128x128 .f32)
    (j : Fin 4) (n l : Fin 128) (x0 : Fin 1) (x1 x2 : Fin 128) (h0 : j.val = 1) (h1 : n.val = x1.val) (h2 : l.val = x2.val) :
    k0_pay50 (F := Ideal) (k0_pay49 (k0_pay29 (CUM (iblk m c 2 t) (iblk m c 5 t) (iblk m c 6 t)))
      (XD (cvE m c t E) (iblk m c 2 t) (iblk m c 5 t) (iblk m c 6 t)) (k0_pay36 (k0_pay12 (cvE m c t E)))
      (View.ld H (Rect.unit ![1, 0, 0] ![1, 128, 128] inb_S4x128x128_S1x128x128_1_0_0))) (ix3 x0 x1 x2) = updE m c t E H j n l := by
  obtain rfl : x0 = 0 := Fin.ext (by omega)
  obtain rfl : n = x1 := Fin.ext h1
  obtain rfl : l = x2 := Fin.ext h2
  obtain rfl : j = 1 := Fin.ext h0
  refine (slab1 (cvE m c t E) _ _ _ hr.ht hr.ha _ n l).trans ?_
  exact congrArg₂ (fun q o => upd (cc (cvE m c t E)) _ _ (fun _ _ => o) q n) (Fin.ext (by first | rfl | (show l.val = 128 * 0 + l.val; omega)))
    (ld_slab H 1 n l inb_S4x128x128_S1x128x128_1_0_0)

theorem piece2 (hr : RealX (iblk m c 2 t) (iblk m c 5 t) (iblk m c 6 t)) (E : Vec Ideal S136x1024 .f32) (H : Vec Ideal S4x128x128 .f32)
    (j : Fin 4) (n l : Fin 128) (x0 : Fin 1) (x1 x2 : Fin 128) (h0 : j.val = 2) (h1 : n.val = x1.val) (h2 : l.val = x2.val) :
    k0_pay60 (F := Ideal) (k0_pay29 (CUM (iblk m c 2 t) (iblk m c 5 t) (iblk m c 6 t)))
      (XD (cvE m c t E) (iblk m c 2 t) (iblk m c 5 t) (iblk m c 6 t)) (k0_pay55 (k0_pay12 (cvE m c t E)))
      (View.ld H (Rect.unit ![2, 0, 0] ![1, 128, 128] inb_S4x128x128_S1x128x128_2_0_0)) (ix3 x0 x1 x2) = updE m c t E H j n l := by
  obtain rfl : x0 = 0 := Fin.ext (by omega)
  obtain rfl : n = x1 := Fin.ext h1
  obtain rfl : l = x2 := Fin.ext h2
  obtain rfl : j = 2 := Fin.ext h0
  refine (slab2 (cvE m c t E) _ _ _ hr.ht hr.ha _ n l).trans ?_
  exact congrArg₂ (fun q o => upd (cc (cvE m c t E)) _ _ (fun _ _ => o) q n) (Fin.ext (by first | rfl | (show l.val = 128 * 0 + l.val; omega)))
    (ld_slab H 2 n l inb_S4x128x128_S1x128x128_2_0_0)

theorem piece3 (hr : RealX (iblk m c 2 t) (iblk m c 5 t) (iblk m c 6 t)) (E : Vec Ideal S136x1024 .f32) (H : Vec Ideal S4x128x128 .f32)
    (j : Fin 4) (n l : Fin 128) (x0 : Fin 1) (x1 x2 : Fin 128) (h0 : j.val = 3) (h1 : n.val = x1.val) (h2 : l.val = x2.val) :
    k0_pay68 (F := Ideal) (k0_pay67 (k0_pay29 (CUM (iblk m c 2 t) (iblk m c 5 t) (iblk m c 6 t)))
      (XD (cvE m c t E) (iblk m c 2 t) (iblk m c 5 t) (iblk m c 6 t)) (k0_pay55 (k0_pay12 (cvE m c t E)))
      (View.ld H (Rect.unit ![3, 0, 0] ![1, 128, 128] inb_S4x128x128_S1x128x128_3_0_0))) (ix3 x0 x1 x2) = updE m c t E H j n l := by
  obtain rfl : x0 = 0 := Fin.ext (by omega)
  obtain rfl : n = x1 := Fin.ext h1
  obtain rfl : l = x2 := Fin.ext h2
  obtain rfl : j = 3 := Fin.ext h0
  refine (slab3 (cvE m c t E) _ _ _ hr.ht hr.ha _ n l).trans ?_
  exact congrArg₂ (fun q o => upd (cc (cvE m c t E)) _ _ (fun _ _ => o) q n) (Fin.ext (by first | rfl | (show l.val = 128 * 0 + l.val; omega)))
    (ld_slab H 3 n l inb_S4x128x128_S1x128x128_3_0_0)

set_option maxHeartbeats 4000000 in
/-- A middle chunk's new state. -/
theorem state_B (h0 : ¬t.val % 32 = 0) (h1 : ¬t.val % 32 = 31) (hr : RealX (iblk m c 2 t) (iblk m c 5 t) (iblk m c 6 t)) (j : Fin 4) (n l : Fin 128) :
    (stAt0 m c t.val t.isLt acc).2.2.2.2 (ix3 j n l) = updE m c t acc.2.2.2.1 acc.2.2.2.2 j n l := by
  rw [stAt0_B m c t acc h0 h1]
  dsimp only
  frame_open
  simp (disch := decide) only [↓ View.readCov_skip, ↓ View.readCov_cons_toLoadRect, ↓ View.readCov_fill]
  frame_out
  simp only [pay9_eq, read_unread_whole, ld_rows _ _ _ _ 0 5 rfl, ld_rows _ _ _ _ 1 6 rfl, ld_rows _ _ _ _ 2 7 rfl]
  canon_tiles x h
  all_goals idx_vars x
  case piece0 => exact piece3 hr _ _ _ _ _ _ _ _ (by omega) h1 h2
  case piece1 => exact piece2 hr _ _ _ _ _ _ _ _ (by omega) h1 h2
  case piece2 => exact piece1 hr _ _ _ _ _ _ _ _ (by omega) h1 h2
  case piece3 => exact piece0 hr _ _ _ _ _ _ _ _ (by omega) h1 h2

/-! The kernel's layout of the state it writes out: head, place in the head, column. -/

theorem pay3_apply (X : Vec Ideal S1x128x128 .f32) (e : Fin 2) (p : Fin 64) (n : Fin 128) :
    k0_pay3 (F := Ideal) X (ix4 0 e p n) = X (ix3 0 n ⟨64 * e.val + p.val, by omega⟩) := by
  unfold k0_pay3
  pointwise
  refine congrArg X (funext fun a => Fin.ext ?_)
  fin_cases a <;> simp [ix3, Nat.mul_comm]

theorem pay4_apply (X : Vec Ideal S1x128x128 .f32) (e : Fin 2) (p : Fin 64) (n : Fin 128) :
    k0_pay4 (F := Ideal) X (ix4 0 e p n) = X (ix3 0 n ⟨64 * e.val + p.val, by omega⟩) := by
  unfold k0_pay4
  pointwise
  refine congrArg X (funext fun a => Fin.ext ?_)
  fin_cases a <;> simp [ix3, Nat.mul_comm]

theorem pay5_apply (X : Vec Ideal S1x128x128 .f32) (e : Fin 2) (p : Fin 64) (n : Fin 128) :
    k0_pay5 (F := Ideal) X (ix4 0 e p n) = X (ix3 0 n ⟨64 * e.val + p.val, by omega⟩) := by
  unfold k0_pay5
  pointwise
  refine congrArg X (funext fun a => Fin.ext ?_)
  fin_cases a <;> simp [ix3, Nat.mul_comm]

theorem pay6_apply (X : Vec Ideal S1x128x128 .f32) (e : Fin 2) (p : Fin 64) (n : Fin 128) :
    k0_pay6 (F := Ideal) X (ix4 0 e p n) = X (ix3 0 n ⟨64 * e.val + p.val, by omega⟩) := by
  unfold k0_pay6
  pointwise
  refine congrArg X (funext fun a => Fin.ext ?_)
  fin_cases a <;> simp [ix3, Nat.mul_comm]

section slabs
variable (o : ℕ) (inb : ∀ a, (![o, 0, 0] : Fin 3 → ℕ) a + (![1, 128, 128] : Fin 3 → ℕ) a ≤ S4x128x128.size a) (X : Vec Ideal S1x128x128 .f32)
  (L : List (View.Piece (Elt Ideal) S4x128x128 .f32)) (j : Fin 4) (n l : Fin 128)

theorem canon_slab_mem (h : j.val = o) : View.canon (⟨Rect.unit ![o, 0, 0] ![1, 128, 128] inb, X⟩ :: L) (ix3 j n l) = X (ix3 0 n l) := by
  have e : (Rect.unit (s := S4x128x128) ![o, 0, 0] ![1, 128, 128] inb).emb (ix3 0 n l) = ix3 j n l := by
    funext a; refine Fin.ext ?_; fin_cases a
    · show o + 1 * 0 = j.val; omega
    · show 0 + 1 * n.val = n.val; omega
    · show 0 + 1 * l.val = l.val; omega
  rw [← e]
  exact View.canon_cons_emb (Rect.unit (s := S4x128x128) ![o, 0, 0] ![1, 128, 128] inb) X L (ix3 0 n l)

theorem canon_slab_skip (h : j.val < o) : View.canon (⟨Rect.unit ![o, 0, 0] ![1, 128, 128] inb, X⟩ :: L) (ix3 j n l) = View.canon L (ix3 j n l) := by
  refine View.canon_cons_of_not_mem _ L fun hm => ?_
  have h0 : o ≤ j.val := ((Rect.mem_set_unit (s := S4x128x128) (inb := inb)).mp hm 0).1
  omega

end slabs

/-- Stores of the four slabs, whatever was there before. -/
theorem canon_slabs (X3 X2 X1 X0 : Vec Ideal S1x128x128 .f32) (L : List (View.Piece (Elt Ideal) S4x128x128 .f32)) (j : Fin 4) (n l : Fin 128) (v : EReal)
    (h3 : j.val = 3 → X3 (ix3 0 n l) = v) (h2 : j.val = 2 → X2 (ix3 0 n l) = v) (h1 : j.val = 1 → X1 (ix3 0 n l) = v) (h0 : j.val = 0 → X0 (ix3 0 n l) = v) :
    View.canon (⟨Rect.unit ![3, 0, 0] ![1, 128, 128] inb_S4x128x128_S1x128x128_3_0_0, X3⟩ :: ⟨Rect.unit ![2, 0, 0] ![1, 128, 128] inb_S4x128x128_S1x128x128_2_0_0, X2⟩
      :: ⟨Rect.unit ![1, 0, 0] ![1, 128, 128] inb_S4x128x128_S1x128x128_1_0_0, X1⟩ :: ⟨Rect.unit ![0, 0, 0] ![1, 128, 128] inb_S4x128x128_S1x128x128_0_0_0, X0⟩ :: L)
      (ix3 j n l) = v := by
  by_cases e3 : j.val = 3
  · exact (canon_slab_mem 3 _ X3 _ j n l e3).trans (h3 e3)
  refine (canon_slab_skip 3 _ X3 _ j n l (by omega)).trans ?_
  by_cases e2 : j.val = 2
  · exact (canon_slab_mem 2 _ X2 _ j n l e2).trans (h2 e2)
  refine (canon_slab_skip 2 _ X2 _ j n l (by omega)).trans ?_
  by_cases e1 : j.val = 1
  · exact (canon_slab_mem 1 _ X1 _ j n l e1).trans (h1 e1)
  refine (canon_slab_skip 1 _ X1 _ j n l (by omega)).trans ?_
  exact (canon_slab_mem 0 _ X0 _ j n l (by omega)).trans (h0 (by omega))

theorem pay2_apply (X : Vec Ideal S3x1024 .f32) (k : Fin 3) (q : Fin 1024) : k0_pay2 (F := Ideal) X (ix3 0 k q) = X (ix2 k q) := by
  unfold k0_pay2; pointwise

set_option maxHeartbeats 4000000 in
theorem state_C (h0 : ¬t.val % 32 = 0) (h1 : t.val % 32 = 31) (hr : RealX (iblk m c 2 t) (iblk m c 5 t) (iblk m c 6 t)) (j : Fin 4) (n l : Fin 128) :
    (stAt0 m c t.val t.isLt acc).2.2.2.2 (ix3 j n l) = updE m c t acc.2.2.2.1 acc.2.2.2.2 j n l := by
  rw [stAt0_C m c t acc h0 h1]
  dsimp only
  frame_open
  simp (disch := decide) only [↓ View.readCov_skip, ↓ View.readCov_cons_toLoadRect, ↓ View.readCov_fill]
  frame_out
  simp only [pay9_eq, read_unread_whole, ld_rows _ _ _ _ 0 5 rfl, ld_rows _ _ _ _ 1 6 rfl, ld_rows _ _ _ _ 2 7 rfl]
  canon_tiles x h
  all_goals idx_vars x
  case piece0 => exact piece3 hr _ _ _ _ _ _ _ _ (by omega) h1 h2
  case piece1 => exact piece2 hr _ _ _ _ _ _ _ _ (by omega) h1 h2
  case piece2 => exact piece1 hr _ _ _ _ _ _ _ _ (by omega) h1 h2
  case piece3 => exact piece0 hr _ _ _ _ _ _ _ _ (by omega) h1 h2

set_option maxHeartbeats 4000000 in
/-- The last chunk's state, as it is written out. -/
theorem hout_C (h0 : ¬t.val % 32 = 0) (h1 : t.val % 32 = 31) (hr : RealX (iblk m c 2 t) (iblk m c 5 t) (iblk m c 6 t)) (h : Fin 8) (p : Fin 64) (n : Fin 128) :
    (stAt0 m c t.val t.isLt acc).2.1 (ix4 0 h p n)
      = updE m c t acc.2.2.2.1 acc.2.2.2.2 ⟨h.val / 2, by omega⟩ n ⟨64 * (h.val % 2) + p.val, by omega⟩ := by
  rw [stAt0_C m c t acc h0 h1]
  dsimp only
  frame_open
  simp (disch := decide) only [↓ View.readCov_skip, ↓ View.readCov_cons_toLoadRect, ↓ View.readCov_fill]
  frame_out
  simp only [pay9_eq, read_unread_whole, ld_rows _ _ _ _ 0 5 rfl, ld_rows _ _ _ _ 1 6 rfl, ld_rows _ _ _ _ 2 7 rfl]
  canon_tiles x h
  all_goals idx_vars x
  all_goals obtain rfl : x0 = 0 := Fin.ext (by omega)
  all_goals obtain rfl : p = x2 := Fin.ext h2
  all_goals obtain rfl : n = x3 := Fin.ext h3
  case piece0 => exact (pay6_apply _ x1 p n).trans (piece3 hr _ _ _ _ _ _ _ _ (by dsimp only; omega) rfl (by dsimp only; omega))
  case piece1 => exact (pay5_apply _ x1 p n).trans (piece2 hr _ _ _ _ _ _ _ _ (by dsimp only; omega) rfl (by dsimp only; omega))
  case piece2 => exact (pay4_apply _ x1 p n).trans (piece1 hr _ _ _ _ _ _ _ _ (by dsimp only; omega) rfl (by dsimp only; omega))
  case piece3 => exact (pay3_apply _ x1 p n).trans (piece0 hr _ _ _ _ _ _ _ _ (by dsimp only; omega) rfl (by dsimp only; omega))

set_option maxHeartbeats 4000000 in
/-- The rows kept for the next chunk, after the last one. -/
theorem tail_C (h0 : ¬t.val % 32 = 0) (h1 : t.val % 32 = 31) (k : Fin 3) (q : Fin 1024) :
    (stAt0 m c t.val t.isLt acc).2.2.1 (ix3 0 k q) = (iblk m c 1 t : Vec Ideal S128x1024 .f32) (ix2 ⟨125 + k.val, by omega⟩ q) := by
  rw [stAt0_C m c t acc h0 h1]
  dsimp only
  frame_open
  simp (disch := decide) only [↓ View.readCov_skip, ↓ View.readCov_cons_toLoadRect, ↓ View.readCov_fill]
  frame_out
  simp only [pay9_eq]
  refine (pay2_apply _ k q).trans ?_
  exact congrFun (cov_tail _ _ _ _) (ix2 k q)

set_option maxHeartbeats 4000000 in
/-- The rows kept for the next chunk. -/
theorem kept_B (h0 : ¬t.val % 32 = 0) (h1 : ¬t.val % 32 = 31) (k : Fin 3) (q : Fin 1024) :
    (stAt0 m c t.val t.isLt acc).2.2.2.1 (ix2 ⟨5 + k.val, by omega⟩ q) = (iblk m c 1 t : Vec Ideal S128x1024 .f32) (ix2 ⟨125 + k.val, by omega⟩ q) := by
  rw [stAt0_B m c t acc h0 h1]
  dsimp only
  frame_open
  simp (disch := decide) only [↓ View.readCov_skip, ↓ View.readCov_cons_toLoadRect, ↓ View.readCov_fill]
  frame_out
  simp only [pay9_eq, pay11_eq]
  refine (View.read_writes_cons_rows_of_mem (o := 5) _ _ inb_S136x1024_S3x1024_5_0 _ _ (ix2 ⟨5 + k.val, by omega⟩ q) (by exact (ix2 k q : S3x1024.Idx)) rfl rfl rfl).trans ?_
  exact congrFun (cov_tail _ _ _ _) (ix2 k q)

set_option maxHeartbeats 4000000 in
theorem kept_A (h0 : t.val % 32 = 0) (h1 : ¬t.val % 32 = 31) (k : Fin 3) (q : Fin 1024) :
    (stAt0 m c t.val t.isLt acc).2.2.2.1 (ix2 ⟨5 + k.val, by omega⟩ q) = (iblk m c 1 t : Vec Ideal S128x1024 .f32) (ix2 ⟨125 + k.val, by omega⟩ q) := by
  rw [stAt0_A m c t acc h0 h1]
  dsimp only
  frame_open
  simp (disch := decide) only [↓ View.readCov_skip, ↓ View.readCov_cons_toLoadRect, ↓ View.readCov_fill]
  frame_out
  simp only [pay9_eq, pay11_eq]
  refine (View.read_writes_junk_apply_eq_canon (View.whole cc0_scratch0) _ _).symm.trans ?_
  refine (View.read_writes_cons_rows_of_mem (o := 5) _ _ inb_S136x1024_S3x1024_5_0 _ _ (ix2 ⟨5 + k.val, by omega⟩ q) (by exact (ix2 k q : S3x1024.Idx)) rfl rfl rfl).trans ?_
  exact congrFun (cov_tail _ _ _ _) (ix2 k q)

theorem pay7_zero (i : S8x1024.Idx) : k0_pay7 (F := Ideal) i = 0 := by
  unfold k0_pay7; pointwise

set_option maxHeartbeats 4000000 in
/-- The first chunk's new state. -/
theorem state_A (h0 : t.val % 32 = 0) (h1 : ¬t.val % 32 = 31) (hr : RealX (iblk m c 2 t) (iblk m c 5 t) (iblk m c 6 t)) (j : Fin 4) (n l : Fin 128) :
    (stAt0 m c t.val t.isLt acc).2.2.2.2 (ix3 j n l) = updE m c t (fun _ => 0) (k0_pay8 (F := Ideal)) j n l := by
  rw [stAt0_A m c t acc h0 h1]
  dsimp only
  frame_open
  simp (disch := decide) only [↓ View.readCov_skip, ↓ View.readCov_cons_toLoadRect, ↓ View.readCov_fill]
  frame_out
  simp only [pay9_eq, read_unread_whole, cov_rows _ pay7_zero _ _ _ 0 5 rfl, cov_rows _ pay7_zero _ _ _ 1 6 rfl, cov_rows _ pay7_zero _ _ _ 2 7 rfl]
  exact canon_slabs _ _ _ _ _ j n l _ (fun h => piece3 hr _ _ _ _ _ _ _ _ h rfl rfl) (fun h => piece2 hr _ _ _ _ _ _ _ _ h rfl rfl)
    (fun h => piece1 hr _ _ _ _ _ _ _ _ h rfl rfl) (fun h => piece0 hr _ _ _ _ _ _ _ _ h rfl rfl)

end points

end Cert.Kernel8Ideal.Hand
-- ==== Proof.Spec8.lean ====
/-
  THE RECURRENCE OVER A PROMPT, stated plainly over the arrays: the convolution over a sequence's rows with three rows of zeros in front,
  the step sizes and rates, and the state after each chunk of 128 positions.
-/
module

public import proofs.«01_k».proof.Proof.Chunk8

@[expose] public section

noncomputable section

open Idealize.ShloMosaic Idealize.ShloMosaic.TcCoe Idealize.SL.Sem

namespace Cert.Kernel8Ideal.Hand

open Cert.Kernel8Ideal
open Cert.SsdRow (IsReal silu softplus)
open Cert.SsdChunk (upd hd)

variable (x1 : Vec Ideal S4x4096x1024 .f32) (x2 : Vec Ideal S4x4096x8 .f32) (x3 : Vec Ideal S4x1024 .f32) (x4 : Vec Ideal S1024 .f32) (x5 x6 : Vec Ideal S8 .f32)

/-- Row `i` of sequence `b` with three rows of zeros in front. -/
def xp (b : Fin 4) (i : ℕ) (k : Fin 1024) : EReal := if h : 3 ≤ i ∧ i < 4099 then x1 (ix3 b ⟨i - 3, by omega⟩ k) else 0

/-- Position `s` of chunk `c`. -/
def pos (c : ℕ) (s : Fin 128) : Fin 4096 := ⟨(128 * c + s.val) % 4096, by omega⟩

/-- The convolution at position `s` of chunk `c`. -/
def cv8 (b : Fin 4) (c : ℕ) (s : Fin 128) (k : Fin 1024) : EReal :=
  x4 (ix1 k) + x3 (ix2 0 k) * xp x1 b (128 * c + s.val) k + x3 (ix2 1 k) * xp x1 b (128 * c + s.val + 1) k
    + x3 (ix2 2 k) * xp x1 b (128 * c + s.val + 2) k + x3 (ix2 3 k) * xp x1 b (128 * c + s.val + 3) k

/-- The step sizes. -/
def t8 (b : Fin 4) (c : ℕ) (s : Fin 128) (h : Fin 8) : EReal := softplus (x2 (ix3 b (pos c s) h) + x5 (ix1 h))

/-- The rates. -/
def a8 (h : Fin 8) : EReal := -Ideal.exp (x6 (ix1 h))

/-- The state before chunk `c`. -/
def st8 (b : Fin 4) : ℕ → Fin 512 → Fin 128 → EReal
  | 0 => fun _ _ => 0
  | c + 1 => upd (cv8 x1 x3 x4 b c) (t8 x2 x5 b c) (a8 x6) (st8 b c)

/-- The state after the whole prompt. -/
def h8 : Vec Ideal S4x8x64x128 .f32 := fun i =>
  have h1 : (i 1).val < 8 := (i 1).isLt
  have h2 : (i 2).val < 64 := (i 2).isLt
  st8 x1 x2 x3 x4 x5 x6 (i 0) 32 ⟨64 * (i 1).val + (i 2).val, by omega⟩ (i 3)

/-- The last three rows of each sequence. -/
def c8 : Vec Ideal S4x3x1024 .f32 := fun i =>
  have h1 : (i 1).val < 3 := (i 1).isLt
  x1 (ix3 (i 0) ⟨4093 + (i 1).val, by omega⟩ (i 2))

/-- The numbers the recurrence's exponents are made from are real. -/
structure Real8 : Prop where
  ht : ∀ i, IsReal (x2 i)
  hb : ∀ i, IsReal (x5 i)
  ha : ∀ i, IsReal (x6 i)

end Cert.Kernel8Ideal.Hand
-- ==== Proof.Run8.lean ====
/-
  THE RECURRENCE OVER A PROMPT: the launch's blocks and the chunks in order. The blocks are read off the arrays, each chunk's state
  follows from the one before, and the last chunk of each sequence is what the launch leaves.
-/
module

public import proofs.«01_k».proof.Proof.Scan8
public import proofs.«01_k».proof.Proof.Spec8
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen Cert.Kernel8Ideal.Value
open Cert.SsdRow (IsReal silu softplus)
open Cert.SsdChunk (upd hd)

variable (m : (ℓ : Loc nD τ sig) → Buf (Elt Ideal) ℓ)

/-! ### The arrays the host lays out -/

theorem flat1 (x : Vec Ideal S4x4096x1024 .f32) (R : Fin 16384) (k : Fin 1024) :
    shapeCast S16384x1024 x shapeCasts_S4x4096x1024_S16384x1024 (ix2 R k) = x (ix3 ⟨R.val / 4096, by omega⟩ ⟨R.val % 4096, by omega⟩ k) := by
  pointwise

theorem flat2 (x : Vec Ideal S4x4096x8 .f32) (R : Fin 16384) (h : Fin 8) :
    shapeCast S16384x8 x shapeCasts_S4x4096x8_S16384x8 (ix2 R h) = x (ix3 ⟨R.val / 4096, by omega⟩ ⟨R.val % 4096, by omega⟩ h) := by
  pointwise

theorem pad2_apply (x : Vec Ideal S16384x8 .f32) (z : Vec Ideal S_ .f32) (r : Fin 16384) (j : Fin 128) (hj : j.val < 8) :
    pad S16384x128 ![0, 0] ![0, 120] ![0, 0] x z pads_S16384x8_S16384x128_000_01200 h_S_ (ix2 r j) = x (ix2 r ⟨j, hj⟩) := by
  pointwise
  exact dif_pos hj

theorem pad1_apply (x : Vec Ideal S8 .f32) (z : Vec Ideal S_ .f32) (j : Fin 128) (hj : j.val < 8) :
    shapeCast S1x128 (pad S128 ![0] ![120] ![0] x z pads_S8_S128_01200 h_S_) shapeCasts_S128_S1x128 (ix2 0 j) = x (ix1 ⟨j, hj⟩) := by
  pointwise
  exact dif_pos hj

theorem V_v1 (c : Dev nD) (R : Fin 16384) (k : Fin 1024) :
    V m c main_v1 (ix2 R k) = m ((c : Thread nD τ).loc main_arg1) (ix3 ⟨R.val / 4096, by omega⟩ ⟨R.val % 4096, by omega⟩ k) := by
  simp only [V, hostOps0, hostOps0_1, hostOps0_2, hostOps0_3, hostOps0_4, hostOps0_5, hostOps0_6, List.flatten_cons, List.flatten_nil, List.append_nil, List.cons_append, List.nil_append]
  after_results_simp
  exact flat1 _ R k

theorem V_v3 (c : Dev nD) (R : Fin 16384) (h : Fin 8) :
    V m c main_v3 (ix2 R ⟨h.val, by omega⟩) = m ((c : Thread nD τ).loc main_arg2) (ix3 ⟨R.val / 4096, by omega⟩ ⟨R.val % 4096, by omega⟩ h) := by
  simp only [V, hostOps0, hostOps0_1, hostOps0_2, hostOps0_3, hostOps0_4, hostOps0_5, hostOps0_6, List.flatten_cons, List.flatten_nil, List.append_nil, List.cons_append, List.nil_append]
  after_results_simp
  exact (pad2_apply _ _ R ⟨h.val, by omega⟩ (by dsimp only; omega)).trans (flat2 _ R h)

theorem V_v5 (c : Dev nD) (h : Fin 8) : V m c main_v5 (ix2 0 ⟨h.val, by omega⟩) = m ((c : Thread nD τ).loc main_arg5) (ix1 h) := by
  simp only [V, hostOps0, hostOps0_1, hostOps0_2, hostOps0_3, hostOps0_4, hostOps0_5, hostOps0_6, List.flatten_cons, List.flatten_nil, List.append_nil, List.cons_append, List.nil_append]
  after_results_simp
  exact pad1_apply _ _ ⟨h.val, by omega⟩ (by dsimp only; omega)

theorem V_v7 (c : Dev nD) (h : Fin 8) : V m c main_v7 (ix2 0 ⟨h.val, by omega⟩) = m ((c : Thread nD τ).loc main_arg6) (ix1 h) := by
  simp only [V, hostOps0, hostOps0_1, hostOps0_2, hostOps0_3, hostOps0_4, hostOps0_5, hostOps0_6, List.flatten_cons, List.flatten_nil, List.append_nil, List.cons_append, List.nil_append]
  after_results_simp
  exact pad1_apply _ _ ⟨h.val, by omega⟩ (by dsimp only; omega)

theorem V_v11 (c : Dev nD) (k : Fin 1024) : V m c main_v11 (ix2 0 k) = m ((c : Thread nD τ).loc main_arg4) (ix1 k) := by
  simp only [V, hostOps0, hostOps0_1, hostOps0_2, hostOps0_3, hostOps0_4, hostOps0_5, hostOps0_6, List.flatten_cons, List.flatten_nil, List.append_nil, List.cons_append, List.nil_append]
  after_results_simp
  pointwise

/-! ### The blocks -/

theorem idx : ∀ t : Fin cfg0.N, win0_1.index t = ![t.val, 0] ∧ win0_2.index t = ![t.val, 0] ∧ win0_3.index t = ![0, 0]
    ∧ win0_4.index t = ![0, 0] ∧ win0_5.index t = ![0, 0] ∧ win0_6.index t = ![0, 0] :=
  (by decide +kernel : ∀ t : Fin grid0.N, win0_1.index t = ![t.val, 0] ∧ win0_2.index t = ![t.val, 0] ∧ win0_3.index t = ![0, 0]
    ∧ win0_4.index t = ![0, 0] ∧ win0_5.index t = ![0, 0] ∧ win0_6.index t = ![0, 0])

section blocks
variable (c : Dev nD) (t : Fin cfg0.N)

/-- Row `s` of point `t`'s block, among all sequences' rows. -/
abbrev row (s : Fin 128) : Fin 16384 := ⟨128 * t.val + s.val, by have := t.isLt; have : cfg0.N = 128 := N_0; omega⟩

/-- Point `t`'s sequence. -/
abbrev seqOf : Fin 4 := ⟨t.val / 32, by have := t.isLt; have : cfg0.N = 128 := N_0; omega⟩

theorem row_div (s : Fin 128) : (⟨(row t s).val / 4096, by omega⟩ : Fin 4) = seqOf t := Fin.ext (by dsimp only; omega)
theorem row_mod (s : Fin 128) : (⟨(row t s).val % 4096, by omega⟩ : Fin 4096) = pos (t.val % 32) s := Fin.ext (by unfold pos; dsimp only; omega)

theorem blk1 (s : Fin 128) (k : Fin 1024) : (iblk m c 1 t : S128x1024.Idx → EReal) (ix2 s k) = m ((c : Thread nD τ).loc main_arg1) (ix3 (seqOf t) (pos (t.val % 32) s) k) := by
  rw [← row_div t s, ← row_mod t s, ← V_v1 m c (row t s) k]
  blk_ext [iblk, idx t]

theorem blk2 (s : Fin 128) (h : Fin 8) : (iblk m c 2 t : S128x128.Idx → EReal) (ix2 s ⟨h.val, by omega⟩) = m ((c : Thread nD τ).loc main_arg2) (ix3 (seqOf t) (pos (t.val % 32) s) h) := by
  rw [← row_div t s, ← row_mod t s, ← V_v3 m c (row t s) h]
  blk_ext [iblk, idx t]

theorem blk3 (j : Fin 4) (k : Fin 1024) : (iblk m c 3 t : S4x1024.Idx → EReal) (ix2 j k) = m ((c : Thread nD τ).loc main_arg3) (ix2 j k) := by
  rw [← V_main_arg3 m c]
  blk_ext [iblk, idx t]

theorem blk4 (k : Fin 1024) : (iblk m c 4 t : S1x1024.Idx → EReal) (ix2 0 k) = m ((c : Thread nD τ).loc main_arg4) (ix1 k) := by
  rw [← V_v11 m c]
  blk_ext [iblk, idx t]

theorem blk5 (h : Fin 8) : (iblk m c 5 t : S1x128.Idx → EReal) (ix2 0 ⟨h.val, by omega⟩) = m ((c : Thread nD τ).loc main_arg5) (ix1 h) := by
  rw [← V_v5 m c]
  blk_ext [iblk, idx t]

theorem blk6 (h : Fin 8) : (iblk m c 6 t : S1x128.Idx → EReal) (ix2 0 ⟨h.val, by omega⟩) = m ((c : Thread nD τ).loc main_arg6) (ix1 h) := by
  rw [← V_v7 m c]
  blk_ext [iblk, idx t]

end blocks

/-! ### The chunks in order -/

section chunks
variable (c : Dev nD)

abbrev X1 : Vec Ideal S4x4096x1024 .f32 := m ((c : Thread nD τ).loc main_arg1)
abbrev X2 : Vec Ideal S4x4096x8 .f32 := m ((c : Thread nD τ).loc main_arg2)
abbrev X3 : Vec Ideal S4x1024 .f32 := m ((c : Thread nD τ).loc main_arg3)
abbrev X4 : Vec Ideal S1024 .f32 := m ((c : Thread nD τ).loc main_arg4)
abbrev X5 : Vec Ideal S8 .f32 := m ((c : Thread nD τ).loc main_arg5)
abbrev X6 : Vec Ideal S8 .f32 := m ((c : Thread nD τ).loc main_arg6)

theorem xp_mid (b : Fin 4) (q : ℕ) (s : Fin 128) (hq : q < 32) (i : ℕ) (hi : i = 128 * q + s.val + 3) (k : Fin 1024) :
    xp (X1 m c) b i k = X1 m c (ix3 b (pos q s) k) := by
  subst hi
  unfold xp
  rw [dif_pos (by omega)]
  exact congrArg (fun r => X1 m c (ix3 b r k)) (Fin.ext (by unfold pos; dsimp only; omega))

theorem xp_zero (b : Fin 4) (i : ℕ) (hi : i < 3) (k : Fin 1024) : xp (X1 m c) b i k = 0 := dif_neg (by omega)

theorem extv_at (t : Fin cfg0.N) (E : Vec Ideal S136x1024 .f32)
    (hE : ∀ (i : Fin 3) (k : Fin 1024), E (ix2 ⟨5 + i.val, by omega⟩ k) = xp (X1 m c) (seqOf t) (128 * (t.val % 32) + i.val) k)
    (o : Fin 4) (s : Fin 128) (k : Fin 1024) :
    extv E (iblk m c 1 t) o (ix2 s k) = xp (X1 m c) (seqOf t) (128 * (t.val % 32) + s.val + o.val) k := by
  rw [extv_apply]
  by_cases h : s.val + o.val < 3
  · rw [dif_pos h]
    have e := hE ⟨s.val + o.val, h⟩ k
    have e1 : (⟨5 + o.val + s.val, by omega⟩ : Fin 136) = ⟨5 + (s.val + o.val), by omega⟩ := Fin.ext (by dsimp only; omega)
    rw [e1]
    exact e.trans (congrArg (fun i => xp (X1 m c) (seqOf t) i k) (by dsimp only; omega))
  · rw [dif_neg h]
    refine (blk1 m c t _ k).trans ?_
    exact (xp_mid m c _ _ ⟨s.val + o.val - 3, by omega⟩ (by omega) _ (by dsimp only; omega) k).symm

theorem ld_w (t : Fin cfg0.N) (o : Fin 4) (inb : ∀ a, (![o.val, 0] : Fin 2 → ℕ) a + (![1, 1024] : Fin 2 → ℕ) a ≤ S4x1024.size a) (k : Fin 1024) :
    View.ld (iblk m c 3 t : Vec Ideal S4x1024 .f32) (Rect.unit ![o.val, 0] ![1, 1024] inb) (ix2 0 k) = X3 m c (ix2 o k) := by
  refine Eq.trans ?_ (blk3 m c t o k)
  refine congrArg (iblk m c 3 t : Vec Ideal S4x1024 .f32) (funext fun a => Fin.ext ?_)
  fin_cases a
  · show o.val + 1 * 0 = o.val; omega
  · show 0 + 1 * k.val = k.val; omega

theorem cvE_at (t : Fin cfg0.N) (E : Vec Ideal S136x1024 .f32)
    (hE : ∀ (i : Fin 3) (k : Fin 1024), E (ix2 ⟨5 + i.val, by omega⟩ k) = xp (X1 m c) (seqOf t) (128 * (t.val % 32) + i.val) k) :
    cc (cvE m c t E) = cv8 (X1 m c) (X3 m c) (X4 m c) (seqOf t) (t.val % 32) := by
  funext s k
  refine (pay10_apply _ _ _ _ _ _ _ _ _ s k).trans ?_
  unfold cv8
  have e3 : (iblk m c 1 t : Vec Ideal S128x1024 .f32) (ix2 s k) = xp (X1 m c) (seqOf t) (128 * (t.val % 32) + s.val + 3) k :=
    (blk1 m c t s k).trans (xp_mid m c _ _ s (by omega) _ rfl k).symm
  rw [e3, extv_at m c t E hE 0 s k, extv_at m c t E hE 1 s k, extv_at m c t E hE 2 s k]
  rw [show View.ld (iblk m c 3 t : Vec Ideal S4x1024 .f32) (Rect.unit ![0, 0] ![1, 1024] inb_S4x1024_S1x1024_0_0) (ix2 0 k) = X3 m c (ix2 0 k) from ld_w m c t 0 _ k,
    show View.ld (iblk m c 3 t : Vec Ideal S4x1024 .f32) (Rect.unit ![1, 0] ![1, 1024] inb_S4x1024_S1x1024_1_0) (ix2 0 k) = X3 m c (ix2 1 k) from ld_w m c t 1 _ k,
    show View.ld (iblk m c 3 t : Vec Ideal S4x1024 .f32) (Rect.unit ![2, 0] ![1, 1024] inb_S4x1024_S1x1024_2_0) (ix2 0 k) = X3 m c (ix2 2 k) from ld_w m c t 2 _ k,
    show View.ld (iblk m c 3 t : Vec Ideal S4x1024 .f32) (Rect.unit ![3, 0] ![1, 1024] inb_S4x1024_S1x1024_3_0) (ix2 0 k) = X3 m c (ix2 3 k) from ld_w m c t 3 _ k]
  rw [show (iblk m c 4 t : Vec Ideal S1x1024 .f32) (ix2 0 k) = X4 m c (ix1 k) from blk4 m c t k]
  rfl

theorem tt_at (t : Fin cfg0.N) : tt (iblk m c 2 t) (iblk m c 5 t) = t8 (X2 m c) (X5 m c) (seqOf t) (t.val % 32) := by
  funext s h
  unfold tt t8
  exact congrArg softplus (congrArg₂ (· + ·) (blk2 m c t s h) (blk5 m c t h))

theorem aa_at (t : Fin cfg0.N) : aa (iblk m c 6 t) = a8 (X6 m c) := by
  funext h
  unfold aa a8
  exact congrArg (fun r => -Ideal.exp r) (blk6 m c t h)

variable (hm : Real8 (X2 m c) (X5 m c) (X6 m c))
include hm

theorem realX (t : Fin cfg0.N) : RealX (iblk m c 2 t) (iblk m c 5 t) (iblk m c 6 t) where
  ht s h := by
    have e := congrArg₂ (HAdd.hAdd (α := EReal) (β := EReal)) (blk2 m c t s h) (blk5 m c t h)
    exact e ▸ (hm.ht _).add (hm.hb _)
  ha h := by
    have e := blk6 m c t h
    exact e ▸ hm.ha _

/-- A chunk's new state, over the state before it. -/
theorem updE_at (t : Fin cfg0.N) (E : Vec Ideal S136x1024 .f32)
    (hE : ∀ (i : Fin 3) (k : Fin 1024), E (ix2 ⟨5 + i.val, by omega⟩ k) = xp (X1 m c) (seqOf t) (128 * (t.val % 32) + i.val) k)
    (H : Vec Ideal S4x128x128 .f32) (j : Fin 4) (n l : Fin 128)
    (hH : H (ix3 j n l) = st8 (X1 m c) (X2 m c) (X3 m c) (X4 m c) (X5 m c) (X6 m c) (seqOf t) (t.val % 32) ⟨128 * j.val + l.val, by omega⟩ n) :
    updE m c t E H j n l = st8 (X1 m c) (X2 m c) (X3 m c) (X4 m c) (X5 m c) (X6 m c) (seqOf t) (t.val % 32 + 1) ⟨128 * j.val + l.val, by omega⟩ n := by
  unfold updE
  rw [cvE_at m c t E hE, tt_at, aa_at, hH]
  rfl

theorem pay8_zero (i : S4x128x128.Idx) : k0_pay8 (F := Ideal) i = 0 := by
  unfold k0_pay8; pointwise

/-- What a point leaves, of what the point before left. -/
theorem outs_step (n : ℕ) (hn : n < cfg0.N) : ∃ acc, outsAt0 m c n hn = stAt0 m c n hn acc ∧ ∀ p (hp : p < cfg0.N), n = p + 1 → acc = outsAt0 m c p hp := by
  cases n with
  | zero => exact ⟨_, outsAt0_zero m c hn, fun p _ e => absurd e (by omega)⟩
  | succ p => exact ⟨_, outsAt0_succ m c p hn, fun p' _ e => by obtain rfl : p = p' := by omega
                                                                rfl⟩

/-- After each chunk but a sequence's last: the rows kept and the state. -/
theorem chunk (n : ℕ) : ∀ hn : n < cfg0.N, n % 32 ≠ 31 →
    (∀ (i : Fin 3) (k : Fin 1024), (outsAt0 m c n hn).2.2.2.1 (ix2 ⟨5 + i.val, by omega⟩ k) = xp (X1 m c) (seqOf ⟨n, hn⟩) (128 * (n % 32 + 1) + i.val) k)
    ∧ ∀ (j : Fin 4) (q l : Fin 128), (outsAt0 m c n hn).2.2.2.2 (ix3 j q l)
      = st8 (X1 m c) (X2 m c) (X3 m c) (X4 m c) (X5 m c) (X6 m c) (seqOf ⟨n, hn⟩) (n % 32 + 1) ⟨128 * j.val + l.val, by omega⟩ q := by
  induction n with
  | zero =>
    intro hn _
    obtain ⟨acc, e, -⟩ := outs_step m c hm 0 hn
    rw [e]
    refine ⟨fun i k => ?_, fun j q l => ?_⟩
    · refine (kept_A (t := ⟨0, hn⟩) acc rfl (by dsimp only; omega) i k).trans ((blk1 m c ⟨0, hn⟩ _ k).trans ?_)
      exact (xp_mid m c _ 0 ⟨125 + i.val, by omega⟩ (by omega) _ (by dsimp only; omega) k).symm
    · refine (state_A (t := ⟨0, hn⟩) acc rfl (by dsimp only; omega) (realX m c hm _) j q l).trans ?_
      exact updE_at m c hm ⟨0, hn⟩ _ (fun i k => (xp_zero m c _ _ (by dsimp only; omega) k).symm) _ j q l (pay8_zero m c hm _)
  | succ p ih =>
    intro hn h31
    obtain ⟨acc, e, ha⟩ := outs_step m c hm (p + 1) hn
    have ha := ha p (by omega) rfl
    rw [e]
    by_cases h0 : (p + 1) % 32 = 0
    · refine ⟨fun i k => ?_, fun j q l => ?_⟩
      · refine (kept_A (t := ⟨p + 1, hn⟩) acc h0 h31 i k).trans ((blk1 m c ⟨p + 1, hn⟩ _ k).trans ?_)
        exact (xp_mid m c _ _ ⟨125 + i.val, by omega⟩ (by omega) _ (by dsimp only; omega) k).symm
      · refine (state_A (t := ⟨p + 1, hn⟩) acc h0 h31 (realX m c hm _) j q l).trans ?_
        refine updE_at m c hm ⟨p + 1, hn⟩ _ (fun i k => (xp_zero m c _ _ (by dsimp only; omega) k).symm) _ j q l ?_
        refine (pay8_zero m c hm _).trans ?_
        dsimp only
        rw [h0]
        rfl
    · obtain ⟨hk, hs⟩ := ih (by omega) (by omega)
      have es : seqOf ⟨p + 1, hn⟩ = seqOf ⟨p, by omega⟩ := Fin.ext (by dsimp only; omega)
      have ec : (p + 1) % 32 = p % 32 + 1 := by omega
      refine ⟨fun i k => ?_, fun j q l => ?_⟩
      · refine (kept_B (t := ⟨p + 1, hn⟩) acc h0 h31 i k).trans ((blk1 m c ⟨p + 1, hn⟩ _ k).trans ?_)
        exact (xp_mid m c _ _ ⟨125 + i.val, by omega⟩ (by omega) _ (by dsimp only; omega) k).symm
      · refine (state_B (t := ⟨p + 1, hn⟩) acc h0 h31 (realX m c hm _) j q l).trans ?_
        refine updE_at m c hm ⟨p + 1, hn⟩ _ (fun i k => ?_) _ j q l ?_
        · rw [ha, hk i k, es]; dsimp only; rw [ec]
        · rw [ha, hs j q l, es]; dsimp only; rw [ec]

/-- After a sequence's last chunk: the state written out and the rows written out. -/
theorem last (n : ℕ) (hn : n < cfg0.N) (h31 : n % 32 = 31) :
    (∀ (h : Fin 8) (p : Fin 64) (q : Fin 128), (outsAt0 m c n hn).2.1 (ix4 0 h p q)
      = st8 (X1 m c) (X2 m c) (X3 m c) (X4 m c) (X5 m c) (X6 m c) (seqOf ⟨n, hn⟩) 32 ⟨64 * h.val + p.val, by omega⟩ q)
    ∧ ∀ (i : Fin 3) (k : Fin 1024), (outsAt0 m c n hn).2.2.1 (ix3 0 i k) = X1 m c (ix3 (seqOf ⟨n, hn⟩) ⟨4093 + i.val, by omega⟩ k) := by
  obtain ⟨p, rfl⟩ : ∃ p, n = p + 1 := ⟨n - 1, by omega⟩
  obtain ⟨acc, e, ha⟩ := outs_step m c hm (p + 1) hn
  have ha := ha p (by omega) rfl
  rw [e]
  obtain ⟨hk, hs⟩ := chunk m c hm p (by omega) (by omega)
  have es : seqOf ⟨p + 1, hn⟩ = seqOf ⟨p, by omega⟩ := Fin.ext (by dsimp only; omega)
  have ec : (p + 1) % 32 = p % 32 + 1 := by omega
  refine ⟨fun h r q => ?_, fun i k => ?_⟩
  · refine (hout_C (t := ⟨p + 1, hn⟩) acc (by dsimp only; omega) h31 (realX m c hm _) h r q).trans ?_
    refine (updE_at m c hm ⟨p + 1, hn⟩ _ (fun i k => ?_) _ _ q _ ?_).trans ?_
    · rw [ha, hk i k, es]; dsimp only; rw [ec]
    · rw [ha, hs _ q _, es]; dsimp only; rw [ec]
    · have e1 : (⟨128 * (h.val / 2) + (64 * (h.val % 2) + r.val), by omega⟩ : Fin 512) = ⟨64 * h.val + r.val, by omega⟩ := Fin.ext (by dsimp only; omega)
      dsimp only
      rw [e1, h31]
  · refine (tail_C (t := ⟨p + 1, hn⟩) acc (by dsimp only; omega) h31 i k).trans ((blk1 m c ⟨p + 1, hn⟩ _ k).trans ?_)
    exact congrArg (fun r => X1 m c (ix3 (seqOf ⟨p + 1, hn⟩) r k)) (Fin.ext (by unfold pos; dsimp only; omega))

/-- The states the launch leaves. -/
theorem result10 : G10 m c = h8 (X1 m c) (X2 m c) (X3 m c) (X4 m c) (X5 m c) (X6 m c) := by
  funext i
  obtain ⟨b, h, p, q, rfl⟩ : ∃ (b : Fin 4) (h : Fin 8) (p : Fin 64) (q : Fin 128), i = ix4 b h p q := ⟨i 0, i 1, i 2, i 3, by funext a; fin_cases a <;> rfl⟩
  have ep : pt10Of (ix4 b h p q) = 32 * b.val + 31 := by
    show 32 * (1 * (b.val / 1 - 0) + 1 * (h.val / 8 - 0) + 1 * (p.val / 64 - 0) + 1 * (q.val / 128 - 0)) + 31 = _
    omega
  have hN : cfg0.N = 128 := N_0
  have el : loc10Of (ix4 b h p q) = ix4 0 h p q := by
    funext a; refine Fin.ext ?_
    fin_cases a
    · show b.val % 1 = 0; omega
    · show h.val % 8 = h.val; omega
    · show p.val % 64 = p.val; omega
    · show q.val % 128 = q.val; omega
  unfold G10
  rw [dif_pos (by rw [ep, hN]; omega), ← outsAt0_sweep m c _ (by rw [ep, hN]; omega), el]
  refine ((last m c hm _ _ (by rw [ep]; omega)).1 h p q).trans ?_
  have es : seqOf ⟨pt10Of (ix4 b h p q), by rw [ep, hN]; omega⟩ = b := Fin.ext (by dsimp only; rw [ep]; omega)
  rw [es]
  rfl

/-- The rows the launch leaves. -/
theorem result11 : G11 m c = c8 (X1 m c) := by
  funext i
  obtain ⟨b, r, k, rfl⟩ : ∃ (b : Fin 4) (r : Fin 3) (k : Fin 1024), i = ix3 b r k := ⟨i 0, i 1, i 2, by funext a; fin_cases a <;> rfl⟩
  have ep : pt11Of (ix3 b r k) = 32 * b.val + 31 := by
    show 32 * (1 * (b.val / 1 - 0) + 1 * (r.val / 3 - 0) + 1 * (k.val / 1024 - 0)) + 31 = _
    omega
  have hN : cfg0.N = 128 := N_0
  have el : loc11Of (ix3 b r k) = ix3 0 r k := by
    funext a; refine Fin.ext ?_
    fin_cases a
    · show b.val % 1 = 0; omega
    · show r.val % 3 = r.val; omega
    · show k.val % 1024 = k.val; omega
  unfold G11
  rw [dif_pos (by rw [ep, hN]; omega), ← outsAt0_sweep m c _ (by rw [ep, hN]; omega), el]
  refine ((last m c hm _ _ (by rw [ep]; omega)).2 r k).trans ?_
  have es : seqOf ⟨pt11Of (ix3 b r k), by rw [ep, hN]; omega⟩ = b := Fin.ext (by dsimp only; rw [ep]; omega)
  rw [es]
  rfl

end chunks

end Cert.Kernel8Ideal.Hand
-- ==== Proof.Ref8.lean ====
/-
  THE RECURRENCE OVER A PROMPT: what the plain reference computes, read at an index. Each group of definitions is opened by itself and
  read before the next: the convolution, the step sizes, the running sums, each chunk's own state and decay, the chunks in order.
-/
module

public import proofs.«01_k».proof.Defs
public import proofs.«01_k».proof.Proof.Gen.Reference8Ideal.StepRun
public import proofs.«01_k».proof.Proof.Spec8
public import Idealize.ShloMosaic.Lib.Pointwise
public import Idealize.ShloMosaic.Lib.ValueIdx
public import Idealize.ShloMosaic.Lib.ValueIdxRank6
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference8Ideal.Hand

open Cert.Reference8Ideal Cert.Reference8Ideal.Gen Cert.Reference8Ideal.Step
open Cert.Kernel8Ideal.Hand (xp pos cv8 t8 a8 st8 h8 c8)
open Cert.SsdRow (silu softplus)
open Cert.SsdChunk (upd hd cum xdec)

/-! ### A running sum along one axis -/

theorem fold_sum {n : ℕ} (f : Fin n → EReal) : (List.finRange n).foldl (fun r i => r + f i) 0 = ∑ i, f i := by
  rw [← List.sum_ofFn, List.ofFn_eq_map]
  generalize List.finRange n = l
  have h : ∀ (l : List (Fin n)) (z : EReal), l.foldl (fun r i => r + f i) z = z + (l.map f).sum := by
    intro l
    induction l with
    | nil => intro z; exact (add_zero z).symm
    | cons a l ih => intro z; rw [List.foldl_cons, ih, List.map_cons, List.sum_cons, add_assoc]
  rw [h, zero_add]

/-- The window's place `w`. -/
def wat (w : Fin 128) : (⟨5, ![1, 1, 128, 1, 1]⟩ : Shape).Idx := ix5 0 0 w 0 0

theorem sum_window (f : (⟨5, ![1, 1, 128, 1, 1]⟩ : Shape).Idx → EReal) : ∑ i, f i = ∑ w : Fin 128, f (wat w) := by
  symm
  refine Fintype.sum_bijective wat ⟨fun a b h => congrFun h 2, fun i => ⟨i 2, ?_⟩⟩ _ _ fun _ => rfl
  funext a
  fin_cases a
  · exact Subsingleton.elim (α := Fin 1) _ _
  · exact Subsingleton.elim (α := Fin 1) _ _
  · rfl
  · exact Subsingleton.elim (α := Fin 1) _ _
  · exact Subsingleton.elim (α := Fin 1) _ _

/-- What the window at position `s` reads at its place `i`. -/
def win (x : Vec Ideal S4x32x128x2x4 .f32) (b : Fin 4) (c : Fin 32) (s : Fin 128) (g : Fin 2) (e : Fin 4) (i : (⟨5, ![1, 1, 128, 1, 1]⟩ : Shape).Idx) : EReal :=
  if hin : ∀ a : Fin 5, (![0, 0, 127, 0, 0] : Fin 5 → ℕ) a ≤ ((ix5 b c s g e : S4x32x128x2x4.Idx) a).val * (![1, 1, 1, 1, 1] : Fin 5 → ℕ) a + (i a).val
      ∧ ((ix5 b c s g e : S4x32x128x2x4.Idx) a).val * (![1, 1, 1, 1, 1] : Fin 5 → ℕ) a + (i a).val - (![0, 0, 127, 0, 0] : Fin 5 → ℕ) a < S4x32x128x2x4.size a
  then x (fun a => ⟨((ix5 b c s g e : S4x32x128x2x4.Idx) a).val * (![1, 1, 1, 1, 1] : Fin 5 → ℕ) a + (i a).val - (![0, 0, 127, 0, 0] : Fin 5 → ℕ) a, (hin a).2⟩)
  else 0

theorem running (x : Vec Ideal S4x32x128x2x4 .f32) (b : Fin 4) (c : Fin 32) (s : Fin 128) (g : Fin 2) (e : Fin 4) :
    Host.reduceWindowAdd (F := Ideal) (φ := .f32) ![1, 1, 128, 1, 1] ![1, 1, 1, 1, 1] ![0, 0, 127, 0, 0] ![0, 0, 0, 0, 0] x (K_main_call3_call0_v0 (F := Ideal))
      reduceWindows_S4x32x128x2x4_S4x32x128x2x4_w1s1p0_0_w1s1p0_0_w128s1p127_0_w1s1p0_0_w1s1p0_0 h_S_ (ix5 b c s g e)
      = ∑ u : Fin 128, if u.val ≤ s.val then x (ix5 b c u g e) else 0 := by
  have hz : K_main_call3_call0_v0 (F := Ideal) (Shape.Idx.first h_S_) = 0 := by
    unfold K_main_call3_call0_v0 K_main_call3_call0_cst
    pointwise
  refine (show _ = Host.reduceWindow (u := S_) (α := EReal) (· + ·) ![1, 1, 128, 1, 1] ![1, 1, 1, 1, 1] ![0, 0, 127, 0, 0] ![0, 0, 0, 0, 0] x (fun _ => K_main_call3_call0_v0 (F := Ideal) (Shape.Idx.first h_S_))
      reduceWindows_S4x32x128x2x4_S4x32x128x2x4_w1s1p0_0_w1s1p0_0_w128s1p127_0_w1s1p0_0_w1s1p0_0 h_S_ (ix5 b c s g e) from rfl).trans ?_
  unfold Host.reduceWindow
  rw [hz]
  refine (fold_sum _).trans ?_
  refine (Finset.sum_congr rfl fun n _ => show _ = win x b c s g e ((Shape.rowMajor (⟨5, ![1, 1, 128, 1, 1]⟩ : Shape)).symm n) from ?_).trans ?_
  · unfold win
    congr
  refine (Equiv.sum_comp (Shape.rowMajor (⟨5, ![1, 1, 128, 1, 1]⟩ : Shape)).symm (win x b c s g e)).trans ((sum_window _).trans ?_)
  refine Fintype.sum_equiv (Equiv.addRight (s + 1)) _ _ fun w => ?_
  have hv : (w + (s + 1)).val = (w.val + s.val + 1) % 128 := by
    rw [Fin.val_add, Fin.val_add]; show (w.val + (s.val + 1) % 128) % 128 = _; omega
  show _ = if (w + (s + 1)).val ≤ s.val then x (ix5 b c (w + (s + 1)) g e) else 0
  by_cases h : 127 ≤ s.val + w.val
  · rw [if_pos (by omega)]
    have hin : ∀ a : Fin 5, (![0, 0, 127, 0, 0] : Fin 5 → ℕ) a ≤ ((ix5 b c s g e : S4x32x128x2x4.Idx) a).val * (![1, 1, 1, 1, 1] : Fin 5 → ℕ) a + (wat w a).val
        ∧ ((ix5 b c s g e : S4x32x128x2x4.Idx) a).val * (![1, 1, 1, 1, 1] : Fin 5 → ℕ) a + (wat w a).val - (![0, 0, 127, 0, 0] : Fin 5 → ℕ) a < S4x32x128x2x4.size a := by
      intro a
      fin_cases a
      · show 0 ≤ b.val * 1 + 0 ∧ b.val * 1 + 0 - 0 < 4; omega
      · show 0 ≤ c.val * 1 + 0 ∧ c.val * 1 + 0 - 0 < 32; omega
      · show 127 ≤ s.val * 1 + w.val ∧ s.val * 1 + w.val - 127 < 128; omega
      · show 0 ≤ g.val * 1 + 0 ∧ g.val * 1 + 0 - 0 < 2; omega
      · show 0 ≤ e.val * 1 + 0 ∧ e.val * 1 + 0 - 0 < 4; omega
    refine (dif_pos hin).trans (congrArg x (funext fun a => Fin.ext ?_))
    fin_cases a
    · show b.val * 1 + 0 - 0 = b.val; omega
    · show c.val * 1 + 0 - 0 = c.val; omega
    · show s.val * 1 + w.val - 127 = (w + (s + 1)).val; omega
    · show g.val * 1 + 0 - 0 = g.val; omega
    · show e.val * 1 + 0 - 0 = e.val; omega
  · rw [if_neg (by omega)]
    refine dif_neg fun hin => h ?_
    have h2 := (hin 2).1
    change 127 ≤ s.val * 1 + w.val at h2
    omega

/-! ### The convolution and the step sizes -/

section read
variable (x1 : Vec Ideal S4x4096x1024 .f32) (x2 : Vec Ideal S4x4096x8 .f32) (x3 : Vec Ideal S4x1024 .f32) (x4 : Vec Ideal S1024 .f32) (x5 x6 : Vec Ideal S8 .f32)

/-- The rows with three rows of zeros in front, at an index. -/
theorem padded_apply (b : Fin 4) (i : Fin 4099) (k : Fin 1024) : A_main_v0 (F := Ideal) x1 x2 x3 x4 x5 x6 (ix3 b i k) = xp x1 b i.val k := by
  unfold A_main_v0 K_main_call0_v0 K_main_c
  pointwise
  unfold xp
  by_cases h : 3 ≤ i.val
  · rw [dif_pos (by omega), dif_pos (by omega)]
  · rw [dif_neg (by omega), dif_neg (by omega)]
    show (((0#32 : BitVec 32).toInt : ℝ) : EReal) = 0
    simp

/-- The convolution, at an index. -/
theorem conv_apply (b : Fin 4) (R : Fin 4096) (k : Fin 1024) : A_main_v32 (F := Ideal) x1 x2 x3 x4 x5 x6 (ix3 b R k) = x4 (ix1 k) + x3 (ix2 0 k) * xp x1 b R.val k
    + x3 (ix2 1 k) * xp x1 b (R.val + 1) k + x3 (ix2 2 k) * xp x1 b (R.val + 2) k + x3 (ix2 3 k) * xp x1 b (R.val + 3) k := by
  unfold A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v6 A_main_v5 A_main_v4 A_main_v3 A_main_v2 A_main_v1 K_main_v7 K_main_cst
  have hN := padded_apply x1 x2 x3 x4 x5 x6
  generalize A_main_v0 (F := Ideal) x1 x2 x3 x4 x5 x6 = N at hN ⊢
  pointwise [hN]
  simp only [zero_add, Nat.zero_add, Nat.add_comm _ R.val]
  rw [add_comm]
  simp only [add_assoc]

theorem act_apply (b : Fin 4) (R : Fin 4096) (k : Fin 1024) : A_main_v33 (F := Ideal) x1 x2 x3 x4 x5 x6 (ix3 b R k) = silu (A_main_v32 (F := Ideal) x1 x2 x3 x4 x5 x6 (ix3 b R k)) := by
  unfold A_main_v33 A_main_call1_v5 A_main_call1_v3 A_main_call1_v1 A_main_call1_v0 K_main_call1_v4 K_main_call1_v2 K_main_call1_cst K_main_call1_cst_0
  generalize A_main_v32 (F := Ideal) x1 x2 x3 x4 x5 x6 = N
  pointwise
  rfl

theorem step_apply (b : Fin 4) (R : Fin 4096) (h : Fin 8) : A_main_v41 (F := Ideal) x1 x2 x3 x4 x5 x6 (ix3 b R h) = softplus (x2 (ix3 b R h) + x5 (ix1 h)) := by
  unfold A_main_v41 A_main_call2_v11 A_main_call2_v10 A_main_call2_v9 A_main_call2_v8 A_main_call2_v7 A_main_call2_v6 A_main_call2_v4 A_main_call2_v3
    A_main_call2_v1 A_main_v40 A_main_v39 A_main_v38 K_main_call2_v5 K_main_call2_v2 K_main_call2_v0 K_main_call2_cst
  pointwise
  unfold softplus
  exact (if_neg (fun h => h rfl)).trans rfl

theorem conv_at (b : Fin 4) (c : Fin 32) (s : Fin 128) (k : Fin 1024) : A_main_v33 (F := Ideal) x1 x2 x3 x4 x5 x6 (ix3 b (pos c.val s) k) = silu (cv8 x1 x3 x4 b c.val s k) := by
  rw [act_apply, conv_apply]
  have e : (pos c.val s).val = 128 * c.val + s.val := by unfold pos; dsimp only; omega
  rw [e]
  rfl

/-! ### The chunks -/

/-- Head `g·4 + e`. -/
abbrev hof (g : Fin 2) (e : Fin 4) : Fin 8 := ⟨g.val * 4 + e.val, by omega⟩

theorem posOf (c : Fin 32) (s : Fin 128) (h : c.val * 128 + s.val < 4096) : (⟨c.val * 128 + s.val, h⟩ : Fin 4096) = pos c.val s := Fin.ext (by unfold pos; dsimp only; omega)

theorem dta_apply (b : Fin 4) (c : Fin 32) (s : Fin 128) (g : Fin 2) (e : Fin 4) :
    A_main_v52 (F := Ideal) x1 x2 x3 x4 x5 x6 (ix5 b c s g e) = t8 x2 x5 b c.val s (hof g e) * a8 x6 (hof g e) := by
  unfold A_main_v52 A_main_v51 A_main_v50 A_main_v49 A_main_v43 A_main_v42
  have hN := step_apply x1 x2 x3 x4 x5 x6
  generalize A_main_v41 (F := Ideal) x1 x2 x3 x4 x5 x6 = N at hN ⊢
  pointwise [hN]
  rw [posOf]
  rfl

theorem cum_apply (b : Fin 4) (c : Fin 32) (s : Fin 128) (g : Fin 2) (e : Fin 4) :
    A_main_v53 (F := Ideal) x1 x2 x3 x4 x5 x6 (ix5 b c s g e) = cum (t8 x2 x5 b c.val) (a8 x6) s (hof g e) := by
  unfold A_main_v53
  rw [running]
  simp only [dta_apply]
  rfl

/-- What a chunk's position adds at head `g·4 + e`'s place `p`, decayed to the chunk's end. -/
theorem dec_apply (b : Fin 4) (c : Fin 32) (s : Fin 128) (g : Fin 2) (e : Fin 4) (p : Fin 64) :
    A_main_v61 (F := Ideal) x1 x2 x3 x4 x5 x6 (ix6 b c s g e p) = xdec (cv8 x1 x3 x4 b c.val) (t8 x2 x5 b c.val) (a8 x6) s ⟨(g.val * 4 + e.val) * 64 + p.val, by omega⟩ := by
  unfold A_main_v61 A_main_v60 A_main_v59 A_main_v58 A_main_v57 A_main_v56 A_main_v55 A_main_v48 A_main_v47 A_main_v46 A_main_v45 A_main_v44 A_main_v35 A_main_v34
  have hN := conv_at x1 x2 x3 x4 x5 x6
  have hT := step_apply x1 x2 x3 x4 x5 x6
  have hC := cum_apply x1 x2 x3 x4 x5 x6
  generalize A_main_v33 (F := Ideal) x1 x2 x3 x4 x5 x6 = N at hN ⊢
  generalize A_main_v41 (F := Ideal) x1 x2 x3 x4 x5 x6 = T at hT ⊢
  generalize A_main_v53 (F := Ideal) x1 x2 x3 x4 x5 x6 = C at hC ⊢
  pointwise [hT, hC]
  rw [posOf, hN]
  unfold xdec
  have e1 : (⟨g.val * 256 + e.val * 64 + p.val, by omega⟩ : Fin 1024) = ⟨(g.val * 4 + e.val) * 64 + p.val, by omega⟩ := Fin.ext (by dsimp only; omega)
  have e2 : hd ⟨(g.val * 4 + e.val) * 64 + p.val, by omega⟩ = hof g e := Fin.ext (by dsimp only; omega)
  rw [e1, e2, mul_comm]
  rfl

theorem b_apply (b : Fin 4) (c : Fin 32) (s : Fin 128) (g : Fin 2) (n : Fin 128) :
    A_main_v54 (F := Ideal) x1 x2 x3 x4 x5 x6 (ix5 b c s g n) = silu (cv8 x1 x3 x4 b c.val s ⟨512 + (g.val * 128 + n.val), by omega⟩) := by
  unfold A_main_v54 A_main_v37 A_main_v36
  have hN := conv_at x1 x2 x3 x4 x5 x6
  generalize A_main_v33 (F := Ideal) x1 x2 x3 x4 x5 x6 = N at hN ⊢
  pointwise
  rw [posOf, hN]

theorem own_apply (c : Fin 32) (b : Fin 4) (g : Fin 2) (e : Fin 4) (p : Fin 64) (n : Fin 128) :
    A_main_v67 (F := Ideal) x1 x2 x3 x4 x5 x6 (ix6 c b g e p n) = ∑ s : Fin 128, xdec (cv8 x1 x3 x4 b c.val) (t8 x2 x5 b c.val) (a8 x6) s ⟨(g.val * 4 + e.val) * 64 + p.val, by omega⟩
      * silu (cv8 x1 x3 x4 b c.val s ⟨512 + (g.val * 128 + n.val), by omega⟩) := by
  unfold A_main_v67 A_main_v62
  have hX := dec_apply x1 x2 x3 x4 x5 x6
  have hB := b_apply x1 x2 x3 x4 x5 x6
  generalize A_main_v61 (F := Ideal) x1 x2 x3 x4 x5 x6 = X at hX ⊢
  generalize A_main_v54 (F := Ideal) x1 x2 x3 x4 x5 x6 = B at hB ⊢
  pointwise [hX, hB, dot_S4x32x128x2x4x64_S4x32x128x2x128_S4x32x2x4x64x128_2_2_45_4_013_013]

theorem decay_apply (c : Fin 32) (b : Fin 4) (g : Fin 2) (e : Fin 4) :
    A_main_v68 (F := Ideal) x1 x2 x3 x4 x5 x6 (ix4 c b g e) = Ideal.exp (cum (t8 x2 x5 b c.val) (a8 x6) 127 (hof g e)) := by
  unfold A_main_v68 A_main_v65 A_main_v64 A_main_v63
  have hC := cum_apply x1 x2 x3 x4 x5 x6
  generalize A_main_v53 (F := Ideal) x1 x2 x3 x4 x5 x6 = C at hC ⊢
  pointwise [hC]

theorem word_c : ∀ c : Fin 32, (BitVec.ofNat 32 c.val).toInt = (c.val : ℤ) := by decide +kernel

/-- Trip `c`'s row of the states, at an index. -/
theorem row_states (x : Vec Ideal S32x4x2x4x64x128 .f32) (c : Fin 32) (b : Fin 4) (g : Fin 2) (e : Fin 4) (p : Fin 64) (n : Fin 128) :
    Host.dynamicSlice S1x4x2x4x64x128 x (fun k => (((![(constantI S_ 32 (BitVec.ofNat 32 c.val) : Vec Ideal S_ .i32), constantI S_ 32 0#32, constantI S_ 32 0#32, constantI S_ 32 0#32,
      constantI S_ 32 0#32, constantI S_ 32 0#32] : Fin 6 → Vec Ideal S_ .i32)) k (Shape.Idx.first h_S_)).toInt) sliceFits_S32x4x2x4x64x128_S1x4x2x4x64x128 (ix6 0 b g e p n)
      = x (ix6 c b g e p n) := by
  refine (Host.dynamicSlice_apply _ _ _ _).trans (congrArg x (funext fun a => Fin.ext ?_))
  have h := word_c c
  fin_cases a
  · refine (congrArg (· + 0) (Host.clampedStart_of_le _ _ _ c.val h (by show c.val + 1 ≤ 32; omega))).trans (Nat.add_zero _)
  · exact (congrArg (· + b.val) (Host.clampedStart_of_le _ _ _ 0 rfl (by decide))).trans (Nat.zero_add _)
  · exact (congrArg (· + g.val) (Host.clampedStart_of_le _ _ _ 0 rfl (by decide))).trans (Nat.zero_add _)
  · exact (congrArg (· + e.val) (Host.clampedStart_of_le _ _ _ 0 rfl (by decide))).trans (Nat.zero_add _)
  · exact (congrArg (· + p.val) (Host.clampedStart_of_le _ _ _ 0 rfl (by decide))).trans (Nat.zero_add _)
  · exact (congrArg (· + n.val) (Host.clampedStart_of_le _ _ _ 0 rfl (by decide))).trans (Nat.zero_add _)

/-- Trip `c`'s row of the decays, at an index. -/
theorem row_decays (x : Vec Ideal S32x4x2x4 .f32) (c : Fin 32) (b : Fin 4) (g : Fin 2) (e : Fin 4) :
    Host.dynamicSlice S1x4x2x4 x (fun k => (((![(constantI S_ 32 (BitVec.ofNat 32 c.val) : Vec Ideal S_ .i32), constantI S_ 32 0#32, constantI S_ 32 0#32, constantI S_ 32 0#32]
      : Fin 4 → Vec Ideal S_ .i32)) k (Shape.Idx.first h_S_)).toInt) sliceFits_S32x4x2x4_S1x4x2x4 (ix4 0 b g e)
      = x (ix4 c b g e) := by
  refine (Host.dynamicSlice_apply _ _ _ _).trans (congrArg x (funext fun a => Fin.ext ?_))
  have h := word_c c
  fin_cases a
  · refine (congrArg (· + 0) (Host.clampedStart_of_le _ _ _ c.val h (by show c.val + 1 ≤ 32; omega))).trans (Nat.add_zero _)
  · exact (congrArg (· + b.val) (Host.clampedStart_of_le _ _ _ 0 rfl (by decide))).trans (Nat.zero_add _)
  · exact (congrArg (· + g.val) (Host.clampedStart_of_le _ _ _ 0 rfl (by decide))).trans (Nat.zero_add _)
  · exact (congrArg (· + e.val) (Host.clampedStart_of_le _ _ _ 0 rfl (by decide))).trans (Nat.zero_add _)

/-- The state after `c` chunks. -/
theorem state_apply (it : ℕ → State Ideal) (h0 : it 0 = init x1 x2 x3 x4 x5 x6) (hs : ∀ n, it (n + 1) = step n (it n)) (c : ℕ) : c ≤ 32 →
    (it c).main_v69_0 = A_main_v67 (F := Ideal) x1 x2 x3 x4 x5 x6 ∧ (it c).main_v69_1 = A_main_v68 (F := Ideal) x1 x2 x3 x4 x5 x6
    ∧ ∀ (b : Fin 4) (g : Fin 2) (e : Fin 4) (p : Fin 64) (n : Fin 128),
      (it c).main_v69_3 (ix5 b g e p n) = st8 x1 x2 x3 x4 x5 x6 b c ⟨(g.val * 4 + e.val) * 64 + p.val, by omega⟩ n := by
  induction c with
  | zero =>
    intro _
    rw [h0]
    refine ⟨rfl, rfl, fun b g e p n => ?_⟩
    show K_main_v66 (F := Ideal) (ix5 b g e p n) = 0
    unfold K_main_v66 K_main_cst_0
    pointwise
  | succ c ih =>
    intro hc
    obtain ⟨e0, e1, e3⟩ := ih (by omega)
    rw [hs]
    refine ⟨e0, e1, fun b g e p n => ?_⟩
    rw [step_main_v69_3]
    unfold b15 b14 b13 b12 b11 b10 b9 b8 b7 b6 b5 b4 b3 b2 b1 b0
    rw [e0, e1]
    have hO := fun b g e p n => (row_states _ ⟨c, hc⟩ b g e p n).trans (own_apply x1 x2 x3 x4 x5 x6 ⟨c, hc⟩ b g e p n)
    have hD := fun b g e => (row_decays _ ⟨c, hc⟩ b g e).trans (decay_apply x1 x2 x3 x4 x5 x6 ⟨c, hc⟩ b g e)
    dsimp only at hO hD
    generalize Host.dynamicSlice S1x4x2x4x64x128 _ _ _ = O at hO ⊢
    generalize Host.dynamicSlice S1x4x2x4 _ _ _ = D at hD ⊢
    pointwise [hD, hO, e3]
    show _ = upd (cv8 x1 x3 x4 b c) (t8 x2 x5 b c) (a8 x6) (st8 x1 x2 x3 x4 x5 x6 b c) ⟨(g.val * 4 + e.val) * 64 + p.val, by omega⟩ n
    unfold upd
    have e1 : hd ⟨(g.val * 4 + e.val) * 64 + p.val, by omega⟩ = hof g e := Fin.ext (by dsimp only; omega)
    have e2 : (⟨512 + (((g.val * 4 + e.val) * 64 + p.val) / 256 * 128 + n.val), by omega⟩ : Fin 1024) = ⟨512 + (g.val * 128 + n.val), by omega⟩ :=
      Fin.ext (by dsimp only; omega)
    dsimp only at e1 e2 ⊢
    rw [e1, e2]
    exact congrArg (fun r => _ + r) (Finset.sum_congr rfl fun s _ => mul_comm _ _)

/-- The states the reference leaves. -/
theorem states_eq (s : State Ideal) (h : ∀ (b : Fin 4) (g : Fin 2) (e : Fin 4) (p : Fin 64) (n : Fin 128),
    s.main_v69_3 (ix5 b g e p n) = st8 x1 x2 x3 x4 x5 x6 b 32 ⟨(g.val * 4 + e.val) * 64 + p.val, by omega⟩ n) :
    R_main_v70 (F := Ideal) s = h8 x1 x2 x3 x4 x5 x6 := by
  funext i
  obtain ⟨b, h', p, q, rfl⟩ : ∃ (b : Fin 4) (h' : Fin 8) (p : Fin 64) (q : Fin 128), i = ix4 b h' p q := ⟨i 0, i 1, i 2, i 3, by funext a; fin_cases a <;> rfl⟩
  unfold R_main_v70
  generalize s.main_v69_3 = S at h ⊢
  pointwise [h]
  show _ = st8 x1 x2 x3 x4 x5 x6 b 32 ⟨64 * h'.val + p.val, by omega⟩ q
  exact congrArg (fun r => st8 x1 x2 x3 x4 x5 x6 b 32 r q) (Fin.ext (by dsimp only; omega))

/-- The rows the reference leaves. -/
theorem rows_eq (s : State Ideal) : R_main_v71 (F := Ideal) s x1 = c8 x1 := by
  funext i
  obtain ⟨b, r, k, rfl⟩ : ∃ (b : Fin 4) (r : Fin 3) (k : Fin 1024), i = ix3 b r k := ⟨i 0, i 1, i 2, by funext a; fin_cases a <;> rfl⟩
  unfold R_main_v71
  pointwise
  rfl

end read

end Cert.Reference8Ideal.Hand
-- ==== Proof.Eq8.lean ====
/-
  THE RECURRENCE OVER A PROMPT: the kernel and its plain reference leave the same states and the same last rows, of finite step sizes,
  biases and rates.
-/
module

public import proofs.«01_k».proof.Defs
public import proofs.«01_k».proof.Proof.Run8
public import proofs.«01_k».proof.Proof.Ref8
public import proofs.«01_k».proof.Proof.Step7Eq
public import proofs.«01_k».proof.Proof.Gen.Pre_finite_prompt
public import proofs.«01_k».proof.Proof.Gen.Reference8Ideal.Run

@[expose] public section

set_option maxRecDepth 16384

noncomputable section

open Idealize.ShloMosaic Idealize.ShloMosaic.TcCoe Idealize.SL.Sem

namespace Cert.Proof

open Cert.Kernel8Ideal.Hand

/-- The precondition's numbers are real. -/
theorem real8 (m : (ℓ : Loc Kernel8Ideal.nD Kernel8Ideal.τ Kernel8Ideal.sig) → Buf (Elt Ideal) ℓ) (h : Cert.Pre_Kernel8Ideal_finite_prompt m) (c : Dev Kernel8Ideal.nD) :
    Real8 (X2 m c) (X5 m c) (X6 m c) := by
  obtain ⟨h2, h5, h6⟩ := h c
  exact ⟨real_of_finite _ _ (inf_apply _) h2, real_of_finite _ _ (inf_apply _) h5, real_of_finite _ _ (inf_apply _) h6⟩

/-- The reference's loop, trip by trip. -/
def trips8 (m : (ℓ : Loc Reference8Ideal.nD Reference8Ideal.τ Reference8Ideal.sig) → Buf (Elt Ideal) ℓ) (c : Dev Reference8Ideal.nD) : ℕ → Reference8Ideal.Step.State Ideal
  | 0 => Reference8Ideal.StepRun.initState m c
  | n + 1 => Reference8Ideal.Step.step n (trips8 m c n)

theorem algebraic8 : Cert.algebraic_Kernel8Ideal_Reference8Ideal_pre_finite_prompt := by
  intro m g m' g' hpre hargs
  refine ⟨fun c => h8 (X1 m c) (X2 m c) (X3 m c) (X4 m c) (X5 m c) (X6 m c), fun c => c8 (X1 m c), ?_, ?_⟩
  · refine (θ_run _ _ _).mono (fun r h c => ?_) (Kernel8Ideal.Value.run m g)
    obtain ⟨-, h1, h2, hr⟩ := h c
    exact ⟨h1.trans (result10 m c (real8 m hpre c)), h2.trans (result11 m c (real8 m hpre c)), hr⟩
  · refine (θ_run _ _ _).mono (fun r h c => ?_) (Reference8Ideal.StepRun.run_iter m' g' (trips8 m') (fun _ => rfl) (fun _ _ => rfl))
    obtain ⟨h0, h1, hr⟩ := h c
    obtain ⟨-, e1, e2, e3, e4, e5, e6, -, -⟩ := hargs c
    refine ⟨h0.trans ?_, h1.trans ?_, hr⟩
    · refine (Reference8Ideal.Hand.states_eq _ _ _ _ _ _ _
        (Reference8Ideal.Hand.state_apply _ _ _ _ _ _ (trips8 m' c) rfl (fun _ => rfl) 32 le_rfl).2.2).trans ?_
      dsimp only [X1, X2, X3, X4, X5, X6]
      rw [← e1, ← e2, ← e3, ← e4, ← e5, ← e6]
    · refine (Reference8Ideal.Hand.rows_eq _ _).trans ?_
      dsimp only [X1]
      rw [← e1]

end Cert.Proof

end
-- ==== Proof.FfnRow.lean ====
/-
  ONE ROW OF THE GATED FEED-FORWARD BLOCK, on the extended reals: the root-mean-square normalization of a row, the gated
  middle value of one hidden unit, the half-weighted residual sum over the 2816 hidden units; and the one fact of
  arithmetic the kernels need, that a sum over the 2816 units is the sum of its eleven runs of 256.
-/
module

public import Idealize.ShloMosaic.Lib.Pointwise

@[expose] public section

noncomputable section

open Idealize.ShloMosaic

namespace Cert.FfnRow

/-- A coordinate read through a block that starts at the origin. -/
theorem at_zero {i : ℕ} (h : i = 0) (n y : ℕ) : i * n + 1 * y = y := by rw [h]; omega

/-- A coordinate read through block number `t` of a tiling. -/
theorem at_tile {i t : ℕ} (h : i = t) (n y : ℕ) : i * n + 1 * y = t * n + y := by rw [h]; omega

/-- Entry `k` of the row `x` divided by its root mean square (with the small constant under the root), times the gain. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- One hidden unit: `u · logistic u · v`, where `u` and `v` are the row's products with the unit's two weight columns. -/
def unit (n wg wu : Fin 1024 → EReal) : EReal :=
  ((∑ k, n k * wg k) * Ideal.logistic (∑ k, n k * wg k)) * ∑ k, n k * wu k

/-- Entry `d` of the block's result: the row plus one half of the units' weighted sum. -/
def half (x g : Fin 1024 → EReal) (wg wu : Fin 1024 → Fin 2816 → EReal) (wd : Fin 2816 → Fin 1024 → EReal) (d : Fin 1024) : EReal :=
  x d + Ideal.ofBits .f32 0x3F000000#32 * ∑ j, unit (nrm x g) (fun k => wg k j) (fun k => wu k j) * wd j d

/-- The row with the three mixers' outputs `a`, `b`, `c` (side by side, 256 + 512 + 256 entries) sent through the output
    weights and added. -/
def mixed (x : Fin 1024 → EReal) (a : Fin 256 → EReal) (b : Fin 512 → EReal) (c : Fin 256 → EReal) (w : Fin 1024 → Fin 1024 → EReal)
    (d : Fin 1024) : EReal :=
  x d + ((∑ j : Fin 256, a j * w ⟨j, by omega⟩ d) + (∑ j : Fin 512, b j * w ⟨256 + j, by omega⟩ d)
    + ∑ j : Fin 256, c j * w ⟨768 + j, by omega⟩ d)

/-- `nrm` of entrywise equal arguments. -/
theorem nrm_congr {x x' g g' : Fin 1024 → EReal} (hx : ∀ k, x k = x' k) (hg : ∀ k, g k = g' k) (d : Fin 1024) : nrm x g d = nrm x' g' d := by
  rw [funext hx, funext hg]

/-- `mixed` of entrywise equal arguments. -/
theorem mixed_congr {x x' : Fin 1024 → EReal} {a a' : Fin 256 → EReal} {b b' : Fin 512 → EReal} {c c' : Fin 256 → EReal}
    {w w' : Fin 1024 → Fin 1024 → EReal} (hx : ∀ k, x k = x' k) (ha : ∀ k, a k = a' k) (hb : ∀ k, b k = b' k) (hc : ∀ k, c k = c' k)
    (hw : ∀ j k, w j k = w' j k) (d : Fin 1024) : mixed x a b c w d = mixed x' a' b' c' w' d := by
  rw [funext hx, funext ha, funext hb, funext hc, funext fun j => funext (hw j)]

/-- `half` of entrywise equal arguments. -/
theorem half_congr {x x' g g' : Fin 1024 → EReal} {wg wg' wu wu' : Fin 1024 → Fin 2816 → EReal} {wd wd' : Fin 2816 → Fin 1024 → EReal}
    (hx : ∀ k, x k = x' k) (hg : ∀ k, g k = g' k) (hwg : ∀ k j, wg k j = wg' k j) (hwu : ∀ k j, wu k j = wu' k j)
    (hwd : ∀ j d, wd j d = wd' j d) (d : Fin 1024) : half x g wg wu wd d = half x' g' wg' wu' wd' d := by
  rw [funext hx, funext hg, funext fun k => funext (hwg k), funext fun k => funext (hwu k), funext fun j => funext (hwd j)]

/-- A sum over `n + m` places is the sum over the first `n` plus the sum over the last `m`. -/
theorem sum_cut (n m : ℕ) (f : Fin (n + m) → EReal) :
    ∑ j, f j = (∑ x : Fin n, f ⟨x, by omega⟩) + ∑ x : Fin m, f ⟨n + x, by omega⟩ := by
  rw [Fin.sum_univ_add]; rfl

/-- A sum over 2816 places, cut into eleven runs of 256 and added from the first to the last. -/
theorem sum_runs (f : Fin 2816 → EReal) :
    ∑ j, f j = (∑ x : Fin 256, f ⟨x, by omega⟩) + (∑ x : Fin 256, f ⟨256 + x, by omega⟩) + (∑ x : Fin 256, f ⟨512 + x, by omega⟩)
      + (∑ x : Fin 256, f ⟨768 + x, by omega⟩) + (∑ x : Fin 256, f ⟨1024 + x, by omega⟩) + (∑ x : Fin 256, f ⟨1280 + x, by omega⟩)
      + (∑ x : Fin 256, f ⟨1536 + x, by omega⟩) + (∑ x : Fin 256, f ⟨1792 + x, by omega⟩) + (∑ x : Fin 256, f ⟨2048 + x, by omega⟩)
      + (∑ x : Fin 256, f ⟨2304 + x, by omega⟩) + (∑ x : Fin 256, f ⟨2560 + x, by omega⟩) := by
  have cut := @sum_cut
  rw [cut 2560 256 f, cut 2304 256, cut 2048 256, cut 1792 256, cut 1536 256, cut 1280 256, cut 1024 256, cut 768 256, cut 512 256,
    cut 256 256]

/-- A weighted sum over the three mixers' outputs side by side is the sum of the three weighted sums. -/
theorem sum_join (a : Fin 256 → EReal) (b : Fin 512 → EReal) (c : Fin 256 → EReal) (w : Fin 1024 → EReal) :
    (∑ j : Fin 1024, (if h : j.val < 256 then a ⟨j, h⟩ else if h : j.val - 256 < 512 then b ⟨j - 256, h⟩
        else c ⟨j - 256 - 512, by omega⟩) * w j)
      = (∑ j : Fin 256, a j * w ⟨j, by omega⟩) + (∑ j : Fin 512, b j * w ⟨256 + j, by omega⟩) + ∑ j : Fin 256, c j * w ⟨768 + j, by omega⟩ := by
  have cut := @sum_cut
  rw [cut 768 256, cut 256 512]
  refine congrArg₂ (· + ·) (congrArg₂ (· + ·) ?_ ?_) ?_
  · refine Finset.sum_congr rfl fun x _ => ?_
    rw [dif_pos (show x.val < 256 from x.isLt)]
  · refine Finset.sum_congr rfl fun x _ => ?_
    have hx := x.isLt
    rw [dif_neg (show ¬ (256 + x.val < 256) by omega), dif_pos (show 256 + x.val - 256 < 512 by omega)]
    exact congrArg (fun y => b y * _) (Fin.ext (show 256 + x.val - 256 = x.val by omega))
  · refine Finset.sum_congr rfl fun x _ => ?_
    have hx := x.isLt
    rw [dif_neg (show ¬ (768 + x.val < 256) by omega), dif_neg (show ¬ (768 + x.val - 256 < 512) by omega)]
    exact congrArg (fun y => c y * _) (Fin.ext (show 768 + x.val - 256 - 512 = x.val by omega))

end Cert.FfnRow
end
-- ==== Proof.Ffn2.lean ====
/-
  THE FEED-FORWARD BLOCK ALONE (the call before the sequence mixing): the pipelined kernel's result array is, row by row,
  `FfnRow.half` of the argument rows, and so is the reference's.

  The kernel takes 512 rows at a grid point and adds the hidden units in eleven runs of 256; the reference multiplies by the
  two gate matrices side by side and adds all 2816 units at once. Each result is read at an index, and the eleven sums are
  one (`FfnRow.sum_runs`).
-/
module

public import proofs.«01_k».proof.Defs
public import proofs.«01_k».proof.Proof.Gen.Kernel2Ideal.Value
public import proofs.«01_k».proof.Proof.Gen.Reference2Ideal.Read
public import proofs.«01_k».proof.Proof.FfnRow
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

/-- The row function at the four argument arrays: row `r` of the result, entry `d`. -/
def row (a0 : S4x4096x1024.Idx → EReal) (a1 : S1024.Idx → EReal) (a2 : S1024x5632.Idx → EReal) (a3 : S2816x1024.Idx → EReal)
    (r : Fin 16384) (d : Fin 1024) : EReal :=
  FfnRow.half (fun k => a0 (ix3 ⟨r / 4096, by omega⟩ ⟨r % 4096, by omega⟩ k)) (fun k => a1 (ix1 k))
    (fun k j => a2 (ix2 k ⟨j, by omega⟩)) (fun k j => a2 (ix2 k ⟨2816 + j, by omega⟩)) (fun j d => a3 (ix2 j d)) d

theorem hz : (![0, 0] : Fin 2 → Nat) = fun _ => 0 := funext fun a => by fin_cases a <;> rfl

set_option maxHeartbeats 1000000 in
/-- What the body stores, at an index, of any five blocks. -/
theorem out_apply (x0 : Vec Ideal S512x1024 .f32) (x1 : Vec Ideal S1x1024 .f32) (x2 x3 : Vec Ideal S1024x2816 .bf16)
    (x4 : Vec Ideal S2816x1024 .bf16) (r : Fin 512) (d : Fin 1024) :
    out0_5 x0 x1 x2 x3 x4 (ix2 r d)
      = FfnRow.half (fun k => x0 (ix2 r k)) (fun k => x1 (ix2 0 k)) (fun k j => x2 (ix2 k j)) (fun k j => x3 (ix2 k j))
          (fun j d => x4 (ix2 j d)) d := by
  unfold out0_5
  rw [View.canon_unit_zero hz]
  unfold k0_pay12
  unfold_payloads
  pointwise [dot_S512x1024_S1024x256_S512x256_1_0_0_1_n_n, dot_S512x256_S256x1024_S512x1024_1_0_0_1_n_n]
  unfold FfnRow.half
  rw [FfnRow.sum_runs]
  rfl

/-- Row `r` of the 16384 rows laid end to end is row `r % 4096` of sequence `r / 4096`. -/
theorem rows_apply (y : Vec Ideal S4x4096x1024 .f32) (r : Fin 16384) (d : Fin 1024) :
    shapeCast S16384x1024 y shapeCasts_S4x4096x1024_S16384x1024 (ix2 r d) = y (ix3 ⟨r / 4096, by omega⟩ ⟨r % 4096, by omega⟩ d) := by
  pointwise

variable (m : (ℓ : Loc nD τ sig) → Buf (Elt Ideal) ℓ)

/-! ### The staged arrays and their blocks -/

theorem V_v4 (c : Dev nD) : V m c main_v4 = (shapeCast S16384x1024 (m ((c : Thread nD τ).loc main_arg0)) shapeCasts_S4x4096x1024_S16384x1024 : S16384x1024.Idx → EReal) := by
  simp only [V, hostOps0, List.flatten_cons, List.flatten_nil, List.append_nil, List.cons_append, List.nil_append]
  after_results_simp <;> rfl

theorem V_v5 (c : Dev nD) : V m c main_v5 = (shapeCast S1x1024 (m ((c : Thread nD τ).loc main_arg1)) shapeCasts_S1024_S1x1024 : S1x1024.Idx → EReal) := by
  simp only [V, hostOps0, List.flatten_cons, List.flatten_nil, List.append_nil, List.cons_append, List.nil_append]
  after_results_simp <;> rfl

theorem V_v1 (c : Dev nD) : V m c main_v1 = (extractStridedSlice S1024x2816 ![0, 0] (m ((c : Thread nD τ).loc main_arg2)) slices_S1024x5632_S1024x2816_0_0 : S1024x2816.Idx → EReal) := by
  simp only [V, hostOps0, List.flatten_cons, List.flatten_nil, List.append_nil, List.cons_append, List.nil_append]
  after_results_simp <;> rfl

theorem V_v3 (c : Dev nD) : V m c main_v3 = (extractStridedSlice S1024x2816 ![0, 2816] (m ((c : Thread nD τ).loc main_arg2)) slices_S1024x5632_S1024x2816_0_2816 : S1024x2816.Idx → EReal) := by
  simp only [V, hostOps0, List.flatten_cons, List.flatten_nil, List.append_nil, List.cons_append, List.nil_append]
  after_results_simp <;> rfl

theorem V_v6 (c : Dev nD) : V m c main_v6 = (m ((c : Thread nD τ).loc main_arg3) : S2816x1024.Idx → EReal) := by
  simp only [V, hostOps0, List.flatten_cons, List.flatten_nil, List.append_nil, List.cons_append, List.nil_append]
  after_results_simp <;> rfl

theorem V_v4_apply (c : Dev nD) (r : Fin 16384) (k : Fin 1024) :
    V m c main_v4 (ix2 r k) = m ((c : Thread nD τ).loc main_arg0) (ix3 ⟨r / 4096, by omega⟩ ⟨r % 4096, by omega⟩ k) := by
  exact (congrFun (V_v4 m c) _).trans (rows_apply _ r k)

/-- The grid's one coordinate is the point's number: the block indices of the six windows, decided over the 32 points. -/
theorem idx_all : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0))

/-- Row `r` of point `t`'s 512 is a row of the array. -/
theorem row_lt (t : Fin cfg0.N) (r : Fin 512) : t.val * 512 + r.val < 16384 := by
  have := t.isLt; have : cfg0.N = 32 := N_0; omega

theorem blk0 (c : Dev nD) (t : Fin cfg0.N) (r : Fin 512) (d : Fin 1024) :
    (iblk m c 0 t : S512x1024.Idx → EReal) (ix2 r d) = V m c main_v4 (ix2 ⟨t * 512 + r, row_lt t r⟩ d) := by
  obtain ⟨⟨h0, h1⟩, -⟩ := idx_all t
  unfold iblk
  exact congrArg (V m c main_v4 : _ → EReal) (funext fun a => Fin.ext (by
    match a with
    | ⟨0, _⟩ => exact FfnRow.at_tile h0 512 r.val
    | ⟨1, _⟩ => exact FfnRow.at_zero h1 1024 d.val))

theorem blk1 (c : Dev nD) (t : Fin cfg0.N) : (iblk m c 1 t : S1x1024.Idx → EReal) = V m c main_v5 := by
  obtain ⟨-, ⟨h0, h1⟩, -⟩ := idx_all t
  unfold iblk
  exact funext fun i => congrArg (V m c main_v5 : _ → EReal) (funext fun a => Fin.ext (by
    match a with
    | ⟨0, _⟩ => exact FfnRow.at_zero h0 1 (i 0).val
    | ⟨1, _⟩ => exact FfnRow.at_zero h1 1024 (i 1).val))

theorem blk2 (c : Dev nD) (t : Fin cfg0.N) : (iblk m c 2 t : S1024x2816.Idx → EReal) = V m c main_v1 := by
  obtain ⟨-, -, ⟨h0, h1⟩, -⟩ := idx_all t
  unfold iblk
  exact funext fun i => congrArg (V m c main_v1 : _ → EReal) (funext fun a => Fin.ext (by
    match a with
    | ⟨0, _⟩ => exact FfnRow.at_zero h0 1024 (i 0).val
    | ⟨1, _⟩ => exact FfnRow.at_zero h1 2816 (i 1).val))

theorem blk3 (c : Dev nD) (t : Fin cfg0.N) : (iblk m c 3 t : S1024x2816.Idx → EReal) = V m c main_v3 := by
  obtain ⟨-, -, -, ⟨h0, h1⟩, -⟩ := idx_all t
  unfold iblk
  exact funext fun i => congrArg (V m c main_v3 : _ → EReal) (funext fun a => Fin.ext (by
    match a with
    | ⟨0, _⟩ => exact FfnRow.at_zero h0 1024 (i 0).val
    | ⟨1, _⟩ => exact FfnRow.at_zero h1 2816 (i 1).val))

theorem blk4 (c : Dev nD) (t : Fin cfg0.N) : (iblk m c 4 t : S2816x1024.Idx → EReal) = V m c main_v6 := by
  obtain ⟨-, -, -, -, ⟨h0, h1⟩, -⟩ := idx_all t
  unfold iblk
  exact funext fun i => congrArg (V m c main_v6 : _ → EReal) (funext fun a => Fin.ext (by
    match a with
    | ⟨0, _⟩ => exact FfnRow.at_zero h0 2816 (i 0).val
    | ⟨1, _⟩ => exact FfnRow.at_zero h1 1024 (i 1).val))

/-! ### The result array -/

/-- What the result array is shown to hold. -/
abbrev G (c : Dev nD) : S16384x1024.Idx → EReal := fun i =>
  row (m ((c : Thread nD τ).loc main_arg0)) (m ((c : Thread nD τ).loc main_arg1)) (m ((c : Thread nD τ).loc main_arg2))
    (m ((c : Thread nD τ).loc main_arg3)) (i 0) (i 1)

/-- What point `t` writes back is rows `512 t … 512 t + 511` of `G`. -/
theorem flushed_eq (c : Dev nD) (t : Fin cfg0.N) :
    (dats m 0 c).flushed 5 t = (win0_5.blk t).view.read (Elt Ideal) (G m c) := by
  obtain ⟨-, -, -, -, -, h0, h1⟩ := idx_all t
  rw [Value.flushed5]
  show out0_5 (iblk m c 0 t) (iblk m c 1 t) (iblk m c 2 t) (iblk m c 3 t) (iblk m c 4 t) = _
  funext i
  idx_vars i
  refine (out_apply _ _ _ _ _ i0 i1).trans ?_
  rw [View.read_apply]
  have hN : cfg0.N = 32 := N_0
  have ht := t.isLt
  have e : ((win0_5.blk t).view.emb (ix2 i0 i1)) = (ix2 ⟨t * 512 + i0, by omega⟩ i1 : S16384x1024.Idx) := by
    funext a
    apply Fin.ext
    match a with
    | ⟨0, _⟩ => show win0_5.index t 0 * 512 + 1 * i0.val = _; rw [h0, Nat.one_mul]; rfl
    | ⟨1, _⟩ => show win0_5.index t 1 * 1024 + 1 * i1.val = _; rw [h1, Nat.one_mul, Nat.zero_mul, Nat.zero_add]; rfl
  rw [e, cast_eq]
  show _ = row _ _ _ _ ⟨t * 512 + i0, by omega⟩ i1
  exact FfnRow.half_congr (fun k => (blk0 m c t i0 k).trans (V_v4_apply m c _ k))
    (fun k => (congrFun (blk1 m c t) _).trans ((congrFun (V_v5 m c) _).trans (by pointwise)))
    (fun k j => (congrFun (blk2 m c t) _).trans ((congrFun (V_v1 m c) _).trans (by pointwise)))
    (fun k j => (congrFun (blk3 m c t) _).trans ((congrFun (V_v3 m c) _).trans (by pointwise)))
    (fun j d => (congrFun (blk4 m c t) _).trans (congrFun (V_v6 m c) _)) i1

/-- An index of the result array is in point `t`'s block exactly when its row is one of the point's 512. -/
theorem mem_blk (t : Fin cfg0.N) (i : S16384x1024.Idx) :
    i ∈ ((cfg0.win 5).blk t).view.set ↔ t.val * 512 ≤ (i 0 : Nat) ∧ (i 0 : Nat) < t.val * 512 + 512 := by
  obtain ⟨-, -, -, -, -, h0, h1⟩ := idx_all t
  show i ∈ ((View.whole main_v7).slice (win0_5.rect t)).set ↔ _
  rw [View.set_slice_whole, Rect.mem_set_unit]
  have hi : (i 1 : Nat) < 1024 := (i 1).isLt
  refine ⟨fun h => ?_, fun h a => ?_⟩
  · have : win0_5.index t 0 * 512 ≤ (i 0 : Nat) ∧ (i 0 : Nat) < win0_5.index t 0 * 512 + 512 := h 0
    rw [h0] at this; exact this
  · match a with
    | ⟨0, _⟩ => show win0_5.index t 0 * 512 ≤ (i 0 : Nat) ∧ (i 0 : Nat) < win0_5.index t 0 * 512 + 512
                rw [h0]; exact h
    | ⟨1, _⟩ => show win0_5.index t 1 * 1024 ≤ (i 1 : Nat) ∧ (i 1 : Nat) < win0_5.index t 1 * 1024 + 1024
                rw [h1, Nat.zero_mul, Nat.zero_add]; exact ⟨Nat.zero_le _, hi⟩

/-- The 32 blocks cover the array: row `r` is in block `r / 512`. -/
theorem cover (i : S16384x1024.Idx) : ∃ t : Fin cfg0.N, (cfg0.win 5).flush t = true ∧ i ∈ ((cfg0.win 5).blk t).view.set := by
  have h0 : (i 0 : Nat) < 16384 := (i 0).isLt
  have hN : cfg0.N = 32 := N_0
  refine ⟨⟨(i 0 : Nat) / 512, by omega⟩, flush0_5 _, ?_⟩
  rw [mem_blk]
  dsimp only
  omega

/-- The result array after the run. -/
theorem final (c : Dev nD) : (dats m 0 c).arrAt 5 cfg0.N = G m c :=
  Dat.arrAt_eq_of_cover (dats m 0 c) 5 (G m c) (fun t _ => flushed_eq m c t) cover

end Cert.Kernel2Ideal.Hand

namespace Cert.Reference2Ideal.Hand

open Cert.Reference2Ideal Cert.Reference2Ideal.Gen Cert.Reference2Ideal.Read

set_option maxHeartbeats 1000000 in
/-- The reference's result at an index. -/
theorem ref_apply (x0 : Vec Ideal S4x4096x1024 .f32) (x1 : Vec Ideal S1024 .f32) (x2 : Vec Ideal S1024x5632 .f32)
    (x3 : Vec Ideal S2816x1024 .f32) (r : Fin 16384) (d : Fin 1024) :
    val_main_v22 (F := Ideal) x0 x1 x2 x3 (ix2 r d) = Kernel2Ideal.Hand.row x0 x1 x2 x3 r d := by
  rw [← val_main_v22_eq]
  pointwise [dot_S4x4096x1024_S1024x5632_S4x4096x5632_2_0_01_1_n_n, dot_S4x4096x2816_S2816x1024_S4x4096x1024_2_0_01_1_n_n]
  rfl

end Cert.Reference2Ideal.Hand

namespace Cert.Proof

/-- From memories that agree on the four arguments, the pipelined kernel and the reference end with equal results. -/
theorem algebraic2 : Cert.algebraic_Kernel2Ideal_Reference2Ideal := by
  intro m g m' g' _ hargs
  refine ⟨fun c => Kernel2Ideal.Hand.G m c, ?_, ?_⟩
  · refine (θ_run _ _ _).mono (fun r h c => ?_) (Kernel2Ideal.Value.run_blocks m g)
    exact ⟨(h c).1.trans (Kernel2Ideal.Hand.final m c), (h c).2⟩
  · refine (θ_run _ _ _).mono (fun r h c => ⟨(h c).1.trans ?_, (h c).2⟩) (Reference2Ideal.Value.run m' g')
    obtain ⟨e0, e1, e2, e3⟩ := hargs c
    rw [e0, e1, e2, e3, Reference2Ideal.Read.val_main_v22_eq]
    funext i
    idx_vars i
    exact Reference2Ideal.Hand.ref_apply _ _ _ _ i0 i1

end Cert.Proof
end
-- ==== Proof.Ffn3.lean ====
/-
  THE FEED-FORWARD BLOCK AFTER THE MIXERS (with the output projection in front of it and the last normalization behind it): the
  pipelined kernel's result array is, row by row, the normalized `FfnRow.half` of the mixed row, and so is the reference's.

  The kernel sends the three mixers' outputs through three parts of the output weights and adds the products one after another;
  the reference joins the outputs side by side and multiplies once (`FfnRow.sum_join`). The hidden units are added in eleven
  runs against all at once (`FfnRow.sum_runs`).
-/
module

public import proofs.«01_k».proof.Defs
public import proofs.«01_k».proof.Proof.Gen.Kernel3Ideal.Value
public import proofs.«01_k».proof.Proof.Gen.Reference3Ideal.Read
public import proofs.«01_k».proof.Proof.Ffn2
public import Idealize.ShloMosaic.Lib.Pointwise
public import Idealize.ShloMosaic.Lib.ValueIdx

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

/-- The row function at the nine argument arrays: row `r` of the result, entry `d`. -/
def row (a0 : S4x4096x1024.Idx → EReal) (a1 : S16384x256.Idx → EReal) (a2 : S16384x512.Idx → EReal) (a3 : S16384x256.Idx → EReal)
    (a4 : S1024x1024.Idx → EReal) (a5 : S1024.Idx → EReal) (a6 : S1024x5632.Idx → EReal) (a7 : S2816x1024.Idx → EReal)
    (a8 : S1024.Idx → EReal) (r : Fin 16384) (d : Fin 1024) : EReal :=
  FfnRow.nrm (FfnRow.half
      (FfnRow.mixed (fun k => a0 (ix3 ⟨r / 4096, by omega⟩ ⟨r % 4096, by omega⟩ k)) (fun k => a1 (ix2 r k)) (fun k => a2 (ix2 r k))
        (fun k => a3 (ix2 r k)) (fun j k => a4 (ix2 j k)))
      (fun k => a5 (ix1 k)) (fun k j => a6 (ix2 k ⟨j, by omega⟩)) (fun k j => a6 (ix2 k ⟨2816 + j, by omega⟩)) (fun j d => a7 (ix2 j d)))
    (fun k => a8 (ix1 k)) d

theorem hz : (![0, 0] : Fin 2 → Nat) = fun _ => 0 := funext fun a => by fin_cases a <;> rfl

/-- The row the kernel normalizes, of any blocks. -/
theorem mixed_apply (x0 : Vec Ideal S512x1024 .f32) (x5 x7 : Vec Ideal S512x256 .f32) (x6 : Vec Ideal S512x512 .f32)
    (x8 : Vec Ideal S1024x1024 .bf16) (r : Fin 512) (k : Fin 1024) :
    k0_pay2 (View.ld x0 r0_0) (View.ld x5 r0_1) (View.ld x8 r0_2) (View.ld x6 r0_3) (View.ld x8 r0_4) (View.ld x7 r0_1) (View.ld x8 r0_5) (ix2 r k)
      = FfnRow.mixed (fun k => x0 (ix2 r k)) (fun k => x5 (ix2 r k)) (fun k => x6 (ix2 r k)) (fun k => x7 (ix2 r k)) (fun j k => x8 (ix2 j k)) k := by
  unfold k0_pay2
  pointwise [dot_S512x256_S256x1024_S512x1024_1_0_0_1_n_n, dot_S512x512_S512x1024_S512x1024_1_0_0_1_n_n]
  unfold FfnRow.mixed
  rw [← add_assoc, ← add_assoc]

set_option maxHeartbeats 2000000 in
/-- What the body stores, at an index, of any ten blocks. -/
theorem out_apply (x0 : Vec Ideal S512x1024 .f32) (x1 : Vec Ideal S1x1024 .f32) (x2 x3 : Vec Ideal S1024x2816 .bf16)
    (x4 : Vec Ideal S2816x1024 .bf16) (x5 : Vec Ideal S512x256 .f32) (x6 : Vec Ideal S512x512 .f32) (x7 : Vec Ideal S512x256 .f32)
    (x8 : Vec Ideal S1024x1024 .bf16) (x9 : Vec Ideal S1x1024 .f32) (r : Fin 512) (d : Fin 1024) :
    out0_10 x0 x1 x2 x3 x4 x5 x6 x7 x8 x9 (ix2 r d)
      = FfnRow.nrm (FfnRow.half
          (FfnRow.mixed (fun k => x0 (ix2 r k)) (fun k => x5 (ix2 r k)) (fun k => x6 (ix2 r k)) (fun k => x7 (ix2 r k)) (fun j k => x8 (ix2 j k)))
          (fun k => x1 (ix2 0 k)) (fun k j => x2 (ix2 k j)) (fun k j => x3 (ix2 k j)) (fun j d => x4 (ix2 j d)))
        (fun k => x9 (ix2 0 k)) d := by
  unfold out0_10
  rw [View.canon_unit_zero hz]
  have hX := mixed_apply x0 x5 x7 x6 x8 r
  have hN : ∀ k, k0_pay15 x0 x1 x2 x3 x4 x5 x6 x7 x8 x9 (ix2 r k)
      = FfnRow.nrm (FfnRow.mixed (fun k => x0 (ix2 r k)) (fun k => x5 (ix2 r k)) (fun k => x6 (ix2 r k)) (fun k => x7 (ix2 r k)) (fun j k => x8 (ix2 j k)))
          (fun k => x1 (ix2 0 k)) k := by
    intro k
    unfold k0_pay15 k0_pay3
    pointwise [hX]
    rfl
  generalize k0_pay15 x0 x1 x2 x3 x4 x5 x6 x7 x8 x9 = N at hN ⊢
  generalize k0_pay2 (View.ld x0 r0_0) (View.ld x5 r0_1) (View.ld x8 r0_2) (View.ld x6 r0_3) (View.ld x8 r0_4) (View.ld x7 r0_1) (View.ld x8 r0_5) = X at hX ⊢
  unfold_payloads
  pointwise [dot_S512x1024_S1024x256_S512x256_1_0_0_1_n_n, dot_S512x256_S256x1024_S512x1024_1_0_0_1_n_n, hX, hN]
  generalize FfnRow.mixed _ _ _ _ _ = x
  have hh : ∀ g wg wu wd d, FfnRow.half x g wg wu wd d = _ := fun g wg wu wd d => by unfold FfnRow.half; rw [FfnRow.sum_runs]
  unfold FfnRow.nrm
  simp only [hh]
  rfl

/-- Row `r` of the 16384 rows laid end to end is row `r % 4096` of sequence `r / 4096`. -/
theorem rows_apply (y : Vec Ideal S4x4096x1024 .f32) (r : Fin 16384) (d : Fin 1024) :
    shapeCast S16384x1024 y shapeCasts_S4x4096x1024_S16384x1024 (ix2 r d) = y (ix3 ⟨r / 4096, by omega⟩ ⟨r % 4096, by omega⟩ d) := by
  pointwise

variable (m : (ℓ : Loc nD τ sig) → Buf (Elt Ideal) ℓ)

/-! ### The staged arrays and their blocks -/

theorem V_v4 (c : Dev nD) : V m c main_v4 = (shapeCast S16384x1024 (m ((c : Thread nD τ).loc main_arg0)) shapeCasts_S4x4096x1024_S16384x1024 : S16384x1024.Idx → EReal) := by
  simp only [V, hostOps0, List.flatten_cons, List.flatten_nil, List.append_nil, List.cons_append, List.nil_append]
  after_results_simp <;> rfl

theorem V_v5 (c : Dev nD) : V m c main_v5 = (shapeCast S1x1024 (m ((c : Thread nD τ).loc main_arg5)) shapeCasts_S1024_S1x1024 : S1x1024.Idx → EReal) := by
  simp only [V, hostOps0, List.flatten_cons, List.flatten_nil, List.append_nil, List.cons_append, List.nil_append]
  after_results_simp <;> rfl

theorem V_v7 (c : Dev nD) : V m c main_v7 = (shapeCast S1x1024 (m ((c : Thread nD τ).loc main_arg8)) shapeCasts_S1024_S1x1024 : S1x1024.Idx → EReal) := by
  simp only [V, hostOps0, List.flatten_cons, List.flatten_nil, List.append_nil, List.cons_append, List.nil_append]
  after_results_simp <;> rfl

theorem V_v1 (c : Dev nD) : V m c main_v1 = (extractStridedSlice S1024x2816 ![0, 0] (m ((c : Thread nD τ).loc main_arg6)) slices_S1024x5632_S1024x2816_0_0 : S1024x2816.Idx → EReal) := by
  simp only [V, hostOps0, List.flatten_cons, List.flatten_nil, List.append_nil, List.cons_append, List.nil_append]
  after_results_simp <;> rfl

theorem V_v3 (c : Dev nD) : V m c main_v3 = (extractStridedSlice S1024x2816 ![0, 2816] (m ((c : Thread nD τ).loc main_arg6)) slices_S1024x5632_S1024x2816_0_2816 : S1024x2816.Idx → EReal) := by
  simp only [V, hostOps0, List.flatten_cons, List.flatten_nil, List.append_nil, List.cons_append, List.nil_append]
  after_results_simp <;> rfl

theorem V_v6 (c : Dev nD) : V m c main_v6 = (m ((c : Thread nD τ).loc main_arg7) : S2816x1024.Idx → EReal) := by
  simp only [V, hostOps0, List.flatten_cons, List.flatten_nil, List.append_nil, List.cons_append, List.nil_append]
  after_results_simp <;> rfl

theorem V_v8 (c : Dev nD) : V m c main_v8 = (m ((c : Thread nD τ).loc main_arg4) : S1024x1024.Idx → EReal) := by
  simp only [V, hostOps0, List.flatten_cons, List.flatten_nil, List.append_nil, List.cons_append, List.nil_append]
  after_results_simp <;> rfl

/-- The block indices of the eleven windows, decided over the 32 points. -/
theorem idx_all : ∀ t : Fin cfg0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = 0 ∧ win0_8.index t 1 = 0) ∧ (win0_9.index t 0 = 0 ∧ win0_9.index t 1 = 0) ∧ (win0_10.index t 0 = t.val ∧ win0_10.index t 1 = 0) :=
  (by decide +kernel : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = 0 ∧ win0_8.index t 1 = 0) ∧ (win0_9.index t 0 = 0 ∧ win0_9.index t 1 = 0) ∧ (win0_10.index t 0 = t.val ∧ win0_10.index t 1 = 0))

/-- Row `r` of point `t`'s 512 is a row of the array. -/
theorem row_lt (t : Fin cfg0.N) (r : Fin 512) : t.val * 512 + r.val < 16384 := by
  have := t.isLt; have : cfg0.N = 32 := N_0; omega

theorem blk0 (c : Dev nD) (t : Fin cfg0.N) (r : Fin 512) (d : Fin 1024) :
    (iblk m c 0 t : S512x1024.Idx → EReal) (ix2 r d) = V m c main_v4 (ix2 ⟨t * 512 + r, row_lt t r⟩ d) := by
  obtain ⟨⟨h0, h1⟩, -⟩ := idx_all t
  unfold iblk
  exact congrArg (V m c main_v4 : _ → EReal) (funext fun a => Fin.ext (by
    match a with
    | ⟨0, _⟩ => exact FfnRow.at_tile h0 512 r.val
    | ⟨1, _⟩ => exact FfnRow.at_zero h1 1024 d.val))

theorem blk1 (c : Dev nD) (t : Fin cfg0.N) : (iblk m c 1 t : S1x1024.Idx → EReal) = V m c main_v5 := by
  obtain ⟨-, ⟨h0, h1⟩, -⟩ := idx_all t
  unfold iblk
  exact funext fun i => congrArg (V m c main_v5 : _ → EReal) (funext fun a => Fin.ext (by
    match a with
    | ⟨0, _⟩ => exact FfnRow.at_zero h0 1 (i 0).val
    | ⟨1, _⟩ => exact FfnRow.at_zero h1 1024 (i 1).val))

theorem blk2 (c : Dev nD) (t : Fin cfg0.N) : (iblk m c 2 t : S1024x2816.Idx → EReal) = V m c main_v1 := by
  obtain ⟨-, -, ⟨h0, h1⟩, -⟩ := idx_all t
  unfold iblk
  exact funext fun i => congrArg (V m c main_v1 : _ → EReal) (funext fun a => Fin.ext (by
    match a with
    | ⟨0, _⟩ => exact FfnRow.at_zero h0 1024 (i 0).val
    | ⟨1, _⟩ => exact FfnRow.at_zero h1 2816 (i 1).val))

theorem blk3 (c : Dev nD) (t : Fin cfg0.N) : (iblk m c 3 t : S1024x2816.Idx → EReal) = V m c main_v3 := by
  obtain ⟨-, -, -, ⟨h0, h1⟩, -⟩ := idx_all t
  unfold iblk
  exact funext fun i => congrArg (V m c main_v3 : _ → EReal) (funext fun a => Fin.ext (by
    match a with
    | ⟨0, _⟩ => exact FfnRow.at_zero h0 1024 (i 0).val
    | ⟨1, _⟩ => exact FfnRow.at_zero h1 2816 (i 1).val))

theorem blk4 (c : Dev nD) (t : Fin cfg0.N) : (iblk m c 4 t : S2816x1024.Idx → EReal) = V m c main_v6 := by
  obtain ⟨-, -, -, -, ⟨h0, h1⟩, -⟩ := idx_all t
  unfold iblk
  exact funext fun i => congrArg (V m c main_v6 : _ → EReal) (funext fun a => Fin.ext (by
    match a with
    | ⟨0, _⟩ => exact FfnRow.at_zero h0 2816 (i 0).val
    | ⟨1, _⟩ => exact FfnRow.at_zero h1 1024 (i 1).val))

theorem blk5 (c : Dev nD) (t : Fin cfg0.N) (r : Fin 512) (d : Fin 256) :
    (iblk m c 5 t : S512x256.Idx → EReal) (ix2 r d) = V m c main_arg1 (ix2 ⟨t * 512 + r, row_lt t r⟩ d) := by
  obtain ⟨-, -, -, -, -, ⟨h0, h1⟩, -⟩ := idx_all t
  unfold iblk
  exact congrArg (V m c main_arg1 : _ → EReal) (funext fun a => Fin.ext (by
    match a with
    | ⟨0, _⟩ => exact FfnRow.at_tile h0 512 r.val
    | ⟨1, _⟩ => exact FfnRow.at_zero h1 256 d.val))

theorem blk6 (c : Dev nD) (t : Fin cfg0.N) (r : Fin 512) (d : Fin 512) :
    (iblk m c 6 t : S512x512.Idx → EReal) (ix2 r d) = V m c main_arg2 (ix2 ⟨t * 512 + r, row_lt t r⟩ d) := by
  obtain ⟨-, -, -, -, -, -, ⟨h0, h1⟩, -⟩ := idx_all t
  unfold iblk
  exact congrArg (V m c main_arg2 : _ → EReal) (funext fun a => Fin.ext (by
    match a with
    | ⟨0, _⟩ => exact FfnRow.at_tile h0 512 r.val
    | ⟨1, _⟩ => exact FfnRow.at_zero h1 512 d.val))

theorem blk7 (c : Dev nD) (t : Fin cfg0.N) (r : Fin 512) (d : Fin 256) :
    (iblk m c 7 t : S512x256.Idx → EReal) (ix2 r d) = V m c main_arg3 (ix2 ⟨t * 512 + r, row_lt t r⟩ d) := by
  obtain ⟨-, -, -, -, -, -, -, ⟨h0, h1⟩, -⟩ := idx_all t
  unfold iblk
  exact congrArg (V m c main_arg3 : _ → EReal) (funext fun a => Fin.ext (by
    match a with
    | ⟨0, _⟩ => exact FfnRow.at_tile h0 512 r.val
    | ⟨1, _⟩ => exact FfnRow.at_zero h1 256 d.val))

theorem blk8 (c : Dev nD) (t : Fin cfg0.N) : (iblk m c 8 t : S1024x1024.Idx → EReal) = V m c main_v8 := by
  obtain ⟨-, -, -, -, -, -, -, -, ⟨h0, h1⟩, -⟩ := idx_all t
  unfold iblk
  exact funext fun i => congrArg (V m c main_v8 : _ → EReal) (funext fun a => Fin.ext (by
    match a with
    | ⟨0, _⟩ => exact FfnRow.at_zero h0 1024 (i 0).val
    | ⟨1, _⟩ => exact FfnRow.at_zero h1 1024 (i 1).val))

theorem blk9 (c : Dev nD) (t : Fin cfg0.N) : (iblk m c 9 t : S1x1024.Idx → EReal) = V m c main_v7 := by
  obtain ⟨-, -, -, -, -, -, -, -, -, ⟨h0, h1⟩, -⟩ := idx_all t
  unfold iblk
  exact funext fun i => congrArg (V m c main_v7 : _ → EReal) (funext fun a => Fin.ext (by
    match a with
    | ⟨0, _⟩ => exact FfnRow.at_zero h0 1 (i 0).val
    | ⟨1, _⟩ => exact FfnRow.at_zero h1 1024 (i 1).val))

/-! ### The result array -/

/-- What the result array is shown to hold. -/
abbrev G (c : Dev nD) : S16384x1024.Idx → EReal := fun i =>
  row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1)

/-- What point `t` writes back is rows `512 t … 512 t + 511` of `G`. -/
theorem flushed_eq (c : Dev nD) (t : Fin cfg0.N) :
    (dats m 0 c).flushed 10 t = (win0_10.blk t).view.read (Elt Ideal) (G m c) := by
  obtain ⟨-, -, -, -, -, -, -, -, -, -, h0, h1⟩ := idx_all t
  rw [Value.flushed10]
  show out0_10 (iblk m c 0 t) (iblk m c 1 t) (iblk m c 2 t) (iblk m c 3 t) (iblk m c 4 t) (iblk m c 5 t) (iblk m c 6 t) (iblk m c 7 t) (iblk m c 8 t) (iblk m c 9 t) = _
  funext i
  idx_vars i
  refine (out_apply _ _ _ _ _ _ _ _ _ _ i0 i1).trans ?_
  rw [View.read_apply]
  have hN : cfg0.N = 32 := N_0
  have ht := t.isLt
  have e : ((win0_10.blk t).view.emb (ix2 i0 i1)) = (ix2 ⟨t * 512 + i0, by omega⟩ i1 : S16384x1024.Idx) := by
    funext a
    apply Fin.ext
    match a with
    | ⟨0, _⟩ => show win0_10.index t 0 * 512 + 1 * i0.val = _; rw [h0, Nat.one_mul]; rfl
    | ⟨1, _⟩ => show win0_10.index t 1 * 1024 + 1 * i1.val = _; rw [h1, Nat.one_mul, Nat.zero_mul, Nat.zero_add]; rfl
  rw [e, cast_eq]
  show _ = row _ _ _ _ _ _ _ _ _ ⟨t * 512 + i0, by omega⟩ i1
  exact FfnRow.nrm_congr (fun d => FfnRow.half_congr
      (fun k => FfnRow.mixed_congr (fun k => (blk0 m c t i0 k).trans ((congrFun (V_v4 m c) _).trans (rows_apply _ _ k)))
        (fun k => (blk5 m c t i0 k).trans (congrFun (V_main_arg1 m c) _)) (fun k => (blk6 m c t i0 k).trans (congrFun (V_main_arg2 m c) _))
        (fun k => (blk7 m c t i0 k).trans (congrFun (V_main_arg3 m c) _)) (fun j k => (congrFun (blk8 m c t) _).trans (congrFun (V_v8 m c) _)) k)
      (fun k => (congrFun (blk1 m c t) _).trans ((congrFun (V_v5 m c) _).trans (by pointwise)))
      (fun k j => (congrFun (blk2 m c t) _).trans ((congrFun (V_v1 m c) _).trans (by pointwise)))
      (fun k j => (congrFun (blk3 m c t) _).trans ((congrFun (V_v3 m c) _).trans (by pointwise)))
      (fun j d => (congrFun (blk4 m c t) _).trans (congrFun (V_v6 m c) _)) d)
    (fun k => (congrFun (blk9 m c t) _).trans ((congrFun (V_v7 m c) _).trans (by pointwise))) i1

/-- An index of the result array is in point `t`'s block exactly when its row is one of the point's 512. -/
theorem mem_blk (t : Fin cfg0.N) (i : S16384x1024.Idx) :
    i ∈ ((cfg0.win 10).blk t).view.set ↔ t.val * 512 ≤ (i 0 : Nat) ∧ (i 0 : Nat) < t.val * 512 + 512 := by
  obtain ⟨-, -, -, -, -, -, -, -, -, -, h0, h1⟩ := idx_all t
  show i ∈ ((View.whole main_v9).slice (win0_10.rect t)).set ↔ _
  rw [View.set_slice_whole, Rect.mem_set_unit]
  have hi : (i 1 : Nat) < 1024 := (i 1).isLt
  refine ⟨fun h => ?_, fun h a => ?_⟩
  · have : win0_10.index t 0 * 512 ≤ (i 0 : Nat) ∧ (i 0 : Nat) < win0_10.index t 0 * 512 + 512 := h 0
    rw [h0] at this; exact this
  · match a with
    | ⟨0, _⟩ => show win0_10.index t 0 * 512 ≤ (i 0 : Nat) ∧ (i 0 : Nat) < win0_10.index t 0 * 512 + 512
                rw [h0]; exact h
    | ⟨1, _⟩ => show win0_10.index t 1 * 1024 ≤ (i 1 : Nat) ∧ (i 1 : Nat) < win0_10.index t 1 * 1024 + 1024
                rw [h1, Nat.zero_mul, Nat.zero_add]; exact ⟨Nat.zero_le _, hi⟩

/-- The 32 blocks cover the array: row `r` is in block `r / 512`. -/
theorem cover (i : S16384x1024.Idx) : ∃ t : Fin cfg0.N, (cfg0.win 10).flush t = true ∧ i ∈ ((cfg0.win 10).blk t).view.set := by
  have h0 : (i 0 : Nat) < 16384 := (i 0).isLt
  have hN : cfg0.N = 32 := N_0
  refine ⟨⟨(i 0 : Nat) / 512, by omega⟩, flush0_10 _, ?_⟩
  rw [mem_blk]
  dsimp only
  omega

/-- The result array after the run. -/
theorem final (c : Dev nD) : (dats m 0 c).arrAt 10 cfg0.N = G m c :=
  Dat.arrAt_eq_of_cover (dats m 0 c) 10 (G m c) (fun t _ => flushed_eq m c t) cover

end Cert.Kernel3Ideal.Hand

namespace Cert.Reference3Ideal.Hand

open Cert.Reference3Ideal Cert.Reference3Ideal.Gen Cert.Reference3Ideal.Read

variable (x0 : Vec Ideal S4x4096x1024 .f32) (x1 : Vec Ideal S16384x256 .f32) (x2 : Vec Ideal S16384x512 .f32) (x3 : Vec Ideal S16384x256 .f32)
  (x4 : Vec Ideal S1024x1024 .f32) (x5 : Vec Ideal S1024 .f32) (x6 : Vec Ideal S1024x5632 .f32) (x7 : Vec Ideal S2816x1024 .f32)
  (x8 : Vec Ideal S1024 .f32)

/-- The mixed row: the sequence `b`, position `p`, entry `k`. -/
abbrev mix (b : Fin 4) (p : Fin 4096) (k : Fin 1024) : EReal :=
  FfnRow.mixed (fun k => x0 (ix3 b p k)) (fun k => x1 (ix2 ⟨b * 4096 + p, by omega⟩ k)) (fun k => x2 (ix2 ⟨b * 4096 + p, by omega⟩ k))
    (fun k => x3 (ix2 ⟨b * 4096 + p, by omega⟩ k)) (fun j k => x4 (ix2 j k)) k

/-- The same row before the last normalization. -/
abbrev hlf (b : Fin 4) (p : Fin 4096) (d : Fin 1024) : EReal :=
  FfnRow.half (mix x0 x1 x2 x3 x4 b p) (fun k => x5 (ix1 k)) (fun k j => x6 (ix2 k ⟨j, by omega⟩)) (fun k j => x6 (ix2 k ⟨2816 + j, by omega⟩))
    (fun j d => x7 (ix2 j d)) d

theorem mix_apply (b : Fin 4) (p : Fin 4096) (k : Fin 1024) :
    val_main_v3 (F := Ideal) x0 x1 x2 x3 x4 (ix3 b p k) = mix x0 x1 x2 x3 x4 b p k := by
  unfold val_main_v3 val_main_v2 val_main_v1 val_main_v0
  pointwise [dot_S16384x1024_S1024x1024_S16384x1024_1_0_0_1_n_n]
  exact congrArg (x0 (ix3 b p k) + ·) (FfnRow.sum_join (fun k => x1 (ix2 ⟨b * 4096 + p, by omega⟩ k)) (fun k => x2 (ix2 ⟨b * 4096 + p, by omega⟩ k))
    (fun k => x3 (ix2 ⟨b * 4096 + p, by omega⟩ k)) (fun j => x4 (ix2 j k)))

theorem nrm_apply (b : Fin 4) (p : Fin 4096) (k : Fin 1024) :
    val_main_v16 (F := Ideal) x0 x1 x2 x3 x4 x5 (ix3 b p k) = FfnRow.nrm (mix x0 x1 x2 x3 x4 b p) (fun k => x5 (ix1 k)) k := by
  have h := mix_apply x0 x1 x2 x3 x4 b p
  unfold val_main_v16 val_main_v15 val_main_v14 val_main_v13 val_main_v12 val_main_v11 val_main_v10 val_main_v9 val_main_v8 val_main_v7
    val_main_v6 val_main_v5 val_main_v4 val_main_cst val_main_cst_0 val_main_cst_1
  generalize val_main_v3 (F := Ideal) x0 x1 x2 x3 x4 = y at h ⊢
  pointwise [h]
  rfl

theorem hlf_apply (b : Fin 4) (p : Fin 4096) (d : Fin 1024) :
    val_main_v25 (F := Ideal) x0 x1 x2 x3 x4 x5 x6 x7 (ix3 b p d) = hlf x0 x1 x2 x3 x4 x5 x6 x7 b p d := by
  have h := mix_apply x0 x1 x2 x3 x4 b p
  have hn := nrm_apply x0 x1 x2 x3 x4 x5 b p
  unfold val_main_v25 val_main_v24 val_main_v23 val_main_v22 val_main_v21 val_main_v20 val_main_call0_v5 val_main_call0_v4 val_main_call0_v3
    val_main_call0_v2 val_main_call0_v1 val_main_call0_v0 val_main_v19 val_main_v18 val_main_v17 val_main_call0_cst val_main_call0_cst_0
    val_main_cst_2
  generalize val_main_v3 (F := Ideal) x0 x1 x2 x3 x4 = y at h ⊢
  generalize val_main_v16 (F := Ideal) x0 x1 x2 x3 x4 x5 = n at hn ⊢
  pointwise [h, hn, dot_S4x4096x1024_S1024x5632_S4x4096x5632_2_0_01_1_n_n, dot_S4x4096x2816_S2816x1024_S4x4096x1024_2_0_01_1_n_n]
  rfl

/-- The reference's result at an index. -/
theorem ref_apply (r : Fin 16384) (d : Fin 1024) :
    val_main_v39 (F := Ideal) x0 x1 x2 x3 x4 x5 x6 x7 x8 (ix2 r d) = Kernel3Ideal.Hand.row x0 x1 x2 x3 x4 x5 x6 x7 x8 r d := by
  have h := hlf_apply x0 x1 x2 x3 x4 x5 x6 x7 ⟨r / 4096, by omega⟩ ⟨r % 4096, by omega⟩
  unfold val_main_v39 val_main_v38 val_main_v37 val_main_v36 val_main_v35 val_main_v34 val_main_v33 val_main_v32 val_main_v31 val_main_v30
    val_main_v29 val_main_v28 val_main_v27 val_main_v26 val_main_cst_3 val_main_cst_4 val_main_cst_5
  generalize val_main_v25 (F := Ideal) x0 x1 x2 x3 x4 x5 x6 x7 = y at h ⊢
  pointwise [h]
  have e : (⟨r.val / 4096 * 4096 + r.val % 4096, by omega⟩ : Fin 16384) = r := Fin.ext (by show r.val / 4096 * 4096 + r.val % 4096 = r.val; omega)
  show FfnRow.nrm (hlf x0 x1 x2 x3 x4 x5 x6 x7 ⟨r / 4096, by omega⟩ ⟨r % 4096, by omega⟩) (fun k => x8 (ix1 k)) d = _
  unfold hlf mix Kernel3Ideal.Hand.row
  simp only [e]

end Cert.Reference3Ideal.Hand

namespace Cert.Proof

/-- From memories that agree on the nine arguments, the pipelined kernel and the reference end with equal results. -/
theorem algebraic3 : Cert.algebraic_Kernel3Ideal_Reference3Ideal := by
  intro m g m' g' _ hargs
  refine ⟨fun c => Kernel3Ideal.Hand.G m c, ?_, ?_⟩
  · refine (θ_run _ _ _).mono (fun r h c => ?_) (Kernel3Ideal.Value.run_blocks m g)
    exact ⟨(h c).1.trans (Kernel3Ideal.Hand.final m c), (h c).2⟩
  · refine (θ_run _ _ _).mono (fun r h c => ⟨(h c).1.trans ?_, (h c).2⟩) (Reference3Ideal.Value.run m' g')
    obtain ⟨e0, e1, e2, e3, e4, e5, e6, e7, e8⟩ := hargs c
    rw [Reference3Ideal.Read.val_main_v39_eq, e0, e1, e2, e3, e4, e5, e6, e7, e8]
    funext i
    idx_vars i
    exact Reference3Ideal.Hand.ref_apply _ _ _ _ _ _ _ _ _ i0 i1

end Cert.Proof
end
-- ==== Proof.ProjRow.lean ====
/-
  ONE ROW OF THE INPUT PROJECTION, on the extended reals: the row divided by its root mean square, times the gain, multiplied
  by one column of the weights; and where a column of the two rearranged weight matrices comes from.
-/
module

public import proofs.«01_k».proof.Proof.FfnRow

@[expose] public section

noncomputable section

open Idealize.ShloMosaic

namespace Cert.ProjRow

/-- The normalized row `x` (gain `g`) times the weight column `w`. -/
def proj (x g w : Fin 1024 → EReal) : EReal := ∑ k, FfnRow.nrm x g k * w k

theorem proj_congr {x x' g g' w w' : Fin 1024 → EReal} (hx : ∀ k, x k = x' k) (hg : ∀ k, g k = g' k) (hw : ∀ k, w k = w' k) :
    proj x g w = proj x' g' w' := by
  rw [funext hx, funext hg, funext hw]

/-- The product with the factors of each term the other way round. -/
theorem proj_comm (x g w : Fin 1024 → EReal) : ∑ k, w k * FfnRow.nrm x g k = proj x g w :=
  Finset.sum_congr rfl fun _ _ => mul_comm _ _

/-- A column of zeros gives zero. -/
theorem proj_zero (x g : Fin 1024 → EReal) : proj x g (fun _ => 0) = 0 := by simp [proj]

/-- Column `o + j` of the 3080 columns. -/
def col (o n : ℕ) (h : o + n ≤ 3080) (j : Fin n) : Fin 3080 := ⟨o + j, by omega⟩

/-- Row `s` of sequence `b` among the 16384 rows laid end to end. -/
def row (b : Fin 4) (s : Fin 4096) : Fin 16384 := ⟨b * 4096 + s, by omega⟩

/-- Column `n` of the weights as they are laid out for the products with the rows: 512 gates, 1024 convolution channels, the
    eight step sizes padded with zeros to 128, then five blocks of 256. -/
def natCol (w : Fin 1024 → Fin 3080 → EReal) (n : Fin 2944) (k : Fin 1024) : EReal :=
  if _ : n.val < 512 then w k ⟨768 + n, by omega⟩
  else if _ : n.val - 512 < 1024 then w k ⟨1280 + (n - 512), by omega⟩
  else if _ : n.val - 512 - 1024 < 128 then if _ : n.val - 512 - 1024 < 8 then w k ⟨2304 + (n - 512 - 1024), by omega⟩ else 0
  else if _ : n.val - 512 - 1024 - 128 < 256 then w k ⟨256 + (n - 512 - 1024 - 128), by omega⟩
  else if _ : n.val - 512 - 1024 - 128 - 256 < 256 then w k ⟨2568 + (n - 512 - 1024 - 128 - 256), by omega⟩
  else if _ : n.val - 512 - 1024 - 128 - 256 - 256 < 256 then w k ⟨0 + (n - 512 - 1024 - 128 - 256 - 256), by omega⟩
  else if _ : n.val - 512 - 1024 - 128 - 256 - 256 - 256 < 256 then w k ⟨2312 + (n - 512 - 1024 - 128 - 256 - 256 - 256), by omega⟩
  else w k ⟨512 + (n - 512 - 1024 - 128 - 256 - 256 - 256 - 256), by omega⟩

/-- Row `n` of the weights as they are laid out for the transposed products: six blocks of 256 columns. -/
def tCol (w : Fin 1024 → Fin 3080 → EReal) (n : Fin 1536) (k : Fin 1024) : EReal :=
  if _ : n.val < 256 then w k ⟨256 + n, by omega⟩
  else if _ : n.val - 256 < 256 then w k ⟨512 + (n - 256), by omega⟩
  else if _ : n.val - 256 - 256 < 256 then w k ⟨2568 + (n - 256 - 256), by omega⟩
  else if _ : n.val - 256 - 256 - 256 < 256 then w k ⟨2824 + (n - 256 - 256 - 256), by omega⟩
  else if _ : n.val - 256 - 256 - 256 - 256 < 256 then w k ⟨0 + (n - 256 - 256 - 256 - 256), by omega⟩
  else w k ⟨2312 + (n - 256 - 256 - 256 - 256 - 256), by omega⟩

/-! ### The laid-out columns, block by block -/

theorem nat_z (w : Fin 1024 → Fin 3080 → EReal) (j : Fin 512) (k : Fin 1024) :
    natCol w ⟨j, by omega⟩ k = w k (col 768 512 (by omega) j) := by
  unfold natCol col; split_ifs <;> first | (exfalso; dsimp only at *; omega) | exact congrArg (w k) (Fin.ext (by dsimp only <;> omega))

theorem nat_xbc (w : Fin 1024 → Fin 3080 → EReal) (j : Fin 1024) (k : Fin 1024) :
    natCol w ⟨512 + j, by omega⟩ k = w k (col 1280 1024 (by omega) j) := by
  unfold natCol col; split_ifs <;> first | (exfalso; dsimp only at *; omega) | exact congrArg (w k) (Fin.ext (by dsimp only <;> omega))

theorem nat_dk (w : Fin 1024 → Fin 3080 → EReal) (j : Fin 256) (k : Fin 1024) :
    natCol w ⟨1664 + j, by omega⟩ k = w k (col 256 256 (by omega) j) := by
  unfold natCol col; split_ifs <;> first | (exfalso; dsimp only at *; omega) | exact congrArg (w k) (Fin.ext (by dsimp only <;> omega))

theorem nat_sk (w : Fin 1024 → Fin 3080 → EReal) (j : Fin 256) (k : Fin 1024) :
    natCol w ⟨1920 + j, by omega⟩ k = w k (col 2568 256 (by omega) j) := by
  unfold natCol col; split_ifs <;> first | (exfalso; dsimp only at *; omega) | exact congrArg (w k) (Fin.ext (by dsimp only <;> omega))

theorem nat_dq (w : Fin 1024 → Fin 3080 → EReal) (j : Fin 256) (k : Fin 1024) :
    natCol w ⟨2176 + j, by omega⟩ k = w k (col 0 256 (by omega) j) := by
  unfold natCol col; split_ifs <;> first | (exfalso; dsimp only at *; omega) | exact congrArg (w k) (Fin.ext (by dsimp only <;> omega))

theorem nat_sq (w : Fin 1024 → Fin 3080 → EReal) (j : Fin 256) (k : Fin 1024) :
    natCol w ⟨2432 + j, by omega⟩ k = w k (col 2312 256 (by omega) j) := by
  unfold natCol col; split_ifs <;> first | (exfalso; dsimp only at *; omega) | exact congrArg (w k) (Fin.ext (by dsimp only <;> omega))

theorem nat_dv (w : Fin 1024 → Fin 3080 → EReal) (j : Fin 256) (k : Fin 1024) :
    natCol w ⟨2688 + j, by omega⟩ k = w k (col 512 256 (by omega) j) := by
  unfold natCol col; split_ifs <;> first | (exfalso; dsimp only at *; omega) | exact congrArg (w k) (Fin.ext (by dsimp only <;> omega))

theorem nat_dt (w : Fin 1024 → Fin 3080 → EReal) (j : Fin 128) (k : Fin 1024) :
    natCol w ⟨1536 + j, by omega⟩ k = if h : j.val < 8 then w k (col 2304 8 (by omega) ⟨j, h⟩) else 0 := by
  unfold natCol col; split_ifs <;> first | (exfalso; dsimp only at *; omega) | exact congrArg (w k) (Fin.ext (by dsimp only <;> omega)) | rfl

theorem t_dk (w : Fin 1024 → Fin 3080 → EReal) (j : Fin 256) (k : Fin 1024) :
    tCol w ⟨j, by omega⟩ k = w k (col 256 256 (by omega) j) := by
  unfold tCol col; split_ifs <;> first | (exfalso; dsimp only at *; omega) | exact congrArg (w k) (Fin.ext (by dsimp only <;> omega))

theorem t_dv (w : Fin 1024 → Fin 3080 → EReal) (j : Fin 256) (k : Fin 1024) :
    tCol w ⟨256 + j, by omega⟩ k = w k (col 512 256 (by omega) j) := by
  unfold tCol col; split_ifs <;> first | (exfalso; dsimp only at *; omega) | exact congrArg (w k) (Fin.ext (by dsimp only <;> omega))

theorem t_sk (w : Fin 1024 → Fin 3080 → EReal) (j : Fin 256) (k : Fin 1024) :
    tCol w ⟨512 + j, by omega⟩ k = w k (col 2568 256 (by omega) j) := by
  unfold tCol col; split_ifs <;> first | (exfalso; dsimp only at *; omega) | exact congrArg (w k) (Fin.ext (by dsimp only <;> omega))

theorem t_sv (w : Fin 1024 → Fin 3080 → EReal) (j : Fin 256) (k : Fin 1024) :
    tCol w ⟨768 + j, by omega⟩ k = w k (col 2824 256 (by omega) j) := by
  unfold tCol col; split_ifs <;> first | (exfalso; dsimp only at *; omega) | exact congrArg (w k) (Fin.ext (by dsimp only <;> omega))

theorem t_dq (w : Fin 1024 → Fin 3080 → EReal) (j : Fin 256) (k : Fin 1024) :
    tCol w ⟨1024 + j, by omega⟩ k = w k (col 0 256 (by omega) j) := by
  unfold tCol col; split_ifs <;> first | (exfalso; dsimp only at *; omega) | exact congrArg (w k) (Fin.ext (by dsimp only <;> omega))

theorem t_sq (w : Fin 1024 → Fin 3080 → EReal) (j : Fin 256) (k : Fin 1024) :
    tCol w ⟨1280 + j, by omega⟩ k = w k (col 2312 256 (by omega) j) := by
  unfold tCol col; split_ifs <;> first | (exfalso; dsimp only at *; omega) | exact congrArg (w k) (Fin.ext (by dsimp only <;> omega))

end Cert.ProjRow
end
-- ==== Proof.Proj4.lean ====
/-
  THE INPUT PROJECTION (prompt): every row is normalized and multiplied by the 3080 weight columns, and the product is dealt out
  to thirteen arrays: three by rows, the four stacked key and value arrays (transposed, as layer 3 of 4, the layers before it
  kept), the two transposed query arrays, the two key arrays and the two value arrays in blocks.

  The kernel takes 512 rows at a grid point and works from two rearranged copies of the weights (`ProjRow.natCol`,
  `ProjRow.tCol`); the reference makes the whole product and slices it. Every result is `prj` at a row and a column.
-/
module

public import proofs.«01_k».proof.Defs
public import proofs.«01_k».proof.Proof.Gen.Kernel4Ideal.Value
public import proofs.«01_k».proof.Proof.Gen.Reference4Ideal.Read
public import proofs.«01_k».proof.Proof.ProjRow
public import Idealize.ShloMosaic.Lib.Pointwise
public import Idealize.ShloMosaic.Lib.ValueIdx
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

variable (m : (ℓ : Loc nD τ sig) → Buf (Elt Ideal) ℓ)

theorem u_apply (x0 : Vec Ideal S512x1024 .f32) (x1 : Vec Ideal S1x1024 .f32) (r : Fin 512) (k : Fin 1024) :
    k0_pay3 x0 x1 (ix2 r k) = FfnRow.nrm (fun k => x0 (ix2 r k)) (fun k => x1 (ix2 0 k)) k := by
  unfold k0_pay3
  pointwise
  rfl

/-- The 1024 weights of every laid-out column. -/
abbrev wcol (w : S1024x3080.Idx → EReal) : Fin 1024 → Fin 3080 → EReal := fun k n => w (ix2 k n)

theorem V_past (c : Dev nD) : V m c main_v16_3 = (m ((c : Thread nD τ).loc main_arg3) : S4x4x256x4096.Idx → EReal)
    ∧ V m c main_v16_4 = (m ((c : Thread nD τ).loc main_arg4) : S4x4x256x4096.Idx → EReal)
    ∧ V m c main_v16_5 = (m ((c : Thread nD τ).loc main_arg5) : S4x4x256x4096.Idx → EReal)
    ∧ V m c main_v16_6 = (m ((c : Thread nD τ).loc main_arg6) : S4x4x256x4096.Idx → EReal) := by
  simp only [V, hostOps0, hostOps0_1, hostOps0_2, List.flatten_cons, List.flatten_nil, List.append_nil, List.cons_append, List.nil_append]
  refine ⟨?_, ?_, ?_, ?_⟩ <;> after_results_simp <;> rfl

theorem V_v15 (c : Dev nD) : V m c main_v15 = (shapeCast S1x1024 (m ((c : Thread nD τ).loc main_arg1)) shapeCasts_S1024_S1x1024 : S1x1024.Idx → EReal) := by
  simp only [V, hostOps0, hostOps0_1, hostOps0_2, List.flatten_cons, List.flatten_nil, List.append_nil, List.cons_append, List.nil_append]
  after_results_simp <;> rfl

/-- Eight columns padded with zeros to 128. -/
theorem pad_apply (x : Vec Ideal S1024x8 .f32) (z : Vec Ideal S_ .f32) (hz : z (Shape.Idx.first h_S_) = 0) (k : Fin 1024) (j : Fin 128) :
    pad S1024x128 ![0, 0] ![0, 120] ![0, 0] x z pads_S1024x8_S1024x128_000_01200 h_S_ (ix2 k j)
      = if h : j.val < 8 then x (ix2 k ⟨j, h⟩) else 0 := by
  pointwise
  exact dite_congr rfl (fun _ => rfl) fun _ => hz

/-- The integer constant 0 read as a number. -/
theorem const_apply (i : S_.Idx) : sitofp (F := Ideal) .f32 (constantI S_ 32 0#32) i = 0 := by
  show ((((0#32 : BitVec 32).toInt : ℤ) : ℝ) : EReal) = 0
  simp

/-- The first laid-out weight matrix, column by column. -/
theorem wn_read (c : Dev nD) (k : Fin 1024) (n : Fin 2944) :
    V m c main_v11 (ix2 k n) = ProjRow.natCol (wcol (m ((c : Thread nD τ).loc main_arg2))) n k := by
  simp only [V, hostOps0, hostOps0_1, hostOps0_2, List.flatten_cons, List.flatten_nil, List.append_nil, List.cons_append, List.nil_append]
  after_results_simp
  pointwise
  after_results_simp
  generalize (m (c, Proc.tc.devRef main_arg2) : S1024x3080.Idx → EReal) = w
  unfold ProjRow.natCol wcol
  refine dite_congr rfl (fun _ => by pointwise) fun _ => ?_
  refine dite_congr rfl (fun _ => by pointwise) fun _ => ?_
  refine dite_congr rfl (fun h => ?_) fun _ => ?_
  · refine (show _ = _ from pad_apply (extractStridedSlice S1024x8 ![0, 2304] w slices_S1024x3080_S1024x8_0_2304)
      (sitofp (F := Ideal) .f32 (constantI S_ 32 0#32)) (const_apply _) k ⟨n.val - 512 - 1024, h⟩).trans ?_
    pointwise
  refine dite_congr rfl (fun _ => by pointwise) fun _ => ?_
  refine dite_congr rfl (fun _ => by pointwise) fun _ => ?_
  refine dite_congr rfl (fun _ => by pointwise) fun _ => ?_
  refine dite_congr rfl (fun _ => by pointwise) fun _ => by pointwise

/-- The second laid-out weight matrix, row by row. -/
theorem wt_read (c : Dev nD) (k : Fin 1024) (n : Fin 1536) :
    V m c main_v14 (ix2 n k) = ProjRow.tCol (wcol (m ((c : Thread nD τ).loc main_arg2))) n k := by
  simp only [V, hostOps0, hostOps0_1, hostOps0_2, List.flatten_cons, List.flatten_nil, List.append_nil, List.cons_append, List.nil_append]
  after_results_simp
  pointwise
  after_results_simp
  generalize (m (c, Proc.tc.devRef main_arg2) : S1024x3080.Idx → EReal) = w
  unfold ProjRow.tCol wcol
  refine dite_congr rfl (fun _ => by pointwise) fun _ => ?_
  refine dite_congr rfl (fun _ => by pointwise) fun _ => ?_
  refine dite_congr rfl (fun _ => by pointwise) fun _ => ?_
  refine dite_congr rfl (fun _ => by pointwise) fun _ => ?_
  refine dite_congr rfl (fun _ => by pointwise) fun _ => by pointwise

/-! ### What the body stores, at an index, of any blocks -/

section pay
variable (x0 : Vec Ideal S512x1024 .f32) (x1 : Vec Ideal S1x1024 .f32) (r : Fin 512)

/-- Row `r` of the block, its gain, and a column of weights. -/
abbrev rowOf (w : Fin 1024 → EReal) : EReal := ProjRow.proj (fun k => x0 (ix2 r k)) (fun k => x1 (ix2 0 k)) w

/-- A product of the normalized rows with weights laid out by column. -/
theorem nat_sum (w : Fin 1024 → EReal) : ∑ k, k0_pay3 x0 x1 (ix2 r k) * w k = rowOf x0 x1 r w := by
  simp only [u_apply]; rfl

/-- A product of the normalized rows with weights laid out by row. -/
theorem t_sum (w : Fin 1024 → EReal) : ∑ k, w k * k0_pay3 x0 x1 (ix2 r k) = rowOf x0 x1 r w := by
  simp only [u_apply]; exact ProjRow.proj_comm _ _ _

theorem pay4_apply (w : Vec Ideal S1024x512 .bf16) (j : Fin 512) :
    k0_pay4 x0 x1 w (ix2 r j) = rowOf x0 x1 r fun k => w (ix2 k j) := by
  rw [← nat_sum]; unfold k0_pay4
  generalize k0_pay3 x0 x1 = u
  pointwise [dot_S512x1024_S1024x512_S512x512_1_0_0_1_n_n]

theorem pay5_apply (w : Vec Ideal S1024x1024 .bf16) (j : Fin 1024) :
    k0_pay5 x0 x1 w (ix2 r j) = rowOf x0 x1 r fun k => w (ix2 k j) := by
  rw [← nat_sum]; unfold k0_pay5
  generalize k0_pay3 x0 x1 = u
  pointwise [dot_S512x1024_S1024x1024_S512x1024_1_0_0_1_n_n]

theorem pay6_apply (w : Vec Ideal S1024x128 .bf16) (j : Fin 128) :
    k0_pay6 x0 x1 w (ix2 r j) = rowOf x0 x1 r fun k => w (ix2 k j) := by
  rw [← nat_sum]; unfold k0_pay6
  generalize k0_pay3 x0 x1 = u
  pointwise [dot_S512x1024_S1024x128_S512x128_1_0_0_1_n_n]

theorem pay17_apply (w : Vec Ideal S1024x256 .bf16) (j : Fin 256) :
    k0_pay17 (k0_pay3 x0 x1) w (ix2 r j) = rowOf x0 x1 r fun k => w (ix2 k j) := by
  rw [← nat_sum]; unfold k0_pay17
  generalize k0_pay3 x0 x1 = u
  pointwise [dot_S512x1024_S1024x256_S512x256_1_0_0_1_n_n]

theorem pay7_apply (w : Vec Ideal S256x1024 .bf16) (a : Fin 256) :
    k0_pay7 x0 x1 w (ix2 a r) = rowOf x0 x1 r fun k => w (ix2 a k) := by
  rw [← t_sum]; unfold k0_pay7
  generalize k0_pay3 x0 x1 = u
  pointwise [dot_S256x1024_S512x1024_S256x512_1_1_0_0_n_n]

theorem pay18_apply (w : Vec Ideal S1024x256 .bf16) (j : Fin 256) :
    k0_pay18 (k0_pay3 x0 x1) w (ix2 r j) = rowOf x0 x1 r fun k => w (ix2 k j) :=
  pay17_apply x0 x1 r w j

theorem pay8_apply (w : Vec Ideal S256x1024 .bf16) (a : Fin 256) :
    k0_pay8 (k0_pay3 x0 x1) w (ix2 a r) = rowOf x0 x1 r fun k => w (ix2 a k) :=
  pay7_apply x0 x1 r w a

theorem pay10_apply (w : Vec Ideal S256x1024 .bf16) (a : Fin 256) :
    k0_pay10 (k0_pay7 x0 x1 w) (ix4 0 0 a r) = rowOf x0 x1 r fun k => w (ix2 a k) := by
  rw [← pay7_apply]; unfold k0_pay10
  generalize k0_pay7 x0 x1 w = v
  pointwise

theorem pay11_apply (w : Vec Ideal S256x1024 .bf16) (a : Fin 256) :
    k0_pay11 (k0_pay3 x0 x1) w (ix4 0 0 a r) = rowOf x0 x1 r fun k => w (ix2 a k) :=
  pay10_apply x0 x1 r w a

theorem pay12_apply (w : Vec Ideal S256x1024 .bf16) (a : Fin 256) :
    k0_pay12 (k0_pay3 x0 x1) w (ix4 0 0 a r) = rowOf x0 x1 r fun k => w (ix2 a k) :=
  pay10_apply x0 x1 r w a

theorem pay13_apply (w : Vec Ideal S256x1024 .bf16) (a : Fin 256) :
    k0_pay13 (k0_pay3 x0 x1) w (ix4 0 0 a r) = rowOf x0 x1 r fun k => w (ix2 a k) :=
  pay10_apply x0 x1 r w a

theorem pay15_apply (w : Vec Ideal S256x1024 .bf16) (a : Fin 256) :
    k0_pay15 (k0_pay14 (k0_pay3 x0 x1) w) (ix3 0 a r) = rowOf x0 x1 r fun k => w (ix2 a k) := by
  rw [← pay7_apply]; unfold k0_pay15
  show shapeCast S1x256x512 (k0_pay7 x0 x1 w) _ _ = _
  generalize k0_pay7 x0 x1 w = v
  pointwise

theorem pay16_apply (w : Vec Ideal S256x1024 .bf16) (a : Fin 256) :
    k0_pay16 (k0_pay3 x0 x1) w (ix3 0 a r) = rowOf x0 x1 r fun k => w (ix2 a k) :=
  pay15_apply x0 x1 r w a

end pay

/-! ### The blocks -/

/-- The block indices of the windows, decided over the 32 points. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0]
    ∧ win0_7.index t = ![3, t.val / 8, 0, t.val % 8] ∧ win0_8.index t = ![3, t.val / 8, 0, t.val % 8]
    ∧ win0_9.index t = ![3, t.val / 8, 0, t.val % 8] ∧ win0_10.index t = ![3, t.val / 8, 0, t.val % 8]
    ∧ win0_11.index t = ![t.val / 8, 0, t.val % 8] ∧ win0_12.index t = ![t.val / 8, 0, t.val % 8]
    ∧ win0_13.index t = ![t.val, 0] ∧ win0_14.index t = ![t.val, 0]
    ∧ win0_15.index t = ![t.val / 8, t.val % 8, 0, 0] ∧ win0_16.index t = ![t.val / 8, t.val % 8, 0, 0] :=
  (by decide +kernel : ∀ t : Fin grid0.N, win0_0.index t = ![t.val, 0] ∧ win0_1.index t = ![0, 0] ∧ win0_2.index t = ![0, 0]
    ∧ win0_3.index t = ![0, 0]
    ∧ win0_4.index t = ![t.val, 0] ∧ win0_5.index t = ![t.val, 0] ∧ win0_6.index t = ![t.val, 0]
    ∧ win0_7.index t = ![3, t.val / 8, 0, t.val % 8] ∧ win0_8.index t = ![3, t.val / 8, 0, t.val % 8]
    ∧ win0_9.index t = ![3, t.val / 8, 0, t.val % 8] ∧ win0_10.index t = ![3, t.val / 8, 0, t.val % 8]
    ∧ win0_11.index t = ![t.val / 8, 0, t.val % 8] ∧ win0_12.index t = ![t.val / 8, 0, t.val % 8]
    ∧ win0_13.index t = ![t.val, 0] ∧ win0_14.index t = ![t.val, 0]
    ∧ win0_15.index t = ![t.val / 8, t.val % 8, 0, 0] ∧ win0_16.index t = ![t.val / 8, t.val % 8, 0, 0])

theorem t_lt (t : Fin cfg0.N) : t.val < 32 := lt_of_lt_of_eq t.isLt N_0

theorem blk0 (c : Dev nD) (t : Fin cfg0.N) (r : Fin 512) (k : Fin 1024) (R : Fin 16384) (hR : R.val = t.val * 512 + r.val) :
    (iblk m c 0 t : S512x1024.Idx → EReal) (ix2 r k) = m ((c : Thread nD τ).loc main_arg0) (ix2 R k) := by
  rw [← V_main_arg0 m c]
  blk_ext [iblk, idx t]

theorem blk1 (c : Dev nD) (t : Fin cfg0.N) (k : Fin 1024) :
    (iblk m c 1 t : S1x1024.Idx → EReal) (ix2 0 k) = m ((c : Thread nD τ).loc main_arg1) (ix1 k) := by
  have e : (iblk m c 1 t : S1x1024.Idx → EReal) (ix2 0 k) = V m c main_v15 (ix2 0 k) := by blk_ext [iblk, idx t]
  exact e.trans ((congrFun (V_v15 m c) _).trans (by pointwise))

theorem blk2 (c : Dev nD) (t : Fin cfg0.N) (k : Fin 1024) (n : Fin 2944) :
    (iblk m c 2 t : S1024x2944.Idx → EReal) (ix2 k n) = ProjRow.natCol (wcol (m ((c : Thread nD τ).loc main_arg2))) n k := by
  rw [← wn_read m c]
  blk_ext [iblk, idx t]

theorem blk3 (c : Dev nD) (t : Fin cfg0.N) (k : Fin 1024) (n : Fin 1536) :
    (iblk m c 3 t : S1536x1024.Idx → EReal) (ix2 n k) = ProjRow.tCol (wcol (m ((c : Thread nD τ).loc main_arg2))) n k := by
  rw [← wt_read m c]
  blk_ext [iblk, idx t]

/-- Row `R` of the projection, column `n`, of three argument arrays. -/
abbrev prj (x : S16384x1024.Idx → EReal) (g : S1024.Idx → EReal) (w : S1024x3080.Idx → EReal) (R : Fin 16384) (n : Fin 3080) : EReal :=
  ProjRow.proj (fun k => x (ix2 R k)) (fun k => g (ix1 k)) (fun k => wcol w k n)

/-- … of the kernel's arguments. -/
abbrev P (c : Dev nD) : Fin 16384 → Fin 3080 → EReal :=
  prj (m ((c : Thread nD τ).loc main_arg0)) (m ((c : Thread nD τ).loc main_arg1)) (m ((c : Thread nD τ).loc main_arg2))

/-- A row of point `t`'s block times a column is a row of the array times that column. -/
theorem point (c : Dev nD) (t : Fin cfg0.N) (r : Fin 512) {w : Fin 1024 → EReal} (R : Fin 16384) (n n' : Fin 3080)
    (hw : ∀ k, w k = wcol (m ((c : Thread nD τ).loc main_arg2)) k n') (hR : R.val = t.val * 512 + r.val) (hn : n' = n) :
    rowOf (iblk m c 0 t) (iblk m c 1 t) r w = P m c R n := by
  subst hn
  exact ProjRow.proj_congr (fun k => blk0 m c t r k R hR) (fun k => blk1 m c t k) hw

/-! ### The thirteen results, of three argument arrays and the layers before -/

section results
variable (x : S16384x1024.Idx → EReal) (g : S1024.Idx → EReal) (w : S1024x3080.Idx → EReal)

abbrev zOf : S16384x512.Idx → EReal := fun i => prj x g w (i 0) (ProjRow.col 768 512 (by omega) (i 1))
abbrev convOf : S16384x1024.Idx → EReal := fun i => prj x g w (i 0) (ProjRow.col 1280 1024 (by omega) (i 1))
/-- The eight step sizes, then zeros. -/
def dtOf : S16384x128.Idx → EReal := fun i =>
  if h : (i 1).val < 8 then prj x g w (i 0) (ProjRow.col 2304 8 (by omega) ⟨(i 1).val, h⟩) else 0
/-- Columns `o … o + 255` transposed, stacked as layer 3 on the layers `p` before it. -/
def pastOf (o : ℕ) (ho : o + 256 ≤ 3080) (p : S4x4x256x4096.Idx → EReal) : S4x4x256x4096.Idx → EReal := fun i =>
  if (i 0).val = 3 then prj x g w (ProjRow.row (i 1) (i 3)) (ProjRow.col o 256 ho (i 2)) else p i
abbrev qOf (o : ℕ) (ho : o + 256 ≤ 3080) : S4x256x4096.Idx → EReal := fun i =>
  prj x g w (ProjRow.row (i 0) (i 2)) (ProjRow.col o 256 ho (i 1))
abbrev kOf (o : ℕ) (ho : o + 256 ≤ 3080) : S16384x256.Idx → EReal := fun i => prj x g w (i 0) (ProjRow.col o 256 ho (i 1))
/-- Position `s` of block `b` among a sequence's 4096. -/
def inBlock (b : Fin 16) (s : Fin 256) : Fin 4096 := ⟨b * 256 + s, by omega⟩
abbrev vOf (o : ℕ) (ho : o + 256 ≤ 3080) : S4x16x256x256.Idx → EReal := fun i =>
  prj x g w (ProjRow.row (i 0) (inBlock (i 1) (i 3))) (ProjRow.col o 256 ho (i 2))

end results

section final
variable (c : Dev nD)

/-- The three arguments that are projected. -/
abbrev A0 : S16384x1024.Idx → EReal := m ((c : Thread nD τ).loc main_arg0)
abbrev A1 : S1024.Idx → EReal := m ((c : Thread nD τ).loc main_arg1)
abbrev A2 : S1024x3080.Idx → EReal := m ((c : Thread nD τ).loc main_arg2)

theorem final4 : (dats m 0 c).arrAt 4 (cfgs 0).N = zOf (A0 m c) (A1 m c) (A2 m c) := by
  refine (dats m 0 c).arrAt_eq_of_covers 4 _ (by decide +kernel) fun t _ y => ?_
  blk_simp
  rw [after0_4]; simp only [outsAt0]; frame_out
  idx_vars y
  refine (pay4_apply _ _ _ _ _).trans (point m c t _ _ _ (ProjRow.col 768 512 (by omega) y1) (fun k => ?_) ?_ (Fin.ext ?_))
  · pointwise
    exact (blk2 m c t k _).trans (ProjRow.nat_z _ _ _)
  all_goals (try unfold ProjRow.col); blk_simp [idx t]

theorem final5 : (dats m 0 c).arrAt 5 (cfgs 0).N = convOf (A0 m c) (A1 m c) (A2 m c) := by
  refine (dats m 0 c).arrAt_eq_of_covers 5 _ (by decide +kernel) fun t _ y => ?_
  blk_simp
  rw [after0_5]; simp only [outsAt0]; frame_out
  idx_vars y
  refine (pay5_apply _ _ _ _ _).trans (point m c t _ _ _ (ProjRow.col 1280 1024 (by omega) y1) (fun k => ?_) ?_ (Fin.ext ?_))
  · pointwise
    exact (blk2 m c t k _).trans (ProjRow.nat_xbc _ _ _)
  all_goals (try unfold ProjRow.col); blk_simp [idx t]

theorem final13 : (dats m 0 c).arrAt 13 (cfgs 0).N = kOf (A0 m c) (A1 m c) (A2 m c) 256 (by omega) := by
  refine (dats m 0 c).arrAt_eq_of_covers 13 _ (by decide +kernel) fun t _ y => ?_
  blk_simp
  rw [after0_13]; simp only [outsAt0]; frame_out
  idx_vars y
  refine (pay17_apply _ _ _ _ _).trans (point m c t _ _ _ (ProjRow.col 256 256 (by omega) y1) (fun k => ?_) ?_ (Fin.ext ?_))
  · pointwise
    exact (blk2 m c t k _).trans (ProjRow.nat_dk _ _ _)
  all_goals (try unfold ProjRow.col); blk_simp [idx t]

theorem final14 : (dats m 0 c).arrAt 14 (cfgs 0).N = kOf (A0 m c) (A1 m c) (A2 m c) 2568 (by omega) := by
  refine (dats m 0 c).arrAt_eq_of_covers 14 _ (by decide +kernel) fun t _ y => ?_
  blk_simp
  rw [after0_14]; simp only [outsAt0]; frame_out
  idx_vars y
  refine (pay18_apply _ _ _ _ _).trans (point m c t _ _ _ (ProjRow.col 2568 256 (by omega) y1) (fun k => ?_) ?_ (Fin.ext ?_))
  · pointwise
    exact (blk2 m c t k _).trans (ProjRow.nat_sk _ _ _)
  all_goals (try unfold ProjRow.col); blk_simp [idx t]

theorem final6 : (dats m 0 c).arrAt 6 (cfgs 0).N = dtOf (A0 m c) (A1 m c) (A2 m c) := by
  refine (dats m 0 c).arrAt_eq_of_covers 6 _ (by decide +kernel) fun t _ y => ?_
  blk_simp
  rw [after0_6]; simp only [outsAt0]; frame_out
  idx_vars y
  refine (pay6_apply _ _ _ _ _).trans ?_
  have hw : ∀ k, (View.ld (iblk m c 2 t) (Rect.unit ![0, 1536] ![1024, 128] inb_S1024x2944_S1024x128_0_1536) : S1024x128.Idx → EReal) (ix2 k y1)
      = ProjRow.natCol (wcol (A2 m c)) ⟨1536 + y1, by omega⟩ k := fun k => by
    pointwise
    exact blk2 m c t k _
  have hc : (((View.whole main_v16_2).slice (win0_6.rect t)).emb (ix2 y0 y1) 1).val = y1.val := by blk_simp [idx t]
  unfold dtOf
  by_cases h : y1.val < 8
  · rw [dif_pos (show _ < 8 by rw [hc]; exact h)]
    refine point m c t _ _ _ (ProjRow.col 2304 8 (by omega) ⟨y1, h⟩) (fun k => (hw k).trans ((ProjRow.nat_dt _ _ _).trans (dif_pos h))) ?_ (Fin.ext ?_)
    all_goals (try unfold ProjRow.col); blk_simp [idx t]
  · rw [dif_neg (show ¬ _ < 8 by rw [hc]; exact h)]
    exact (ProjRow.proj_congr (fun _ => rfl) (fun _ => rfl) fun k => (hw k).trans ((ProjRow.nat_dt _ _ _).trans (dif_neg h))).trans
      (ProjRow.proj_zero _ _)

theorem final7 : (dats m 0 c).arrAt 7 (cfgs 0).N
    = pastOf (A0 m c) (A1 m c) (A2 m c) 256 (by omega) (m ((c : Thread nD τ).loc main_arg3)) := by
  rw [← (V_past m c).1]
  unfold pastOf
  refine (dats m 0 c).arrAt_eq_of_coversWhere 7 _ (fun β => β 0 = 3) (by decide +kernel) (fun t _ y => ?_)
      (fun j => by blk_simp [Pipeline.Window.cell_apply]; omega)
  blk_simp
  rw [after0_7]; simp only [outsAt0]; frame_out
  idx_vars y
  obtain rfl : y0 = 0 := Subsingleton.elim _ _
  obtain rfl : y1 = 0 := Subsingleton.elim _ _
  refine (pay10_apply _ _ _ _ _).trans (point m c t _ _ _ (ProjRow.col 256 256 (by omega) y2) (fun k => ?_) ?_ (Fin.ext ?_))
  · pointwise
    exact (blk3 m c t k _).trans (ProjRow.t_dk _ _ _)
  · have := t_lt t
    unfold ProjRow.row; blk_simp [idx t]; dsimp only; omega
  · unfold ProjRow.col; blk_simp [idx t]

theorem final8 : (dats m 0 c).arrAt 8 (cfgs 0).N
    = pastOf (A0 m c) (A1 m c) (A2 m c) 512 (by omega) (m ((c : Thread nD τ).loc main_arg4)) := by
  rw [← (V_past m c).2.1]
  unfold pastOf
  refine (dats m 0 c).arrAt_eq_of_coversWhere 8 _ (fun β => β 0 = 3) (by decide +kernel) (fun t _ y => ?_)
      (fun j => by blk_simp [Pipeline.Window.cell_apply]; omega)
  blk_simp
  rw [after0_8]; simp only [outsAt0]; frame_out
  idx_vars y
  obtain rfl : y0 = 0 := Subsingleton.elim _ _
  obtain rfl : y1 = 0 := Subsingleton.elim _ _
  refine (pay11_apply _ _ _ _ _).trans (point m c t _ _ _ (ProjRow.col 512 256 (by omega) y2) (fun k => ?_) ?_ (Fin.ext ?_))
  · pointwise
    exact (blk3 m c t k _).trans (ProjRow.t_dv _ _ _)
  · have := t_lt t
    unfold ProjRow.row; blk_simp [idx t]; dsimp only; omega
  · unfold ProjRow.col; blk_simp [idx t]

theorem final9 : (dats m 0 c).arrAt 9 (cfgs 0).N
    = pastOf (A0 m c) (A1 m c) (A2 m c) 2568 (by omega) (m ((c : Thread nD τ).loc main_arg5)) := by
  rw [← (V_past m c).2.2.1]
  unfold pastOf
  refine (dats m 0 c).arrAt_eq_of_coversWhere 9 _ (fun β => β 0 = 3) (by decide +kernel) (fun t _ y => ?_)
      (fun j => by blk_simp [Pipeline.Window.cell_apply]; omega)
  blk_simp
  rw [after0_9]; simp only [outsAt0]; frame_out
  idx_vars y
  obtain rfl : y0 = 0 := Subsingleton.elim _ _
  obtain rfl : y1 = 0 := Subsingleton.elim _ _
  refine (pay12_apply _ _ _ _ _).trans (point m c t _ _ _ (ProjRow.col 2568 256 (by omega) y2) (fun k => ?_) ?_ (Fin.ext ?_))
  · pointwise
    exact (blk3 m c t k _).trans (ProjRow.t_sk _ _ _)
  · have := t_lt t
    unfold ProjRow.row; blk_simp [idx t]; dsimp only; omega
  · unfold ProjRow.col; blk_simp [idx t]

theorem final10 : (dats m 0 c).arrAt 10 (cfgs 0).N
    = pastOf (A0 m c) (A1 m c) (A2 m c) 2824 (by omega) (m ((c : Thread nD τ).loc main_arg6)) := by
  rw [← (V_past m c).2.2.2]
  unfold pastOf
  refine (dats m 0 c).arrAt_eq_of_coversWhere 10 _ (fun β => β 0 = 3) (by decide +kernel) (fun t _ y => ?_)
      (fun j => by blk_simp [Pipeline.Window.cell_apply]; omega)
  blk_simp
  rw [after0_10]; simp only [outsAt0]; frame_out
  idx_vars y
  obtain rfl : y0 = 0 := Subsingleton.elim _ _
  obtain rfl : y1 = 0 := Subsingleton.elim _ _
  refine (pay13_apply _ _ _ _ _).trans (point m c t _ _ _ (ProjRow.col 2824 256 (by omega) y2) (fun k => ?_) ?_ (Fin.ext ?_))
  · pointwise
    exact (blk3 m c t k _).trans (ProjRow.t_sv _ _ _)
  · have := t_lt t
    unfold ProjRow.row; blk_simp [idx t]; dsimp only; omega
  · unfold ProjRow.col; blk_simp [idx t]

theorem final11 : (dats m 0 c).arrAt 11 (cfgs 0).N = qOf (A0 m c) (A1 m c) (A2 m c) 0 (by omega) := by
  refine (dats m 0 c).arrAt_eq_of_covers 11 _ (by decide +kernel) fun t _ y => ?_
  blk_simp
  rw [after0_11]; simp only [outsAt0]; frame_out
  idx_vars y
  obtain rfl : y0 = 0 := Subsingleton.elim _ _
  refine (pay15_apply _ _ _ _ _).trans (point m c t _ _ _ (ProjRow.col 0 256 (by omega) y1) (fun k => ?_) ?_ (Fin.ext ?_))
  · pointwise
    exact (blk3 m c t k _).trans (ProjRow.t_dq _ _ _)
  · have := t_lt t
    unfold ProjRow.row; blk_simp [idx t]; dsimp only; omega
  · unfold ProjRow.col; blk_simp [idx t]

theorem final12 : (dats m 0 c).arrAt 12 (cfgs 0).N = qOf (A0 m c) (A1 m c) (A2 m c) 2312 (by omega) := by
  refine (dats m 0 c).arrAt_eq_of_covers 12 _ (by decide +kernel) fun t _ y => ?_
  blk_simp
  rw [after0_12]; simp only [outsAt0]; frame_out
  idx_vars y
  obtain rfl : y0 = 0 := Subsingleton.elim _ _
  refine (pay16_apply _ _ _ _ _).trans (point m c t _ _ _ (ProjRow.col 2312 256 (by omega) y1) (fun k => ?_) ?_ (Fin.ext ?_))
  · pointwise
    exact (blk3 m c t k _).trans (ProjRow.t_sq _ _ _)
  · have := t_lt t
    unfold ProjRow.row; blk_simp [idx t]; dsimp only; omega
  · unfold ProjRow.col; blk_simp [idx t]

theorem final15 : (dats m 0 c).arrAt 15 (cfgs 0).N = vOf (A0 m c) (A1 m c) (A2 m c) 512 (by omega) := by
  refine (dats m 0 c).arrAt_eq_of_covers 15 _ (by decide +kernel) fun t _ y => ?_
  blk_simp
  rw [after0_15]; simp only [outsAt0]; frame_out
  obtain_idx j : S256x512 := [(y 2 : ℕ), (y 1 : ℕ) * 256 + (y 3 : ℕ)] with hj
  refine Eq.trans (b := k0_pay8 (F := Ideal) (k0_pay3 (iblk m c 0 t) (iblk m c 1 t))
    (View.ld (iblk m c 3 t) (Rect.unit ![256, 0] ![256, 1024] inb_S1536x1024_S256x1024_256_0)) j) ?_ ?_
  · canon_tiles x h
    all_goals (open_payloads; pointwise; blk_ext)
  · idx_vars j
    refine (pay8_apply _ _ _ _ _).trans (point m c t _ _ _ (ProjRow.col 512 256 (by omega) j0) (fun k => ?_) ?_ (Fin.ext ?_))
    · pointwise
      exact (blk3 m c t k _).trans (ProjRow.t_dv _ _ _)
    · have := t_lt t
      have h1 : j1.val = (y 1 : ℕ) * 256 + (y 3 : ℕ) := hj1
      unfold ProjRow.row inBlock; blk_simp [idx t]; dsimp only; omega
    · have h0 : j0.val = (y 2 : ℕ) := hj0
      unfold ProjRow.col; blk_simp [idx t]; dsimp only; omega

theorem final16 : (dats m 0 c).arrAt 16 (cfgs 0).N = vOf (A0 m c) (A1 m c) (A2 m c) 2824 (by omega) := by
  refine (dats m 0 c).arrAt_eq_of_covers 16 _ (by decide +kernel) fun t _ y => ?_
  blk_simp
  rw [after0_16]; simp only [outsAt0]; frame_out
  obtain_idx j : S256x512 := [(y 2 : ℕ), (y 1 : ℕ) * 256 + (y 3 : ℕ)] with hj
  refine Eq.trans (b := k0_pay9 (F := Ideal) (k0_pay3 (iblk m c 0 t) (iblk m c 1 t))
    (View.ld (iblk m c 3 t) (Rect.unit ![768, 0] ![256, 1024] inb_S1536x1024_S256x1024_768_0)) j) ?_ ?_
  · canon_tiles x h
    all_goals (open_payloads; pointwise; blk_ext)
  · idx_vars j
    refine (pay8_apply _ _ _ _ _).trans (point m c t _ _ _ (ProjRow.col 2824 256 (by omega) j0) (fun k => ?_) ?_ (Fin.ext ?_))
    · pointwise
      exact (blk3 m c t k _).trans (ProjRow.t_sv _ _ _)
    · have := t_lt t
      have h1 : j1.val = (y 1 : ℕ) * 256 + (y 3 : ℕ) := hj1
      unfold ProjRow.row inBlock; blk_simp [idx t]; dsimp only; omega
    · have h0 : j0.val = (y 2 : ℕ) := hj0
      unfold ProjRow.col; blk_simp [idx t]; dsimp only; omega

end final

end Cert.Kernel4Ideal.Hand

namespace Cert.Reference4Ideal.Hand

open Cert.Reference4Ideal Cert.Reference4Ideal.Gen Cert.Reference4Ideal.Read
open Cert.Kernel4Ideal.Hand (prj zOf convOf dtOf pastOf qOf kOf vOf)

section
variable (x0 : Vec Ideal S16384x1024 .f32) (x1 : Vec Ideal S1024 .f32) (x2 : Vec Ideal S1024x3080 .f32) (p : Vec Ideal S4x4x256x4096 .f32)

/-- The whole product, at an index. -/
theorem all_apply (b : Fin 4) (s : Fin 4096) (n : Fin 3080) :
    val_main_v14 (F := Ideal) x0 x1 x2 (ix3 b s n) = prj x0 x1 x2 (ProjRow.row b s) n := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise [dot_S4x4096x1024_S1024x3080_S4x4096x3080_2_0_01_1_n_n]
  rfl

theorem row_split (i : Fin 16384) (h : i.val / 4096 < 4) (h' : i.val % 4096 < 4096) :
    ProjRow.row ⟨i.val / 4096, h⟩ ⟨i.val % 4096, h'⟩ = i :=
  Fin.ext (by unfold ProjRow.row; dsimp only; omega)

theorem past_if (o : ℕ) (ho : o + 256 ≤ 3080) (i0 i1 : Fin 4) (i2 : Fin 256) (i3 : Fin 4096) (h : o + i2.val < 3080) :
    (if _ : i0.val < 3 then p (ix4 i0 i1 i2 i3) else prj x0 x1 x2 (ProjRow.row i1 i3) ⟨o + i2.val, h⟩)
      = pastOf x0 x1 x2 o ho p (ix4 i0 i1 i2 i3) := by
  unfold pastOf
  by_cases h3 : i0.val < 3
  · rw [dif_pos h3]
    exact (if_neg (show ¬ i0.val = 3 by omega)).symm
  · rw [dif_neg h3]
    exact (if_pos (show i0.val = 3 by omega)).symm

theorem z_eq : val_main_v24 (F := Ideal) x0 x1 x2 = zOf x0 x1 x2 := by
  funext i; idx_vars i
  unfold val_main_v24 val_main_v18
  have hN := all_apply x0 x1 x2
  generalize val_main_v14 (F := Ideal) x0 x1 x2 = N at hN ⊢
  pointwise [hN]
  exact congrArg (prj x0 x1 x2 · _) (row_split i0 _ _)

theorem conv_eq : val_main_v25 (F := Ideal) x0 x1 x2 = convOf x0 x1 x2 := by
  funext i; idx_vars i
  unfold val_main_v25 val_main_v19
  have hN := all_apply x0 x1 x2
  generalize val_main_v14 (F := Ideal) x0 x1 x2 = N at hN ⊢
  pointwise [hN]
  exact congrArg (prj x0 x1 x2 · _) (row_split i0 _ _)

theorem k1_eq : val_main_v47 (F := Ideal) x0 x1 x2 = kOf x0 x1 x2 256 (by omega) := by
  funext i; idx_vars i
  unfold val_main_v47 val_main_v46 val_main_v16
  have hN := all_apply x0 x1 x2
  generalize val_main_v14 (F := Ideal) x0 x1 x2 = N at hN ⊢
  pointwise [hN]
  exact congrArg (prj x0 x1 x2 · _) (row_split i0 _ _)

theorem k2_eq : val_main_v49 (F := Ideal) x0 x1 x2 = kOf x0 x1 x2 2568 (by omega) := by
  funext i; idx_vars i
  unfold val_main_v49 val_main_v48 val_main_v22
  have hN := all_apply x0 x1 x2
  generalize val_main_v14 (F := Ideal) x0 x1 x2 = N at hN ⊢
  pointwise [hN]
  exact congrArg (prj x0 x1 x2 · _) (row_split i0 _ _)

theorem padded (y : Vec Ideal S16384x8 .f32) (z : Vec Ideal S_ .f32) (hz : z (Shape.Idx.first h_S_) = 0) (i0 : Fin 16384) (i1 : Fin 128) :
    pad S16384x128 ![0, 0] ![0, 120] ![0, 0] y z pads_S16384x8_S16384x128_000_01200 h_S_ (ix2 i0 i1)
      = if h : i1.val < 8 then y (ix2 i0 ⟨i1, h⟩) else 0 := by
  pointwise
  exact dite_congr rfl (fun _ => rfl) fun _ => hz

theorem dt_eq : val_main_v27 (F := Ideal) x0 x1 x2 = dtOf x0 x1 x2 := by
  funext i; idx_vars i
  unfold val_main_v27 val_main_call0_v0 val_main_c val_main_v26 val_main_v20
  have hN := all_apply x0 x1 x2
  generalize val_main_v14 (F := Ideal) x0 x1 x2 = N at hN ⊢
  refine (padded _ _ (Kernel4Ideal.Hand.const_apply _) i0 i1).trans (dite_congr rfl (fun h => ?_) fun _ => rfl)
  pointwise [hN]
  exact congrArg (prj x0 x1 x2 · _) (row_split i0 _ _)

theorem kv1_eq : val_main_v31 (F := Ideal) x0 x1 x2 p = pastOf x0 x1 x2 256 (by omega) p := by
  funext i; idx_vars i
  unfold val_main_v31 val_main_v30 val_main_v29 val_main_v28 val_main_v16
  have hN := all_apply x0 x1 x2
  generalize val_main_v14 (F := Ideal) x0 x1 x2 = N at hN ⊢
  pointwise [hN]
  exact past_if x0 x1 x2 p _ _ _ _ _ _ _

theorem kv2_eq : val_main_v35 (F := Ideal) x0 x1 x2 p = pastOf x0 x1 x2 512 (by omega) p := by
  funext i; idx_vars i
  unfold val_main_v35 val_main_v34 val_main_v33 val_main_v32 val_main_v17
  have hN := all_apply x0 x1 x2
  generalize val_main_v14 (F := Ideal) x0 x1 x2 = N at hN ⊢
  pointwise [hN]
  exact past_if x0 x1 x2 p _ _ _ _ _ _ _

theorem kv3_eq : val_main_v39 (F := Ideal) x0 x1 x2 p = pastOf x0 x1 x2 2568 (by omega) p := by
  funext i; idx_vars i
  unfold val_main_v39 val_main_v38 val_main_v37 val_main_v36 val_main_v22
  have hN := all_apply x0 x1 x2
  generalize val_main_v14 (F := Ideal) x0 x1 x2 = N at hN ⊢
  pointwise [hN]
  exact past_if x0 x1 x2 p _ _ _ _ _ _ _

theorem kv4_eq : val_main_v43 (F := Ideal) x0 x1 x2 p = pastOf x0 x1 x2 2824 (by omega) p := by
  funext i; idx_vars i
  unfold val_main_v43 val_main_v42 val_main_v41 val_main_v40 val_main_v23
  have hN := all_apply x0 x1 x2
  generalize val_main_v14 (F := Ideal) x0 x1 x2 = N at hN ⊢
  pointwise [hN]
  exact past_if x0 x1 x2 p _ _ _ _ _ _ _

theorem q1_eq : val_main_v44 (F := Ideal) x0 x1 x2 = qOf x0 x1 x2 0 (by omega) := by
  funext i; idx_vars i
  unfold val_main_v44 val_main_v15
  have hN := all_apply x0 x1 x2
  generalize val_main_v14 (F := Ideal) x0 x1 x2 = N at hN ⊢
  pointwise [hN]
  exact congrArg (prj x0 x1 x2 _) (Fin.ext (show i1.val = 0 + i1.val by omega))

theorem q2_eq : val_main_v45 (F := Ideal) x0 x1 x2 = qOf x0 x1 x2 2312 (by omega) := by
  funext i; idx_vars i
  unfold val_main_v45 val_main_v21
  have hN := all_apply x0 x1 x2
  generalize val_main_v14 (F := Ideal) x0 x1 x2 = N at hN ⊢
  pointwise [hN]
  rfl

theorem v1_eq : val_main_v52 (F := Ideal) x0 x1 x2 = vOf x0 x1 x2 512 (by omega) := by
  funext i; idx_vars i
  unfold val_main_v52 val_main_v51 val_main_v50 val_main_v17
  have hN := all_apply x0 x1 x2
  generalize val_main_v14 (F := Ideal) x0 x1 x2 = N at hN ⊢
  pointwise [hN]
  rfl

theorem v2_eq : val_main_v55 (F := Ideal) x0 x1 x2 = vOf x0 x1 x2 2824 (by omega) := by
  funext i; idx_vars i
  unfold val_main_v55 val_main_v54 val_main_v53 val_main_v23
  have hN := all_apply x0 x1 x2
  generalize val_main_v14 (F := Ideal) x0 x1 x2 = N at hN ⊢
  pointwise [hN]
  rfl

theorem frame_r4 : Cert.quiescent_Reference4Ideal := fun m ρ _ =>
  (θ_run Cert.Reference4Ideal.defs _ _).mono
    (fun r h => ⟨fun c => (h c).2.2.2.2.2.2.2.2.2.2.2.2.2, sem_eq_zero_of_no_sems (by decide) r.2⟩)
    (Cert.Reference4Ideal.Value.run (F := Ideal) m ρ)

end
end Cert.Reference4Ideal.Hand

namespace Cert.Proof

open Cert.Kernel4Ideal.Hand

theorem algebraic4 : Cert.algebraic_Kernel4Ideal_Reference4Ideal := by
  intro m g m' g' _ hargs
  refine ⟨fun c => zOf (A0 m c) (A1 m c) (A2 m c),
    fun c => convOf (A0 m c) (A1 m c) (A2 m c),
    fun c => dtOf (A0 m c) (A1 m c) (A2 m c),
    fun c => pastOf (A0 m c) (A1 m c) (A2 m c) 256 (by omega) (m ((c : Thread Kernel4Ideal.nD Kernel4Ideal.τ).loc Kernel4Ideal.main_arg3)),
    fun c => pastOf (A0 m c) (A1 m c) (A2 m c) 512 (by omega) (m ((c : Thread Kernel4Ideal.nD Kernel4Ideal.τ).loc Kernel4Ideal.main_arg4)),
    fun c => pastOf (A0 m c) (A1 m c) (A2 m c) 2568 (by omega) (m ((c : Thread Kernel4Ideal.nD Kernel4Ideal.τ).loc Kernel4Ideal.main_arg5)),
    fun c => pastOf (A0 m c) (A1 m c) (A2 m c) 2824 (by omega) (m ((c : Thread Kernel4Ideal.nD Kernel4Ideal.τ).loc Kernel4Ideal.main_arg6)),
    fun c => qOf (A0 m c) (A1 m c) (A2 m c) 0 (by omega),
    fun c => qOf (A0 m c) (A1 m c) (A2 m c) 2312 (by omega),
    fun c => kOf (A0 m c) (A1 m c) (A2 m c) 256 (by omega),
    fun c => kOf (A0 m c) (A1 m c) (A2 m c) 2568 (by omega),
    fun c => vOf (A0 m c) (A1 m c) (A2 m c) 512 (by omega),
    fun c => vOf (A0 m c) (A1 m c) (A2 m c) 2824 (by omega), ?_, ?_⟩
  · refine (θ_run _ _ _).mono (fun r h c => ?_) (Kernel4Ideal.Value.run_blocks m g)
    obtain ⟨h4, h5, h6, h7, h8, h9, h10, h11, h12, h13, h14, h15, h16, hr⟩ := h c
    exact ⟨h4.trans (final4 m c), h5.trans (final5 m c), h6.trans (final6 m c), h7.trans (final7 m c), h8.trans (final8 m c), h9.trans (final9 m c), h10.trans (final10 m c), h11.trans (final11 m c), h12.trans (final12 m c), h13.trans (final13 m c), h14.trans (final14 m c), h15.trans (final15 m c), h16.trans (final16 m c), hr⟩
  · refine (θ_run _ _ _).mono (fun r h c => ?_) (Reference4Ideal.Value.run m' g')
    obtain ⟨h4, h5, h6, h7, h8, h9, h10, h11, h12, h13, h14, h15, h16, hr⟩ := h c
    obtain ⟨e0, e1, e2, e3, e4, e5, e6⟩ := hargs c
    refine ⟨h4.trans ?_, h5.trans ?_, h6.trans ?_, h7.trans ?_, h8.trans ?_, h9.trans ?_, h10.trans ?_, h11.trans ?_, h12.trans ?_, h13.trans ?_, h14.trans ?_, h15.trans ?_, h16.trans ?_, hr⟩
    · exact ((Reference4Ideal.Read.val_main_v24_eq _ _ _).trans (Reference4Ideal.Hand.z_eq _ _ _)).trans (by rw [e0, e1, e2])
    · exact ((Reference4Ideal.Read.val_main_v25_eq _ _ _).trans (Reference4Ideal.Hand.conv_eq _ _ _)).trans (by rw [e0, e1, e2])
    · exact ((Reference4Ideal.Read.val_main_v27_eq _ _ _).trans (Reference4Ideal.Hand.dt_eq _ _ _)).trans (by rw [e0, e1, e2])
    · exact ((Reference4Ideal.Read.val_main_v31_eq _ _ _ _).trans (Reference4Ideal.Hand.kv1_eq _ _ _ _)).trans (by rw [e0, e1, e2, e3])
    · exact ((Reference4Ideal.Read.val_main_v35_eq _ _ _ _).trans (Reference4Ideal.Hand.kv2_eq _ _ _ _)).trans (by rw [e0, e1, e2, e4])
    · exact ((Reference4Ideal.Read.val_main_v39_eq _ _ _ _).trans (Reference4Ideal.Hand.kv3_eq _ _ _ _)).trans (by rw [e0, e1, e2, e5])
    · exact ((Reference4Ideal.Read.val_main_v43_eq _ _ _ _).trans (Reference4Ideal.Hand.kv4_eq _ _ _ _)).trans (by rw [e0, e1, e2, e6])
    · exact ((Reference4Ideal.Read.val_main_v44_eq _ _ _).trans (Reference4Ideal.Hand.q1_eq _ _ _)).trans (by rw [e0, e1, e2])
    · exact ((Reference4Ideal.Read.val_main_v45_eq _ _ _).trans (Reference4Ideal.Hand.q2_eq _ _ _)).trans (by rw [e0, e1, e2])
    · exact ((Reference4Ideal.Read.val_main_v47_eq _ _ _).trans (Reference4Ideal.Hand.k1_eq _ _ _)).trans (by rw [e0, e1, e2])
    · exact ((Reference4Ideal.Read.val_main_v49_eq _ _ _).trans (Reference4Ideal.Hand.k2_eq _ _ _)).trans (by rw [e0, e1, e2])
    · exact ((Reference4Ideal.Read.val_main_v52_eq _ _ _).trans (Reference4Ideal.Hand.v1_eq _ _ _)).trans (by rw [e0, e1, e2])
    · exact ((Reference4Ideal.Read.val_main_v55_eq _ _ _).trans (Reference4Ideal.Hand.v2_eq _ _ _)).trans (by rw [e0, e1, e2])

end Cert.Proof
end
-- ==== Proof.Proj5.lean ====
/-
  THE INPUT PROJECTION (samples): the 128 new rows, one per sample, normalized and multiplied by the 3080 weight columns, and the
  product dealt out to eleven arrays: three by rows, the four stacked key and value arrays (transposed, as layer 3 of 4, the
  layers before it kept), and the queries, keys and values by rows. The kernel is a grid of one point over the rearranged weights
  of `ProjRow`; the reference makes the whole product and slices it.
-/
module

public import proofs.«01_k».proof.Defs
public import proofs.«01_k».proof.Proof.Gen.Kernel5Ideal.Value
public import proofs.«01_k».proof.Proof.Gen.Reference5Ideal.Read
public import proofs.«01_k».proof.Proof.ProjRow
public import Idealize.ShloMosaic.Lib.Pointwise
public import Idealize.ShloMosaic.Lib.ValueIdx
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen

variable (m : (ℓ : Loc nD τ sig) → Buf (Elt Ideal) ℓ)

theorem u_apply (x0 : Vec Ideal S128x1024 .f32) (x1 : Vec Ideal S1x1024 .f32) (r : Fin 128) (k : Fin 1024) :
    k0_pay4 x0 x1 (ix2 r k) = FfnRow.nrm (fun k => x0 (ix2 r k)) (fun k => x1 (ix2 0 k)) k := by
  unfold k0_pay4
  pointwise
  rfl

/-- The 1024 weights of every laid-out column. -/
abbrev wcol (w : S1024x3080.Idx → EReal) : Fin 1024 → Fin 3080 → EReal := fun k n => w (ix2 k n)

theorem V_past (c : Dev nD) : V m c main_v16_3 = (m ((c : Thread nD τ).loc main_arg3) : S4x1x256x128.Idx → EReal)
    ∧ V m c main_v16_4 = (m ((c : Thread nD τ).loc main_arg4) : S4x1x256x128.Idx → EReal)
    ∧ V m c main_v16_5 = (m ((c : Thread nD τ).loc main_arg5) : S4x1x256x128.Idx → EReal)
    ∧ V m c main_v16_6 = (m ((c : Thread nD τ).loc main_arg6) : S4x1x256x128.Idx → EReal) := by
  simp only [V, hostOps0, hostOps0_1, hostOps0_2, List.flatten_cons, List.flatten_nil, List.append_nil, List.cons_append, List.nil_append]
  refine ⟨?_, ?_, ?_, ?_⟩ <;> after_results_simp <;> rfl

theorem V_v15 (c : Dev nD) : V m c main_v15 = (shapeCast S1x1024 (m ((c : Thread nD τ).loc main_arg1)) shapeCasts_S1024_S1x1024 : S1x1024.Idx → EReal) := by
  simp only [V, hostOps0, hostOps0_1, hostOps0_2, List.flatten_cons, List.flatten_nil, List.append_nil, List.cons_append, List.nil_append]
  after_results_simp <;> rfl

/-- Eight columns padded with zeros to 128. -/
theorem pad_apply (x : Vec Ideal S1024x8 .f32) (z : Vec Ideal S_ .f32) (hz : z (Shape.Idx.first h_S_) = 0) (k : Fin 1024) (j : Fin 128) :
    pad S1024x128 ![0, 0] ![0, 120] ![0, 0] x z pads_S1024x8_S1024x128_000_01200 h_S_ (ix2 k j)
      = if h : j.val < 8 then x (ix2 k ⟨j, h⟩) else 0 := by
  pointwise
  exact dite_congr rfl (fun _ => rfl) fun _ => hz

/-- The integer constant 0 read as a number. -/
theorem const_apply (i : S_.Idx) : sitofp (F := Ideal) .f32 (constantI S_ 32 0#32) i = 0 := by
  show ((((0#32 : BitVec 32).toInt : ℤ) : ℝ) : EReal) = 0
  simp

/-- The first laid-out weight matrix, column by column. -/
theorem wn_read (c : Dev nD) (k : Fin 1024) (n : Fin 2944) :
    V m c main_v11 (ix2 k n) = ProjRow.natCol (wcol (m ((c : Thread nD τ).loc main_arg2))) n k := by
  simp only [V, hostOps0, hostOps0_1, hostOps0_2, List.flatten_cons, List.flatten_nil, List.append_nil, List.cons_append, List.nil_append]
  after_results_simp
  pointwise
  after_results_simp
  generalize (m (c, Proc.tc.devRef main_arg2) : S1024x3080.Idx → EReal) = w
  unfold ProjRow.natCol wcol
  refine dite_congr rfl (fun _ => by pointwise) fun _ => ?_
  refine dite_congr rfl (fun _ => by pointwise) fun _ => ?_
  refine dite_congr rfl (fun h => ?_) fun _ => ?_
  · refine (show _ = _ from pad_apply (extractStridedSlice S1024x8 ![0, 2304] w slices_S1024x3080_S1024x8_0_2304)
      (sitofp (F := Ideal) .f32 (constantI S_ 32 0#32)) (const_apply _) k ⟨n.val - 512 - 1024, h⟩).trans ?_
    pointwise
  refine dite_congr rfl (fun _ => by pointwise) fun _ => ?_
  refine dite_congr rfl (fun _ => by pointwise) fun _ => ?_
  refine dite_congr rfl (fun _ => by pointwise) fun _ => ?_
  refine dite_congr rfl (fun _ => by pointwise) fun _ => by pointwise

/-- The second laid-out weight matrix, row by row. -/
theorem wt_read (c : Dev nD) (k : Fin 1024) (n : Fin 1536) :
    V m c main_v14 (ix2 n k) = ProjRow.tCol (wcol (m ((c : Thread nD τ).loc main_arg2))) n k := by
  simp only [V, hostOps0, hostOps0_1, hostOps0_2, List.flatten_cons, List.flatten_nil, List.append_nil, List.cons_append, List.nil_append]
  after_results_simp
  pointwise
  after_results_simp
  generalize (m (c, Proc.tc.devRef main_arg2) : S1024x3080.Idx → EReal) = w
  unfold ProjRow.tCol wcol
  refine dite_congr rfl (fun _ => by pointwise) fun _ => ?_
  refine dite_congr rfl (fun _ => by pointwise) fun _ => ?_
  refine dite_congr rfl (fun _ => by pointwise) fun _ => ?_
  refine dite_congr rfl (fun _ => by pointwise) fun _ => ?_
  refine dite_congr rfl (fun _ => by pointwise) fun _ => by pointwise

/-! ### What the body stores, at an index, of any blocks -/

section pay
variable (x0 : Vec Ideal S128x1024 .f32) (x1 : Vec Ideal S1x1024 .f32) (r : Fin 128)

/-- Row `r` of the block, its gain, and a column of weights. -/
abbrev rowOf (w : Fin 1024 → EReal) : EReal := ProjRow.proj (fun k => x0 (ix2 r k)) (fun k => x1 (ix2 0 k)) w

theorem nat_sum (w : Fin 1024 → EReal) : ∑ k, k0_pay4 x0 x1 (ix2 r k) * w k = rowOf x0 x1 r w := by
  simp only [u_apply]; rfl

theorem t_sum (w : Fin 1024 → EReal) : ∑ k, w k * k0_pay4 x0 x1 (ix2 r k) = rowOf x0 x1 r w := by
  simp only [u_apply]; exact ProjRow.proj_comm _ _ _

theorem pay5_apply (w : Vec Ideal S1024x512 .bf16) (j : Fin 512) :
    k0_pay5 x0 x1 w (ix2 r j) = rowOf x0 x1 r fun k => w (ix2 k j) := by
  rw [← nat_sum]; unfold k0_pay5
  generalize k0_pay4 x0 x1 = u
  pointwise [dot_S128x1024_S1024x512_S128x512_1_0_0_1_n_n]

theorem pay6_apply (w : Vec Ideal S1024x1024 .bf16) (j : Fin 1024) :
    k0_pay6 x0 x1 w (ix2 r j) = rowOf x0 x1 r fun k => w (ix2 k j) := by
  rw [← nat_sum]; unfold k0_pay6
  generalize k0_pay4 x0 x1 = u
  pointwise [dot_S128x1024_S1024x1024_S128x1024_1_0_0_1_n_n]

theorem pay7_apply (w : Vec Ideal S1024x128 .bf16) (j : Fin 128) :
    k0_pay7 x0 x1 w (ix2 r j) = rowOf x0 x1 r fun k => w (ix2 k j) := by
  rw [← nat_sum]; unfold k0_pay7
  generalize k0_pay4 x0 x1 = u
  pointwise [dot_S128x1024_S1024x128_S128x128_1_0_0_1_n_n]

theorem pay13_apply (w : Vec Ideal S1024x256 .bf16) (j : Fin 256) :
    k0_pay13 (k0_pay4 x0 x1) w (ix2 r j) = rowOf x0 x1 r fun k => w (ix2 k j) := by
  rw [← nat_sum]; unfold k0_pay13
  generalize k0_pay4 x0 x1 = u
  pointwise [dot_S128x1024_S1024x256_S128x256_1_0_0_1_n_n]

theorem pay8_apply (w : Vec Ideal S256x1024 .bf16) (a : Fin 256) :
    k0_pay8 x0 x1 w (ix2 a r) = rowOf x0 x1 r fun k => w (ix2 a k) := by
  rw [← t_sum]; unfold k0_pay8
  generalize k0_pay4 x0 x1 = u
  pointwise [dot_S256x1024_S128x1024_S256x128_1_1_0_0_n_n]

theorem pay9_apply (w : Vec Ideal S256x1024 .bf16) (a : Fin 256) :
    k0_pay9 (k0_pay8 x0 x1 w) (ix4 0 0 a r) = rowOf x0 x1 r fun k => w (ix2 a k) := by
  rw [← pay8_apply]; unfold k0_pay9
  generalize k0_pay8 x0 x1 w = v
  pointwise

end pay

/-! ### The blocks: the one point's -/

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![3, 0, 0, 0] ∧ win0_8.index t = ![3, 0, 0, 0] ∧ win0_9.index t = ![3, 0, 0, 0] ∧ win0_10.index t = ![3, 0, 0, 0]
    ∧ win0_11.index t = ![0, 0] ∧ win0_12.index t = ![0, 0] ∧ win0_13.index t = ![0, 0] ∧ win0_14.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![3, 0, 0, 0] ∧ win0_8.index t = ![3, 0, 0, 0] ∧ win0_9.index t = ![3, 0, 0, 0] ∧ win0_10.index t = ![3, 0, 0, 0]
    ∧ win0_11.index t = ![0, 0] ∧ win0_12.index t = ![0, 0] ∧ win0_13.index t = ![0, 0] ∧ win0_14.index t = ![0, 0])

theorem blk0 (c : Dev nD) (t : Fin cfg0.N) (r R : Fin 128) (k : Fin 1024) (hR : R.val = r.val) :
    (iblk m c 0 t : S128x1024.Idx → EReal) (ix2 r k) = m ((c : Thread nD τ).loc main_arg0) (ix2 R k) := by
  rw [← V_main_arg0 m c]
  blk_ext [iblk, idx t]

theorem blk1 (c : Dev nD) (t : Fin cfg0.N) (k : Fin 1024) :
    (iblk m c 1 t : S1x1024.Idx → EReal) (ix2 0 k) = m ((c : Thread nD τ).loc main_arg1) (ix1 k) := by
  have e : (iblk m c 1 t : S1x1024.Idx → EReal) (ix2 0 k) = V m c main_v15 (ix2 0 k) := by blk_ext [iblk, idx t]
  exact e.trans ((congrFun (V_v15 m c) _).trans (by pointwise))

theorem blk2 (c : Dev nD) (t : Fin cfg0.N) (k : Fin 1024) (n : Fin 2944) :
    (iblk m c 2 t : S1024x2944.Idx → EReal) (ix2 k n) = ProjRow.natCol (wcol (m ((c : Thread nD τ).loc main_arg2))) n k := by
  rw [← wn_read m c]
  blk_ext [iblk, idx t]

theorem blk3 (c : Dev nD) (t : Fin cfg0.N) (k : Fin 1024) (n : Fin 1536) :
    (iblk m c 3 t : S1536x1024.Idx → EReal) (ix2 n k) = ProjRow.tCol (wcol (m ((c : Thread nD τ).loc main_arg2))) n k := by
  rw [← wt_read m c]
  blk_ext [iblk, idx t]

/-- Row `R` of the projection, column `n`, of three argument arrays. -/
abbrev prj (x : S128x1024.Idx → EReal) (g : S1024.Idx → EReal) (w : S1024x3080.Idx → EReal) (R : Fin 128) (n : Fin 3080) : EReal :=
  ProjRow.proj (fun k => x (ix2 R k)) (fun k => g (ix1 k)) (fun k => wcol w k n)

/-- … of the kernel's arguments. -/
abbrev P (c : Dev nD) : Fin 128 → Fin 3080 → EReal :=
  prj (m ((c : Thread nD τ).loc main_arg0)) (m ((c : Thread nD τ).loc main_arg1)) (m ((c : Thread nD τ).loc main_arg2))

/-- A row of the block times a column is the array's row times that column. -/
theorem point (c : Dev nD) (t : Fin cfg0.N) (r : Fin 128) {w : Fin 1024 → EReal} (R : Fin 128) (n n' : Fin 3080)
    (hw : ∀ k, w k = wcol (m ((c : Thread nD τ).loc main_arg2)) k n') (hR : R.val = r.val) (hn : n' = n) :
    rowOf (iblk m c 0 t) (iblk m c 1 t) r w = P m c R n := by
  subst hn
  exact ProjRow.proj_congr (fun k => blk0 m c t r R k hR) (fun k => blk1 m c t k) hw

/-! ### The eleven results, of three argument arrays and the layers before -/

section results
variable (x : S128x1024.Idx → EReal) (g : S1024.Idx → EReal) (w : S1024x3080.Idx → EReal)

abbrev zOf : S128x512.Idx → EReal := fun i => prj x g w (i 0) (ProjRow.col 768 512 (by omega) (i 1))
abbrev convOf : S128x1024.Idx → EReal := fun i => prj x g w (i 0) (ProjRow.col 1280 1024 (by omega) (i 1))
/-- The eight step sizes, then zeros. -/
def dtOf : S128x128.Idx → EReal := fun i =>
  if h : (i 1).val < 8 then prj x g w (i 0) (ProjRow.col 2304 8 (by omega) ⟨(i 1).val, h⟩) else 0
/-- Columns `o … o + 255` transposed, stacked as layer 3 on the layers `p` before it. -/
def pastOf (o : ℕ) (ho : o + 256 ≤ 3080) (p : S4x1x256x128.Idx → EReal) : S4x1x256x128.Idx → EReal := fun i =>
  if (i 0).val = 3 then prj x g w (i 3) (ProjRow.col o 256 ho (i 2)) else p i
abbrev kOf (o : ℕ) (ho : o + 256 ≤ 3080) : S128x256.Idx → EReal := fun i => prj x g w (i 0) (ProjRow.col o 256 ho (i 1))

end results

section final
variable (c : Dev nD)

/-- The three arguments that are projected. -/
abbrev A0 : S128x1024.Idx → EReal := m ((c : Thread nD τ).loc main_arg0)
abbrev A1 : S1024.Idx → EReal := m ((c : Thread nD τ).loc main_arg1)
abbrev A2 : S1024x3080.Idx → EReal := m ((c : Thread nD τ).loc main_arg2)

theorem final4 : (dats m 0 c).arrAt 4 (cfgs 0).N = zOf (A0 m c) (A1 m c) (A2 m c) := by
  refine (dats m 0 c).arrAt_eq_of_covers 4 _ (by decide +kernel) fun t _ y => ?_
  blk_simp
  rw [after0_4]; simp only [outsAt0]; frame_out
  idx_vars y
  refine (pay5_apply _ _ _ _ _).trans (point m c t _ _ _ (ProjRow.col 768 512 (by omega) y1) (fun k => ?_) ?_ (Fin.ext ?_))
  · pointwise
    exact (blk2 m c t k _).trans (ProjRow.nat_z _ _ _)
  all_goals (try unfold ProjRow.col); blk_simp [idx t]

theorem final5 : (dats m 0 c).arrAt 5 (cfgs 0).N = convOf (A0 m c) (A1 m c) (A2 m c) := by
  refine (dats m 0 c).arrAt_eq_of_covers 5 _ (by decide +kernel) fun t _ y => ?_
  blk_simp
  rw [after0_5]; simp only [outsAt0]; frame_out
  idx_vars y
  refine (pay6_apply _ _ _ _ _).trans (point m c t _ _ _ (ProjRow.col 1280 1024 (by omega) y1) (fun k => ?_) ?_ (Fin.ext ?_))
  · pointwise
    exact (blk2 m c t k _).trans (ProjRow.nat_xbc _ _ _)
  all_goals (try unfold ProjRow.col); blk_simp [idx t]

theorem final11 : (dats m 0 c).arrAt 11 (cfgs 0).N = kOf (A0 m c) (A1 m c) (A2 m c) 0 (by omega) := by
  refine (dats m 0 c).arrAt_eq_of_covers 11 _ (by decide +kernel) fun t _ y => ?_
  blk_simp
  rw [after0_11]; simp only [outsAt0]; frame_out
  idx_vars y
  refine (pay13_apply _ _ _ _ _).trans (point m c t _ _ _ (ProjRow.col 0 256 (by omega) y1) (fun k => ?_) ?_ (Fin.ext ?_))
  · pointwise
    exact (blk2 m c t k _).trans (ProjRow.nat_dq _ _ _)
  all_goals (try unfold ProjRow.col); blk_simp [idx t]

theorem final12 : (dats m 0 c).arrAt 12 (cfgs 0).N = kOf (A0 m c) (A1 m c) (A2 m c) 2312 (by omega) := by
  refine (dats m 0 c).arrAt_eq_of_covers 12 _ (by decide +kernel) fun t _ y => ?_
  blk_simp
  rw [after0_12]; simp only [outsAt0]; frame_out
  idx_vars y
  refine (pay13_apply _ _ _ _ _).trans (point m c t _ _ _ (ProjRow.col 2312 256 (by omega) y1) (fun k => ?_) ?_ (Fin.ext ?_))
  · pointwise
    exact (blk2 m c t k _).trans (ProjRow.nat_sq _ _ _)
  all_goals (try unfold ProjRow.col); blk_simp [idx t]

theorem final13 : (dats m 0 c).arrAt 13 (cfgs 0).N = kOf (A0 m c) (A1 m c) (A2 m c) 256 (by omega) := by
  refine (dats m 0 c).arrAt_eq_of_covers 13 _ (by decide +kernel) fun t _ y => ?_
  blk_simp
  rw [after0_13]; simp only [outsAt0]; frame_out
  idx_vars y
  refine (pay13_apply _ _ _ _ _).trans (point m c t _ _ _ (ProjRow.col 256 256 (by omega) y1) (fun k => ?_) ?_ (Fin.ext ?_))
  · pointwise
    exact (blk2 m c t k _).trans (ProjRow.nat_dk _ _ _)
  all_goals (try unfold ProjRow.col); blk_simp [idx t]

theorem final14 : (dats m 0 c).arrAt 14 (cfgs 0).N = kOf (A0 m c) (A1 m c) (A2 m c) 512 (by omega) := by
  refine (dats m 0 c).arrAt_eq_of_covers 14 _ (by decide +kernel) fun t _ y => ?_
  blk_simp
  rw [after0_14]; simp only [outsAt0]; frame_out
  idx_vars y
  refine (pay13_apply _ _ _ _ _).trans (point m c t _ _ _ (ProjRow.col 512 256 (by omega) y1) (fun k => ?_) ?_ (Fin.ext ?_))
  · pointwise
    exact (blk2 m c t k _).trans (ProjRow.nat_dv _ _ _)
  all_goals (try unfold ProjRow.col); blk_simp [idx t]

theorem final6 : (dats m 0 c).arrAt 6 (cfgs 0).N = dtOf (A0 m c) (A1 m c) (A2 m c) := by
  refine (dats m 0 c).arrAt_eq_of_covers 6 _ (by decide +kernel) fun t _ y => ?_
  blk_simp
  rw [after0_6]; simp only [outsAt0]; frame_out
  idx_vars y
  refine (pay7_apply _ _ _ _ _).trans ?_
  have hw : ∀ k, (View.ld (iblk m c 2 t) (Rect.unit ![0, 1536] ![1024, 128] inb_S1024x2944_S1024x128_0_1536) : S1024x128.Idx → EReal) (ix2 k y1)
      = ProjRow.natCol (wcol (A2 m c)) ⟨1536 + y1, by omega⟩ k := fun k => by
    pointwise
    exact blk2 m c t k _
  have hc : (((View.whole main_v16_2).slice (win0_6.rect t)).emb (ix2 y0 y1) 1).val = y1.val := by blk_simp [idx t]
  unfold dtOf
  by_cases h : y1.val < 8
  · rw [dif_pos (show _ < 8 by rw [hc]; exact h)]
    refine point m c t _ _ _ (ProjRow.col 2304 8 (by omega) ⟨y1, h⟩) (fun k => (hw k).trans ((ProjRow.nat_dt _ _ _).trans (dif_pos h))) ?_ (Fin.ext ?_)
    all_goals (try unfold ProjRow.col); blk_simp [idx t]
  · rw [dif_neg (show ¬ _ < 8 by rw [hc]; exact h)]
    exact (ProjRow.proj_congr (fun _ => rfl) (fun _ => rfl) fun k => (hw k).trans ((ProjRow.nat_dt _ _ _).trans (dif_neg h))).trans
      (ProjRow.proj_zero _ _)

theorem final7 : (dats m 0 c).arrAt 7 (cfgs 0).N
    = pastOf (A0 m c) (A1 m c) (A2 m c) 256 (by omega) (m ((c : Thread nD τ).loc main_arg3)) := by
  rw [← (V_past m c).1]
  unfold pastOf
  refine (dats m 0 c).arrAt_eq_of_coversWhere 7 _ (fun β => β 0 = 3) (by decide +kernel) (fun t _ y => ?_)
      (fun j => by blk_simp [Pipeline.Window.cell_apply]; omega)
  blk_simp
  rw [after0_7]; simp only [outsAt0]; frame_out
  idx_vars y
  obtain rfl : y0 = 0 := Subsingleton.elim _ _
  obtain rfl : y1 = 0 := Subsingleton.elim _ _
  refine (pay9_apply _ _ _ _ _).trans (point m c t _ _ _ (ProjRow.col 256 256 (by omega) y2) (fun k => ?_) ?_ (Fin.ext ?_))
  · pointwise
    exact (blk3 m c t k _).trans (ProjRow.t_dk _ _ _)
  all_goals (try unfold ProjRow.col); blk_simp [idx t]

theorem final8 : (dats m 0 c).arrAt 8 (cfgs 0).N
    = pastOf (A0 m c) (A1 m c) (A2 m c) 512 (by omega) (m ((c : Thread nD τ).loc main_arg4)) := by
  rw [← (V_past m c).2.1]
  unfold pastOf
  refine (dats m 0 c).arrAt_eq_of_coversWhere 8 _ (fun β => β 0 = 3) (by decide +kernel) (fun t _ y => ?_)
      (fun j => by blk_simp [Pipeline.Window.cell_apply]; omega)
  blk_simp
  rw [after0_8]; simp only [outsAt0]; frame_out
  idx_vars y
  obtain rfl : y0 = 0 := Subsingleton.elim _ _
  obtain rfl : y1 = 0 := Subsingleton.elim _ _
  refine (pay9_apply _ _ _ _ _).trans (point m c t _ _ _ (ProjRow.col 512 256 (by omega) y2) (fun k => ?_) ?_ (Fin.ext ?_))
  · pointwise
    exact (blk3 m c t k _).trans (ProjRow.t_dv _ _ _)
  all_goals (try unfold ProjRow.col); blk_simp [idx t]

theorem final9 : (dats m 0 c).arrAt 9 (cfgs 0).N
    = pastOf (A0 m c) (A1 m c) (A2 m c) 2568 (by omega) (m ((c : Thread nD τ).loc main_arg5)) := by
  rw [← (V_past m c).2.2.1]
  unfold pastOf
  refine (dats m 0 c).arrAt_eq_of_coversWhere 9 _ (fun β => β 0 = 3) (by decide +kernel) (fun t _ y => ?_)
      (fun j => by blk_simp [Pipeline.Window.cell_apply]; omega)
  blk_simp
  rw [after0_9]; simp only [outsAt0]; frame_out
  idx_vars y
  obtain rfl : y0 = 0 := Subsingleton.elim _ _
  obtain rfl : y1 = 0 := Subsingleton.elim _ _
  refine (pay9_apply _ _ _ _ _).trans (point m c t _ _ _ (ProjRow.col 2568 256 (by omega) y2) (fun k => ?_) ?_ (Fin.ext ?_))
  · pointwise
    exact (blk3 m c t k _).trans (ProjRow.t_sk _ _ _)
  all_goals (try unfold ProjRow.col); blk_simp [idx t]

theorem final10 : (dats m 0 c).arrAt 10 (cfgs 0).N
    = pastOf (A0 m c) (A1 m c) (A2 m c) 2824 (by omega) (m ((c : Thread nD τ).loc main_arg6)) := by
  rw [← (V_past m c).2.2.2]
  unfold pastOf
  refine (dats m 0 c).arrAt_eq_of_coversWhere 10 _ (fun β => β 0 = 3) (by decide +kernel) (fun t _ y => ?_)
      (fun j => by blk_simp [Pipeline.Window.cell_apply]; omega)
  blk_simp
  rw [after0_10]; simp only [outsAt0]; frame_out
  idx_vars y
  obtain rfl : y0 = 0 := Subsingleton.elim _ _
  obtain rfl : y1 = 0 := Subsingleton.elim _ _
  refine (pay9_apply _ _ _ _ _).trans (point m c t _ _ _ (ProjRow.col 2824 256 (by omega) y2) (fun k => ?_) ?_ (Fin.ext ?_))
  · pointwise
    exact (blk3 m c t k _).trans (ProjRow.t_sv _ _ _)
  all_goals (try unfold ProjRow.col); blk_simp [idx t]

end final

end Cert.Kernel5Ideal.Hand

namespace Cert.Reference5Ideal.Hand

open Cert.Reference5Ideal Cert.Reference5Ideal.Gen Cert.Reference5Ideal.Read
open Cert.Kernel5Ideal.Hand (prj zOf convOf dtOf pastOf  kOf)

section
variable (x0 : Vec Ideal S128x1024 .f32) (x1 : Vec Ideal S1024 .f32) (x2 : Vec Ideal S1024x3080 .f32) (p : Vec Ideal S4x1x256x128 .f32)

/-- The whole product, at an index. -/
theorem all_apply (b : Fin 128) (n : Fin 3080) : val_main_v13 (F := Ideal) x0 x1 x2 (ix2 b n) = prj x0 x1 x2 b n := by
  unfold val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise [dot_S128x1024_S1024x3080_S128x3080_1_0_0_1_n_n]
  rfl

theorem past_if (o : ℕ) (ho : o + 256 ≤ 3080) (i0 : Fin 4) (i1 : Fin 1) (i2 : Fin 256) (i3 : Fin 128) (h : o + i2.val < 3080) :
    (if _ : i0.val < 3 then p (ix4 i0 i1 i2 i3) else prj x0 x1 x2 i3 ⟨o + i2.val, h⟩)
      = pastOf x0 x1 x2 o ho p (ix4 i0 i1 i2 i3) := by
  unfold pastOf
  by_cases h3 : i0.val < 3
  · rw [dif_pos h3]
    exact (if_neg (show ¬ i0.val = 3 by omega)).symm
  · rw [dif_neg h3]
    exact (if_pos (show i0.val = 3 by omega)).symm

theorem z_eq : val_main_v17 (F := Ideal) x0 x1 x2 = zOf x0 x1 x2 := by
  funext i; idx_vars i
  unfold val_main_v17
  have hN := all_apply x0 x1 x2
  generalize val_main_v13 (F := Ideal) x0 x1 x2 = N at hN ⊢
  pointwise [hN]
  rfl

theorem conv_eq : val_main_v18 (F := Ideal) x0 x1 x2 = convOf x0 x1 x2 := by
  funext i; idx_vars i
  unfold val_main_v18
  have hN := all_apply x0 x1 x2
  generalize val_main_v13 (F := Ideal) x0 x1 x2 = N at hN ⊢
  pointwise [hN]
  rfl

theorem q1_eq : val_main_v14 (F := Ideal) x0 x1 x2 = kOf x0 x1 x2 0 (by omega) := by
  funext i; idx_vars i
  unfold val_main_v14
  have hN := all_apply x0 x1 x2
  generalize val_main_v13 (F := Ideal) x0 x1 x2 = N at hN ⊢
  pointwise [hN]
  exact congrArg (prj x0 x1 x2 _) (Fin.ext (show i1.val = 0 + i1.val by omega))

theorem q2_eq : val_main_v20 (F := Ideal) x0 x1 x2 = kOf x0 x1 x2 2312 (by omega) := by
  funext i; idx_vars i
  unfold val_main_v20
  have hN := all_apply x0 x1 x2
  generalize val_main_v13 (F := Ideal) x0 x1 x2 = N at hN ⊢
  pointwise [hN]
  rfl

theorem k_eq : val_main_v15 (F := Ideal) x0 x1 x2 = kOf x0 x1 x2 256 (by omega) := by
  funext i; idx_vars i
  unfold val_main_v15
  have hN := all_apply x0 x1 x2
  generalize val_main_v13 (F := Ideal) x0 x1 x2 = N at hN ⊢
  pointwise [hN]
  rfl

theorem v_eq : val_main_v16 (F := Ideal) x0 x1 x2 = kOf x0 x1 x2 512 (by omega) := by
  funext i; idx_vars i
  unfold val_main_v16
  have hN := all_apply x0 x1 x2
  generalize val_main_v13 (F := Ideal) x0 x1 x2 = N at hN ⊢
  pointwise [hN]
  rfl

theorem kv1_eq : val_main_v27 (F := Ideal) x0 x1 x2 p = pastOf x0 x1 x2 256 (by omega) p := by
  funext i; idx_vars i
  unfold val_main_v27 val_main_v26 val_main_v25 val_main_v24 val_main_v15
  have hN := all_apply x0 x1 x2
  generalize val_main_v13 (F := Ideal) x0 x1 x2 = N at hN ⊢
  pointwise [hN]
  obtain rfl : i1 = 0 := Subsingleton.elim _ _
  exact past_if x0 x1 x2 p _ _ _ _ _ _ _

theorem kv2_eq : val_main_v31 (F := Ideal) x0 x1 x2 p = pastOf x0 x1 x2 512 (by omega) p := by
  funext i; idx_vars i
  unfold val_main_v31 val_main_v30 val_main_v29 val_main_v28 val_main_v16
  have hN := all_apply x0 x1 x2
  generalize val_main_v13 (F := Ideal) x0 x1 x2 = N at hN ⊢
  pointwise [hN]
  obtain rfl : i1 = 0 := Subsingleton.elim _ _
  exact past_if x0 x1 x2 p _ _ _ _ _ _ _

theorem kv3_eq : val_main_v35 (F := Ideal) x0 x1 x2 p = pastOf x0 x1 x2 2568 (by omega) p := by
  funext i; idx_vars i
  unfold val_main_v35 val_main_v34 val_main_v33 val_main_v32 val_main_v21
  have hN := all_apply x0 x1 x2
  generalize val_main_v13 (F := Ideal) x0 x1 x2 = N at hN ⊢
  pointwise [hN]
  obtain rfl : i1 = 0 := Subsingleton.elim _ _
  exact past_if x0 x1 x2 p _ _ _ _ _ _ _

theorem kv4_eq : val_main_v39 (F := Ideal) x0 x1 x2 p = pastOf x0 x1 x2 2824 (by omega) p := by
  funext i; idx_vars i
  unfold val_main_v39 val_main_v38 val_main_v37 val_main_v36 val_main_v22
  have hN := all_apply x0 x1 x2
  generalize val_main_v13 (F := Ideal) x0 x1 x2 = N at hN ⊢
  pointwise [hN]
  obtain rfl : i1 = 0 := Subsingleton.elim _ _
  exact past_if x0 x1 x2 p _ _ _ _ _ _ _

theorem padded (y : Vec Ideal S128x8 .f32) (z : Vec Ideal S_ .f32) (hz : z (Shape.Idx.first h_S_) = 0) (i0 : Fin 128) (i1 : Fin 128) :
    pad S128x128 ![0, 0] ![0, 120] ![0, 0] y z pads_S128x8_S128x128_000_01200 h_S_ (ix2 i0 i1)
      = if h : i1.val < 8 then y (ix2 i0 ⟨i1, h⟩) else 0 := by
  pointwise
  exact dite_congr rfl (fun _ => rfl) fun _ => hz

theorem dt_eq : val_main_v23 (F := Ideal) x0 x1 x2 = dtOf x0 x1 x2 := by
  funext i; idx_vars i
  unfold val_main_v23 val_main_call0_v0 val_main_c val_main_v19
  have hN := all_apply x0 x1 x2
  generalize val_main_v13 (F := Ideal) x0 x1 x2 = N at hN ⊢
  refine (padded _ _ (Kernel5Ideal.Hand.const_apply _) i0 i1).trans (dite_congr rfl (fun h => ?_) fun _ => rfl)
  pointwise [hN]
  rfl

end
end Cert.Reference5Ideal.Hand

namespace Cert.Proof

open Cert.Kernel5Ideal.Hand

theorem algebraic5 : Cert.algebraic_Kernel5Ideal_Reference5Ideal := by
  intro m g m' g' _ hargs
  refine ⟨fun c => zOf (A0 m c) (A1 m c) (A2 m c),
    fun c => convOf (A0 m c) (A1 m c) (A2 m c),
    fun c => dtOf (A0 m c) (A1 m c) (A2 m c),
    fun c => pastOf (A0 m c) (A1 m c) (A2 m c) 256 (by omega) (m ((c : Thread Kernel5Ideal.nD Kernel5Ideal.τ).loc Kernel5Ideal.main_arg3)),
    fun c => pastOf (A0 m c) (A1 m c) (A2 m c) 512 (by omega) (m ((c : Thread Kernel5Ideal.nD Kernel5Ideal.τ).loc Kernel5Ideal.main_arg4)),
    fun c => pastOf (A0 m c) (A1 m c) (A2 m c) 2568 (by omega) (m ((c : Thread Kernel5Ideal.nD Kernel5Ideal.τ).loc Kernel5Ideal.main_arg5)),
    fun c => pastOf (A0 m c) (A1 m c) (A2 m c) 2824 (by omega) (m ((c : Thread Kernel5Ideal.nD Kernel5Ideal.τ).loc Kernel5Ideal.main_arg6)),
    fun c => kOf (A0 m c) (A1 m c) (A2 m c) 0 (by omega),
    fun c => kOf (A0 m c) (A1 m c) (A2 m c) 2312 (by omega),
    fun c => kOf (A0 m c) (A1 m c) (A2 m c) 256 (by omega),
    fun c => kOf (A0 m c) (A1 m c) (A2 m c) 512 (by omega), ?_, ?_⟩
  · refine (θ_run _ _ _).mono (fun r h c => ?_) (Kernel5Ideal.Value.run_blocks m g)
    obtain ⟨h4, h5, h6, h7, h8, h9, h10, h11, h12, h13, h14, hr⟩ := h c
    exact ⟨h4.trans (final4 m c), h5.trans (final5 m c), h6.trans (final6 m c), h7.trans (final7 m c), h8.trans (final8 m c), h9.trans (final9 m c), h10.trans (final10 m c), h11.trans (final11 m c), h12.trans (final12 m c), h13.trans (final13 m c), h14.trans (final14 m c), hr⟩
  · refine (θ_run _ _ _).mono (fun r h c => ?_) (Reference5Ideal.Value.run m' g')
    obtain ⟨h4, h5, h6, h7, h8, h9, h10, h11, h12, h13, h14, hr⟩ := h c
    obtain ⟨e0, e1, e2, e3, e4, e5, e6⟩ := hargs c
    refine ⟨h4.trans ?_, h5.trans ?_, h6.trans ?_, h7.trans ?_, h8.trans ?_, h9.trans ?_, h10.trans ?_, h11.trans ?_, h12.trans ?_, h13.trans ?_, h14.trans ?_, hr⟩
    · exact ((Reference5Ideal.Read.val_main_v17_eq _ _ _).trans (Reference5Ideal.Hand.z_eq _ _ _)).trans (by rw [e0, e1, e2])
    · exact ((Reference5Ideal.Read.val_main_v18_eq _ _ _).trans (Reference5Ideal.Hand.conv_eq _ _ _)).trans (by rw [e0, e1, e2])
    · exact ((Reference5Ideal.Read.val_main_v23_eq _ _ _).trans (Reference5Ideal.Hand.dt_eq _ _ _)).trans (by rw [e0, e1, e2])
    · exact ((Reference5Ideal.Read.val_main_v27_eq _ _ _ _).trans (Reference5Ideal.Hand.kv1_eq _ _ _ _)).trans (by rw [e0, e1, e2, e3])
    · exact ((Reference5Ideal.Read.val_main_v31_eq _ _ _ _).trans (Reference5Ideal.Hand.kv2_eq _ _ _ _)).trans (by rw [e0, e1, e2, e4])
    · exact ((Reference5Ideal.Read.val_main_v35_eq _ _ _ _).trans (Reference5Ideal.Hand.kv3_eq _ _ _ _)).trans (by rw [e0, e1, e2, e5])
    · exact ((Reference5Ideal.Read.val_main_v39_eq _ _ _ _).trans (Reference5Ideal.Hand.kv4_eq _ _ _ _)).trans (by rw [e0, e1, e2, e6])
    · exact ((Reference5Ideal.Read.val_main_v14_eq _ _ _).trans (Reference5Ideal.Hand.q1_eq _ _ _)).trans (by rw [e0, e1, e2])
    · exact ((Reference5Ideal.Read.val_main_v20_eq _ _ _).trans (Reference5Ideal.Hand.q2_eq _ _ _)).trans (by rw [e0, e1, e2])
    · exact ((Reference5Ideal.Read.val_main_v15_eq _ _ _).trans (Reference5Ideal.Hand.k_eq _ _ _)).trans (by rw [e0, e1, e2])
    · exact ((Reference5Ideal.Read.val_main_v16_eq _ _ _).trans (Reference5Ideal.Hand.v_eq _ _ _)).trans (by rw [e0, e1, e2])

end Cert.Proof
end
-- ==== Proof.Ffn6.lean ====
/-
  THE FEED-FORWARD BLOCK AFTER THE MIXERS, for the 128 new rows of the samples: one grid point, the same body as the prompt's
  (`Ffn3.lean`) at 128 rows. The result's rows are the normalized `FfnRow.half` of the mixed rows on both sides.
-/
module

public import proofs.«01_k».proof.Defs
public import proofs.«01_k».proof.Proof.Gen.Kernel6Ideal.Value
public import proofs.«01_k».proof.Proof.Gen.Reference6Ideal.Read
public import proofs.«01_k».proof.Proof.FfnRow
public import Idealize.ShloMosaic.Lib.Pointwise
public import Idealize.ShloMosaic.Lib.ValueIdx
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen

/-- The row function at the nine argument arrays: row `r` of the result, entry `d`. -/
def row (a0 : S128x1024.Idx → EReal) (a1 : S128x256.Idx → EReal) (a2 : S128x512.Idx → EReal) (a3 : S128x256.Idx → EReal)
    (a4 : S1024x1024.Idx → EReal) (a5 : S1024.Idx → EReal) (a6 : S1024x5632.Idx → EReal) (a7 : S2816x1024.Idx → EReal)
    (a8 : S1024.Idx → EReal) (r : Fin 128) (d : Fin 1024) : EReal :=
  FfnRow.nrm (FfnRow.half
      (FfnRow.mixed (fun k => a0 (ix2 r k)) (fun k => a1 (ix2 r k)) (fun k => a2 (ix2 r k)) (fun k => a3 (ix2 r k)) (fun j k => a4 (ix2 j k)))
      (fun k => a5 (ix1 k)) (fun k j => a6 (ix2 k ⟨j, by omega⟩)) (fun k j => a6 (ix2 k ⟨2816 + j, by omega⟩)) (fun j d => a7 (ix2 j d)))
    (fun k => a8 (ix1 k)) d

theorem hz : (![0, 0] : Fin 2 → Nat) = fun _ => 0 := funext fun a => by fin_cases a <;> rfl

/-- The row the kernel normalizes, of any blocks. -/
theorem mixed_apply (x0 : Vec Ideal S128x1024 .f32) (x5 x7 : Vec Ideal S128x256 .f32) (x6 : Vec Ideal S128x512 .f32)
    (x8 : Vec Ideal S1024x1024 .bf16) (r : Fin 128) (k : Fin 1024) :
    k0_pay2 (View.ld x0 r0_0) (View.ld x5 r0_1) (View.ld x8 r0_2) (View.ld x6 r0_3) (View.ld x8 r0_4) (View.ld x7 r0_1) (View.ld x8 r0_5) (ix2 r k)
      = FfnRow.mixed (fun k => x0 (ix2 r k)) (fun k => x5 (ix2 r k)) (fun k => x6 (ix2 r k)) (fun k => x7 (ix2 r k)) (fun j k => x8 (ix2 j k)) k := by
  unfold k0_pay2
  pointwise [dot_S128x256_S256x1024_S128x1024_1_0_0_1_n_n, dot_S128x512_S512x1024_S128x1024_1_0_0_1_n_n]
  unfold FfnRow.mixed
  rw [← add_assoc, ← add_assoc]

set_option maxHeartbeats 2000000 in
/-- What the body stores, at an index, of any ten blocks. -/
theorem out_apply (x0 : Vec Ideal S128x1024 .f32) (x1 : Vec Ideal S1x1024 .f32) (x2 x3 : Vec Ideal S1024x2816 .bf16)
    (x4 : Vec Ideal S2816x1024 .bf16) (x5 : Vec Ideal S128x256 .f32) (x6 : Vec Ideal S128x512 .f32) (x7 : Vec Ideal S128x256 .f32)
    (x8 : Vec Ideal S1024x1024 .bf16) (x9 : Vec Ideal S1x1024 .f32) (r : Fin 128) (d : Fin 1024) :
    out0_10 x0 x1 x2 x3 x4 x5 x6 x7 x8 x9 (ix2 r d)
      = FfnRow.nrm (FfnRow.half
          (FfnRow.mixed (fun k => x0 (ix2 r k)) (fun k => x5 (ix2 r k)) (fun k => x6 (ix2 r k)) (fun k => x7 (ix2 r k)) (fun j k => x8 (ix2 j k)))
          (fun k => x1 (ix2 0 k)) (fun k j => x2 (ix2 k j)) (fun k j => x3 (ix2 k j)) (fun j d => x4 (ix2 j d)))
        (fun k => x9 (ix2 0 k)) d := by
  unfold out0_10
  rw [View.canon_unit_zero hz]
  have hX := mixed_apply x0 x5 x7 x6 x8 r
  have hN : ∀ k, k0_pay15 x0 x1 x2 x3 x4 x5 x6 x7 x8 x9 (ix2 r k)
      = FfnRow.nrm (FfnRow.mixed (fun k => x0 (ix2 r k)) (fun k => x5 (ix2 r k)) (fun k => x6 (ix2 r k)) (fun k => x7 (ix2 r k)) (fun j k => x8 (ix2 j k)))
          (fun k => x1 (ix2 0 k)) k := by
    intro k
    unfold k0_pay15 k0_pay3
    pointwise [hX]
    rfl
  generalize k0_pay15 x0 x1 x2 x3 x4 x5 x6 x7 x8 x9 = N at hN ⊢
  generalize k0_pay2 (View.ld x0 r0_0) (View.ld x5 r0_1) (View.ld x8 r0_2) (View.ld x6 r0_3) (View.ld x8 r0_4) (View.ld x7 r0_1) (View.ld x8 r0_5) = X at hX ⊢
  unfold_payloads
  pointwise [dot_S128x1024_S1024x256_S128x256_1_0_0_1_n_n, dot_S128x256_S256x1024_S128x1024_1_0_0_1_n_n, hX, hN]
  generalize FfnRow.mixed _ _ _ _ _ = x
  have hh : ∀ g wg wu wd d, FfnRow.half x g wg wu wd d = _ := fun g wg wu wd d => by unfold FfnRow.half; rw [FfnRow.sum_runs]
  unfold FfnRow.nrm
  simp only [hh]
  rfl

variable (m : (ℓ : Loc nD τ sig) → Buf (Elt Ideal) ℓ)

/-! ### The staged arrays -/

section staged
variable (c : Dev nD)

theorem V_v4 : V m c main_v4 = (shapeCast S1x1024 (m ((c : Thread nD τ).loc main_arg5)) shapeCasts_S1024_S1x1024 : S1x1024.Idx → EReal) := by
  simp only [V, hostOps0, List.flatten_cons, List.flatten_nil, List.append_nil, List.cons_append, List.nil_append]
  after_results_simp <;> rfl

theorem V_v6 : V m c main_v6 = (shapeCast S1x1024 (m ((c : Thread nD τ).loc main_arg8)) shapeCasts_S1024_S1x1024 : S1x1024.Idx → EReal) := by
  simp only [V, hostOps0, List.flatten_cons, List.flatten_nil, List.append_nil, List.cons_append, List.nil_append]
  after_results_simp <;> rfl

theorem V_v1 : V m c main_v1 = (extractStridedSlice S1024x2816 ![0, 0] (m ((c : Thread nD τ).loc main_arg6)) slices_S1024x5632_S1024x2816_0_0 : S1024x2816.Idx → EReal) := by
  simp only [V, hostOps0, List.flatten_cons, List.flatten_nil, List.append_nil, List.cons_append, List.nil_append]
  after_results_simp <;> rfl

theorem V_v3 : V m c main_v3 = (extractStridedSlice S1024x2816 ![0, 2816] (m ((c : Thread nD τ).loc main_arg6)) slices_S1024x5632_S1024x2816_0_2816 : S1024x2816.Idx → EReal) := by
  simp only [V, hostOps0, List.flatten_cons, List.flatten_nil, List.append_nil, List.cons_append, List.nil_append]
  after_results_simp <;> rfl

theorem V_v5 : V m c main_v5 = (m ((c : Thread nD τ).loc main_arg7) : S2816x1024.Idx → EReal) := by
  simp only [V, hostOps0, List.flatten_cons, List.flatten_nil, List.append_nil, List.cons_append, List.nil_append]
  after_results_simp <;> rfl

theorem V_v7 : V m c main_v7 = (m ((c : Thread nD τ).loc main_arg4) : S1024x1024.Idx → EReal) := by
  simp only [V, hostOps0, List.flatten_cons, List.flatten_nil, List.append_nil, List.cons_append, List.nil_append]
  after_results_simp <;> rfl

end staged

/-- Every window's block is its whole array: the grid is one point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0])

/-- What the result array is shown to hold. -/
abbrev G (c : Dev nD) : S128x1024.Idx → EReal := fun i =>
  row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1)

set_option maxHeartbeats 2000000 in
/-- The result array after the run. -/
theorem final (c : Dev nD) : (dats m 0 c).arrAt 10 (cfgs 0).N = G m c := by
  refine (dats m 0 c).arrAt_eq_of_covers 10 _ (by decide +kernel) fun t _ y => ?_
  blk_simp
  rw [after0_10]
  idx_vars y
  refine (out_apply _ _ _ _ _ _ _ _ _ _ y0 y1).trans ?_
  have e0 : ((((View.whole main_v8).slice (win0_10.rect t)).emb (ix2 y0 y1)) 0) = y0 := Fin.ext (by blk_simp [idx t])
  have e1 : ((((View.whole main_v8).slice (win0_10.rect t)).emb (ix2 y0 y1)) 1) = y1 := Fin.ext (by blk_simp [idx t])
  show _ = row _ _ _ _ _ _ _ _ _ (((View.whole main_v8).slice (win0_10.rect t)).emb (ix2 y0 y1) 0) (((View.whole main_v8).slice (win0_10.rect t)).emb (ix2 y0 y1) 1)
  rw [e0, e1]
  have b0 : ∀ r k, (iblk m c 0 t : S128x1024.Idx → EReal) (ix2 r k) = V m c main_arg0 (ix2 r k) := fun r k => by blk_ext [iblk, idx t]
  have b1 : ∀ k, (iblk m c 1 t : S1x1024.Idx → EReal) (ix2 0 k) = V m c main_v4 (ix2 0 k) := fun k => by blk_ext [iblk, idx t]
  have b2 : ∀ k j, (iblk m c 2 t : S1024x2816.Idx → EReal) (ix2 k j) = V m c main_v1 (ix2 k j) := fun k j => by blk_ext [iblk, idx t]
  have b3 : ∀ k j, (iblk m c 3 t : S1024x2816.Idx → EReal) (ix2 k j) = V m c main_v3 (ix2 k j) := fun k j => by blk_ext [iblk, idx t]
  have b4 : ∀ j d, (iblk m c 4 t : S2816x1024.Idx → EReal) (ix2 j d) = V m c main_v5 (ix2 j d) := fun j d => by blk_ext [iblk, idx t]
  have b5 : ∀ r k, (iblk m c 5 t : S128x256.Idx → EReal) (ix2 r k) = V m c main_arg1 (ix2 r k) := fun r k => by blk_ext [iblk, idx t]
  have b6 : ∀ r k, (iblk m c 6 t : S128x512.Idx → EReal) (ix2 r k) = V m c main_arg2 (ix2 r k) := fun r k => by blk_ext [iblk, idx t]
  have b7 : ∀ r k, (iblk m c 7 t : S128x256.Idx → EReal) (ix2 r k) = V m c main_arg3 (ix2 r k) := fun r k => by blk_ext [iblk, idx t]
  have b8 : ∀ j k, (iblk m c 8 t : S1024x1024.Idx → EReal) (ix2 j k) = V m c main_v7 (ix2 j k) := fun j k => by blk_ext [iblk, idx t]
  have b9 : ∀ k, (iblk m c 9 t : S1x1024.Idx → EReal) (ix2 0 k) = V m c main_v6 (ix2 0 k) := fun k => by blk_ext [iblk, idx t]
  exact FfnRow.nrm_congr (fun d => FfnRow.half_congr
      (fun k => FfnRow.mixed_congr (fun k => (b0 y0 k).trans (congrFun (V_main_arg0 m c) _))
        (fun k => (b5 y0 k).trans (congrFun (V_main_arg1 m c) _)) (fun k => (b6 y0 k).trans (congrFun (V_main_arg2 m c) _))
        (fun k => (b7 y0 k).trans (congrFun (V_main_arg3 m c) _)) (fun j k => (b8 j k).trans (congrFun (V_v7 m c) _)) k)
      (fun k => (b1 k).trans ((congrFun (V_v4 m c) _).trans (by pointwise)))
      (fun k j => (b2 k j).trans ((congrFun (V_v1 m c) _).trans (by pointwise)))
      (fun k j => (b3 k j).trans ((congrFun (V_v3 m c) _).trans (by pointwise)))
      (fun j d => (b4 j d).trans (congrFun (V_v5 m c) _)) d)
    (fun k => (b9 k).trans ((congrFun (V_v6 m c) _).trans (by pointwise))) y1

end Cert.Kernel6Ideal.Hand

namespace Cert.Reference6Ideal.Hand

open Cert.Reference6Ideal Cert.Reference6Ideal.Gen Cert.Reference6Ideal.Read

variable (x0 : Vec Ideal S128x1024 .f32) (x1 : Vec Ideal S128x256 .f32) (x2 : Vec Ideal S128x512 .f32) (x3 : Vec Ideal S128x256 .f32)
  (x4 : Vec Ideal S1024x1024 .f32) (x5 : Vec Ideal S1024 .f32) (x6 : Vec Ideal S1024x5632 .f32) (x7 : Vec Ideal S2816x1024 .f32)
  (x8 : Vec Ideal S1024 .f32)

/-- The mixed row `p`, entry `k`. -/
abbrev mix (p : Fin 128) (k : Fin 1024) : EReal :=
  FfnRow.mixed (fun k => x0 (ix2 p k)) (fun k => x1 (ix2 p k)) (fun k => x2 (ix2 p k)) (fun k => x3 (ix2 p k)) (fun j k => x4 (ix2 j k)) k

/-- The same row before the last normalization. -/
abbrev hlf (p : Fin 128) (d : Fin 1024) : EReal :=
  FfnRow.half (mix x0 x1 x2 x3 x4 p) (fun k => x5 (ix1 k)) (fun k j => x6 (ix2 k ⟨j, by omega⟩)) (fun k j => x6 (ix2 k ⟨2816 + j, by omega⟩))
    (fun j d => x7 (ix2 j d)) d

theorem mix_apply (p : Fin 128) (k : Fin 1024) :
    val_main_v2 (F := Ideal) x0 x1 x2 x3 x4 (ix2 p k) = mix x0 x1 x2 x3 x4 p k := by
  unfold val_main_v2 val_main_v1 val_main_v0
  pointwise [dot_S128x1024_S1024x1024_S128x1024_1_0_0_1_n_n]
  exact congrArg (x0 (ix2 p k) + ·) (FfnRow.sum_join (fun k => x1 (ix2 p k)) (fun k => x2 (ix2 p k)) (fun k => x3 (ix2 p k)) (fun j => x4 (ix2 j k)))

theorem nrm_apply (p : Fin 128) (k : Fin 1024) :
    val_main_v15 (F := Ideal) x0 x1 x2 x3 x4 x5 (ix2 p k) = FfnRow.nrm (mix x0 x1 x2 x3 x4 p) (fun k => x5 (ix1 k)) k := by
  have h := mix_apply x0 x1 x2 x3 x4 p
  unfold val_main_v15 val_main_v14 val_main_v13 val_main_v12 val_main_v11 val_main_v10 val_main_v9 val_main_v8 val_main_v7
    val_main_v6 val_main_v5 val_main_v4 val_main_v3 val_main_cst val_main_cst_0 val_main_cst_1
  generalize val_main_v2 (F := Ideal) x0 x1 x2 x3 x4 = y at h ⊢
  pointwise [h]
  rfl

theorem hlf_apply (p : Fin 128) (d : Fin 1024) :
    val_main_v24 (F := Ideal) x0 x1 x2 x3 x4 x5 x6 x7 (ix2 p d) = hlf x0 x1 x2 x3 x4 x5 x6 x7 p d := by
  have h := mix_apply x0 x1 x2 x3 x4 p
  have hn := nrm_apply x0 x1 x2 x3 x4 x5 p
  unfold val_main_v24 val_main_v23 val_main_v22 val_main_v21 val_main_v20 val_main_v19 val_main_call0_v5 val_main_call0_v4 val_main_call0_v3
    val_main_call0_v2 val_main_call0_v1 val_main_call0_v0 val_main_v18 val_main_v17 val_main_v16 val_main_call0_cst val_main_call0_cst_0
    val_main_cst_2
  generalize val_main_v2 (F := Ideal) x0 x1 x2 x3 x4 = y at h ⊢
  generalize val_main_v15 (F := Ideal) x0 x1 x2 x3 x4 x5 = n at hn ⊢
  pointwise [h, hn, dot_S128x1024_S1024x5632_S128x5632_1_0_0_1_n_n, dot_S128x2816_S2816x1024_S128x1024_1_0_0_1_n_n]
  rfl

/-- The reference's result at an index. -/
theorem ref_apply (r : Fin 128) (d : Fin 1024) :
    val_main_v37 (F := Ideal) x0 x1 x2 x3 x4 x5 x6 x7 x8 (ix2 r d) = Kernel6Ideal.Hand.row x0 x1 x2 x3 x4 x5 x6 x7 x8 r d := by
  have h := hlf_apply x0 x1 x2 x3 x4 x5 x6 x7 r
  unfold val_main_v37 val_main_v36 val_main_v35 val_main_v34 val_main_v33 val_main_v32 val_main_v31 val_main_v30
    val_main_v29 val_main_v28 val_main_v27 val_main_v26 val_main_v25 val_main_cst_3 val_main_cst_4 val_main_cst_5
  generalize val_main_v24 (F := Ideal) x0 x1 x2 x3 x4 x5 x6 x7 = y at h ⊢
  pointwise [h]
  rfl

end Cert.Reference6Ideal.Hand

namespace Cert.Proof

/-- From memories that agree on the nine arguments, the pipelined kernel and the reference end with equal results. -/
theorem algebraic6 : Cert.algebraic_Kernel6Ideal_Reference6Ideal := by
  intro m g m' g' _ hargs
  refine ⟨fun c => Kernel6Ideal.Hand.G m c, ?_, ?_⟩
  · refine (θ_run _ _ _).mono (fun r h c => ?_) (Kernel6Ideal.Value.run_blocks m g)
    exact ⟨(h c).1.trans (Kernel6Ideal.Hand.final m c), (h c).2⟩
  · refine (θ_run _ _ _).mono (fun r h c => ⟨(h c).1.trans ?_, (h c).2⟩) (Reference6Ideal.Value.run m' g')
    obtain ⟨e0, e1, e2, e3, e4, e5, e6, e7, e8⟩ := hargs c
    rw [Reference6Ideal.Read.val_main_v37_eq, e0, e1, e2, e3, e4, e5, e6, e7, e8]
    funext i
    idx_vars i
    exact Reference6Ideal.Hand.ref_apply _ _ _ _ _ _ _ _ _ i0 i1

end Cert.Proof
end
-- ==== Proof.lean ====
/-
  The claims, assembled: the pipelined calls (`Kernel2`, the feed-forward block before the sequence mixing; `Kernel3`, the
  one after it; `Kernel4`, the input projection; `Kernel5`, the input projection of the samples' new rows; `Kernel6`, the
  feed-forward block after the mixing of the samples' new rows; `Kernel7`, one step of the samples' state-space recurrence;
  `Kernel8`, that recurrence over a prompt) run and keep their arguments, and compute what their plain references compute on the extended reals (`Proof/Ffn2.lean`,
  `Proof/Ffn3.lean`, `Proof/Proj4.lean`, `Proof/Proj5.lean`, `Proof/Ffn6.lean`, `Proof/Step7Eq.lean`, `Proof/Eq8.lean`).
-/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Step7Eq
public import proofs.«01_k».proof.Proof.Gen.Kernel8.Frame
public import proofs.«01_k».proof.Proof.Eq8
public import proofs.«01_k».proof.Proof.Ffn2
public import proofs.«01_k».proof.Proof.Ffn3
public import proofs.«01_k».proof.Proof.Proj4
public import proofs.«01_k».proof.Proof.Proj5
public import proofs.«01_k».proof.Proof.Ffn6

@[expose] public section

noncomputable section

open Idealize.ShloMosaic Idealize.SL.Sem

namespace Cert.Proof

/-- The references run and keep their arguments; a host program declares no semaphore. -/
theorem frame_r2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono
    (fun r h => ⟨fun c => (h c).2.2.2.2.2.2.2.2.2.2.2.2.2, sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono
    (fun r h => ⟨fun c => (h c).2.2.2.2.2.2.2.2.2.2.2, sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_finite_step.Gen.facts, Cert.Pre_finite_prompt.Gen.facts,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, fun m ρ _ => Cert.Kernel7Ideal.Gen.frame m ρ,
    frame_r7, fun m ρ _ => frame_r7 m ρ trivial,
    fun m ρ _ => Cert.Kernel8.Gen.frame m ρ, fun m ρ _ => Cert.Kernel8Ideal.Gen.frame m ρ, fun m ρ _ => Cert.Kernel8Ideal.Gen.frame m ρ,
    frame_r8, fun m ρ _ => frame_r8 m ρ trivial,
    trivial, algebraic2, trivial, algebraic3, trivial, algebraic4, trivial, algebraic5, trivial, algebraic6,
    trivial, algebraic7, trivial, algebraic8⟩

end Cert.Proof

end
